-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones_row [hPre_finite_and_ones_row : Cert.Pre_finite_and_ones_row.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones_row [hPre_finite_and_ones_row : Cert.Pre_finite_and_ones_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ones_row [hKernelIdeal : Cert.KernelIdeal.Facts] [hPre_finite_and_ones_row : Cert.Pre_finite_and_ones_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ones_row [hReferenceIdeal : Cert.ReferenceIdeal.Facts] [hPre_finite_and_ones_row : Cert.Pre_finite_and_ones_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_ones_row [hKernelIdeal : Cert.KernelIdeal.Facts] [hReferenceIdeal : Cert.ReferenceIdeal.Facts] [hPre_finite_and_ones_row : Cert.Pre_finite_and_ones_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v74_0)) (v1 : (c : Dev Cert.Kernel3Ideal.nD) → Buf (Elt Ideal) ((c.tc : Thread Cert.Kernel3Ideal.nD Cert.Kernel3Ideal.τ).loc Cert.Kernel3Ideal.main_v74_1)) (v2 : (c : Dev Cert.Kernel3Ideal.nD) → Buf (Elt Ideal) ((c.tc : Thread Cert.Kernel3Ideal.nD Cert.Kernel3Ideal.τ).loc Cert.Kernel3Ideal.main_v74_2)) (v3 : (c : Dev Cert.Kernel3Ideal.nD) → Buf (Elt Ideal) ((c.tc : Thread Cert.Kernel3Ideal.nD Cert.Kernel3Ideal.τ).loc Cert.Kernel3Ideal.main_v74_5)) (v4 : (c : Dev Cert.Kernel3Ideal.nD) → Buf (Elt Ideal) ((c.tc : Thread Cert.Kernel3Ideal.nD Cert.Kernel3Ideal.τ).loc Cert.Kernel3Ideal.main_v74_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v74_0) = v0 c
          ∧ r.2.mem ((c.tc : Thread Cert.Kernel3Ideal.nD Cert.Kernel3Ideal.τ).loc Cert.Kernel3Ideal.main_v74_1) = v1 c
          ∧ r.2.mem ((c.tc : Thread Cert.Kernel3Ideal.nD Cert.Kernel3Ideal.τ).loc Cert.Kernel3Ideal.main_v74_2) = v2 c
          ∧ r.2.mem ((c.tc : Thread Cert.Kernel3Ideal.nD Cert.Kernel3Ideal.τ).loc Cert.Kernel3Ideal.main_v74_5) = v3 c
          ∧ r.2.mem ((c.tc : Thread Cert.Kernel3Ideal.nD Cert.Kernel3Ideal.τ).loc Cert.Kernel3Ideal.main_v74_6) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v83) = v3 c
          ∧ r.2.mem ((c.tc : Thread Cert.Reference3Ideal.nD Cert.Reference3Ideal.τ).loc Cert.Reference3Ideal.main_v84) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_and_ones_row : Cert.Pre_finite_and_ones_row.Facts),
    quiescent_Kernel (hKernel := hKernel)
    ∧ quiescent_KernelIdeal (hKernelIdeal := hKernelIdeal)
    ∧ quiescent_KernelIdeal_pre_finite_and_ones_row (hKernelIdeal := hKernelIdeal) (hPre_finite_and_ones_row := hPre_finite_and_ones_row)
    ∧ quiescent_ReferenceIdeal (hReferenceIdeal := hReferenceIdeal)
    ∧ quiescent_ReferenceIdeal_pre_finite_and_ones_row (hReferenceIdeal := hReferenceIdeal) (hPre_finite_and_ones_row := hPre_finite_and_ones_row)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_and_ones_row (hKernelIdeal := hKernelIdeal) (hReferenceIdeal := hReferenceIdeal) (hPre_finite_and_ones_row := hPre_finite_and_ones_row)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_and_ones_row.lean ====
abbrev S65536x512 : Shape := ⟨2, ![65536, 512]⟩
abbrev S8x4x16x80x512 : Shape := ⟨5, ![8, 4, 16, 80, 512]⟩
abbrev S_ : Shape := ⟨0, ![]⟩
abbrev S8x4x16x1x512 : Shape := ⟨5, ![8, 4, 16, 1, 512]⟩
abbrev S8x4x16x512 : Shape := ⟨4, ![8, 4, 16, 512]⟩

class Facts : Prop where
  bitsLt_bf16_f32 : FTy.bits .bf16 < FTy.bits .f32
  bcast_S_S65536x512 : S_.BroadcastsInDim S65536x512 (![] : Fin 0 → Fin S65536x512.rank)
  reducesTo_S65536x512_S_d0_1 : S65536x512.ReducesTo [0, 1] S_
  h_S_ : 0 < S_.numel
  slices_S8x4x16x80x512_S8x4x16x1x512_0_0_0_64_0 : S8x4x16x80x512.Slices ![0, 0, 0, 64, 0] S8x4x16x1x512
  shapeCasts_S8x4x16x1x512_S8x4x16x512 : S8x4x16x1x512.ShapeCasts S8x4x16x512
  bcast_S_S8x4x16x512 : S_.BroadcastsInDim S8x4x16x512 (![] : Fin 0 → Fin S8x4x16x512.rank)
  reducesTo_S8x4x16x512_S_d0_1_2_3 : S8x4x16x512.ReducesTo [0, 1, 2, 3] S_

variable [Facts]

def fn {F : FTy → Type} [FloatOps F] (main_arg0 : FVec F S65536x512 .bf16) (main_arg1 : FVec F S65536x512 .bf16) (main_arg2 : FVec F S8x4x16x80x512 .bf16) : IVec S_ 1 :=
  let main_v0 : FVec F S65536x512 .f32 := (extf .f32 · bitsLt_bf16_f32) main_arg0
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_c : IVec S_ 1 := constantI S_ 1 1#1
  let main_v4 : IVec S_ 1 := (fun x v => Host.reduce IntOp.andi x v reducesTo_S65536x512_S_d0_1 h_S_) main_v3 main_c
  let main_v5 : FVec F S65536x512 .f32 := (extf .f32 · bitsLt_bf16_f32) main_arg1
  let main_v6 : FVec F S65536x512 .f32 := Host.absf main_v5
  let main_cst_0 : FVec F S_ .f32 := constant S_ .f32 0x7F800000#32
  let main_v7 : FVec F S65536x512 .f32 := broadcastInDim S65536x512 ![] bcast_S_S65536x512 main_cst_0
  let main_v8 : IVec S65536x512 1 := cmpf .olt main_v6 main_v7
  let main_c_1 : IVec S_ 1 := constantI S_ 1 1#1
  let main_v9 : IVec S_ 1 := (fun x v => Host.reduce IntOp.andi x v reducesTo_S65536x512_S_d0_1 h_S_) main_v8 main_c_1
  let main_v10 : IVec S_ 1 := andi main_v4 main_v9
  let main_v11 : FVec F S8x4x16x1x512 .bf16 := (extractStridedSlice S8x4x16x1x512 ![0, 0, 0, 64, 0] · slices_S8x4x16x80x512_S8x4x16x1x512_0_0_0_64_0) main_arg2
  let main_v12 : FVec F S8x4x16x512 .bf16 := shapeCast S8x4x16x512 main_v11 shapeCasts_S8x4x16x1x512_S8x4x16x512
  let main_v13 : FVec F S8x4x16x512 .f32 := (extf .f32 · bitsLt_bf16_f32) main_v12
  let main_cst_2 : FVec F S_ .f32 := constant S_ .f32 0x3F800000#32
  let main_v14 : FVec F S8x4x16x512 .f32 := broadcastInDim S8x4x16x512 ![] bcast_S_S8x4x16x512 main_cst_2
  let main_v15 : IVec S8x4x16x512 1 := cmpf .oeq main_v13 main_v14
  let main_c_3 : IVec S_ 1 := constantI S_ 1 1#1
  let main_v16 : IVec S_ 1 := (fun x v => Host.reduce IntOp.andi x v reducesTo_S8x4x16x512_S_d0_1_2_3 h_S_) main_v15 main_c_3
  let main_v17 : IVec S_ 1 := andi main_v10 main_v16
  main_v17
-- ==== Kernel.lean ====
abbrev S65536x512 : Shape := ⟨2, ![65536, 512]⟩
abbrev S8x4x16x80x512 : Shape := ⟨5, ![8, 4, 16, 80, 512]⟩
abbrev S8x8192x512 : Shape := ⟨3, ![8, 8192, 512]⟩
abbrev S8x8192x256 : Shape := ⟨3, ![8, 8192, 256]⟩
abbrev S1x512x512 : Shape := ⟨3, ![1, 512, 512]⟩
abbrev S1x8192x512 : Shape := ⟨3, ![1, 8192, 512]⟩
abbrev S1x4x16x80x512 : Shape := ⟨5, ![1, 4, 16, 80, 512]⟩
abbrev S1x512x256 : Shape := ⟨3, ![1, 512, 256]⟩
abbrev S4x1x512 : Shape := ⟨3, ![4, 1, 512]⟩
abbrev S4x80x512 : Shape := ⟨3, ![4, 80, 512]⟩
abbrev S4x512x512 : Shape := ⟨3, ![4, 512, 512]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S1x512 : Shape := ⟨2, ![1, 512]⟩
abbrev S1x1x512 : Shape := ⟨3, ![1, 1, 512]⟩
abbrev S1x80x512 : Shape := ⟨3, ![1, 80, 512]⟩
abbrev S80x512 : Shape := ⟨2, ![80, 512]⟩
abbrev S1x1x1x80x512 : Shape := ⟨5, ![1, 1, 1, 80, 512]⟩
abbrev S64x512 : Shape := ⟨2, ![64, 512]⟩
abbrev S256x512 : Shape := ⟨2, ![256, 512]⟩
abbrev S512x256 : Shape := ⟨2, ![512, 256]⟩

abbrev nBuf : Space → Nat
  | .hbm => 6
  | .vmem => 14
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S8x4x16x80x512, .bf16⟩
  | .hbm, ⟨3, _⟩ => ⟨S8x8192x512, .bf16⟩
  | .hbm, ⟨4, _⟩ => ⟨S8x8192x512, .bf16⟩
  | .hbm, ⟨5, _⟩ => ⟨S8x8192x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x4x16x80x512, .bf16⟩
  | .local _ .vmem, ⟨5, _⟩ => ⟨S1x4x16x80x512, .bf16⟩
  | .local _ .vmem, ⟨6, _⟩ => ⟨S1x512x256, .bf16⟩
  | .local _ .vmem, ⟨7, _⟩ => ⟨S1x512x256, .bf16⟩
  | .local _ .vmem, ⟨8, _⟩ => ⟨S4x1x512, .f32⟩
  | .local _ .vmem, ⟨9, _⟩ => ⟨S4x80x512, .f32⟩
  | .local _ .vmem, ⟨10, _⟩ => ⟨S4x512x512, .f32⟩
  | .local _ .vmem, ⟨11, _⟩ => ⟨S4x512x512, .f32⟩
  | .local _ .vmem, ⟨12, _⟩ => ⟨S4x1x512, .f32⟩
  | .local _ .vmem, ⟨13, _⟩ => ⟨S4x1x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  c0_i32
@[reducible] def k0_t1_loop (i : grid0.Coords) : Scf.Loop 32 :=
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_60 : BitVec 32 := 1#32
  ⟨c0_i32_58, v86, c1_i32_60⟩
def k0_mult2 (i : grid0.Coords) (k0_t1 : Fin (k0_t1_loop i).trips) : BitVec 32 :=
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let c1_i32_94 : BitVec 32 := 1#32
  let v144 : BitVec 32 := Scalar.addi v143 c1_i32_94
  let c512_i32 : BitVec 32 := 512#32
  let v145 : BitVec 32 := Scalar.muli v144 c512_i32
  v145
def k0_off1 (i : grid0.Coords) (k0_t1 : Fin (k0_t1_loop i).trips) (c1_i32_94 : BitVec 32) : Fin 3 → Nat :=
  let c0_95 : Index := 0#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let v144 : BitVec 32 := Scalar.addi v143 c1_i32_94
  let c512_i32 : BitVec 32 := 512#32
  let v145 : BitVec 32 := Scalar.muli v144 c512_i32
  let v146 : BitVec 32 := v145
  let v147 : Index := Scalar.indexCast v146
  let c0_96 : Index := 0#32
  ![0, v147.toNat, 0]
def k0_off2 (i : grid0.Coords) (k0_t1 : Fin (k0_t1_loop i).trips) (c1_i32_94 : BitVec 32) : Fin 3 → Nat :=
  let c0_105 : Index := 0#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let v144 : BitVec 32 := Scalar.addi v143 c1_i32_94
  let c512_i32 : BitVec 32 := 512#32
  let v145 : BitVec 32 := Scalar.muli v144 c512_i32
  let v146 : BitVec 32 := v145
  let v159 : Index := Scalar.indexCast v146
  let c128_106 : Index := 128#32
  ![0, v159.toNat, 128]
def k0_off3 (i : grid0.Coords) (k0_t1 : Fin (k0_t1_loop i).trips) (c1_i32_94 : BitVec 32) : Fin 3 → Nat :=
  let c0_115 : Index := 0#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let v144 : BitVec 32 := Scalar.addi v143 c1_i32_94
  let c512_i32 : BitVec 32 := 512#32
  let v145 : BitVec 32 := Scalar.muli v144 c512_i32
  let v146 : BitVec 32 := v145
  let v171 : Index := Scalar.indexCast v146
  let c256_116 : Index := 256#32
  ![0, v171.toNat, 256]
def k0_off4 (i : grid0.Coords) (k0_t1 : Fin (k0_t1_loop i).trips) (c1_i32_94 : BitVec 32) : Fin 3 → Nat :=
  let c0_125 : Index := 0#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let v144 : BitVec 32 := Scalar.addi v143 c1_i32_94
  let c512_i32 : BitVec 32 := 512#32
  let v145 : BitVec 32 := Scalar.muli v144 c512_i32
  let v146 : BitVec 32 := v145
  let v183 : Index := Scalar.indexCast v146
  let c384_126 : Index := 384#32
  ![0, v183.toNat, 384]
def k0_off5 (i : grid0.Coords) (k0_t1 : Fin (k0_t1_loop i).trips) : Fin 5 → Nat :=
  let c0_174 : Index := 0#32
  let c0_175 : Index := 0#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let v251 : Index := Scalar.indexCast v143
  let c0_176 : Index := 0#32
  let c0_177 : Index := 0#32
  ![0, 0, v251.toNat, 0, 0]
def k0_off6 (i : grid0.Coords) (k0_t1 : Fin (k0_t1_loop i).trips) : Fin 5 → Nat :=
  let c0_188 : Index := 0#32
  let c1_189 : Index := 1#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let v266 : Index := Scalar.indexCast v143
  let c0_190 : Index := 0#32
  let c0_191 : Index := 0#32
  ![0, 1, v266.toNat, 0, 0]
def k0_off7 (i : grid0.Coords) (k0_t1 : Fin (k0_t1_loop i).trips) : Fin 5 → Nat :=
  let c0_202 : Index := 0#32
  let c2_203 : Index := 2#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let v281 : Index := Scalar.indexCast v143
  let c0_204 : Index := 0#32
  let c0_205 : Index := 0#32
  ![0, 2, v281.toNat, 0, 0]
def k0_off8 (i : grid0.Coords) (k0_t1 : Fin (k0_t1_loop i).trips) : Fin 5 → Nat :=
  let c0_216 : Index := 0#32
  let c3_217 : Index := 3#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let v296 : Index := Scalar.indexCast v143
  let c0_218 : Index := 0#32
  let c0_219 : Index := 0#32
  ![0, 3, v296.toNat, 0, 0]
def k0_mult3 (i : grid0.Coords) (k0_t1 : Fin (k0_t1_loop i).trips) : BitVec 32 :=
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let c2_i32_227 : BitVec 32 := 2#32
  let v307 : BitVec 32 := Scalar.addi v143 c2_i32_227
  let c512_i32_228 : BitVec 32 := 512#32
  let v308 : BitVec 32 := Scalar.muli v307 c512_i32_228
  v308
def k0_off9 (i : grid0.Coords) (k0_t1 : Fin (k0_t1_loop i).trips) : Fin 5 → Nat :=
  let c0_309 : Index := 0#32
  let c0_310 : Index := 0#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let c1_i32_269 : BitVec 32 := 1#32
  let v358 : BitVec 32 := Scalar.addi v143 c1_i32_269
  let v415 : Index := Scalar.indexCast v358
  let c0_311 : Index := 0#32
  let c0_312 : Index := 0#32
  ![0, 0, v415.toNat, 0, 0]
def k0_off10 (i : grid0.Coords) (k0_t1 : Fin (k0_t1_loop i).trips) : Fin 5 → Nat :=
  let c0_323 : Index := 0#32
  let c1_324 : Index := 1#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let c1_i32_269 : BitVec 32 := 1#32
  let v358 : BitVec 32 := Scalar.addi v143 c1_i32_269
  let v430 : Index := Scalar.indexCast v358
  let c0_325 : Index := 0#32
  let c0_326 : Index := 0#32
  ![0, 1, v430.toNat, 0, 0]
def k0_off11 (i : grid0.Coords) (k0_t1 : Fin (k0_t1_loop i).trips) : Fin 5 → Nat :=
  let c0_337 : Index := 0#32
  let c2_338 : Index := 2#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let c1_i32_269 : BitVec 32 := 1#32
  let v358 : BitVec 32 := Scalar.addi v143 c1_i32_269
  let v445 : Index := Scalar.indexCast v358
  let c0_339 : Index := 0#32
  let c0_340 : Index := 0#32
  ![0, 2, v445.toNat, 0, 0]
def k0_off12 (i : grid0.Coords) (k0_t1 : Fin (k0_t1_loop i).trips) : Fin 5 → Nat :=
  let c0_351 : Index := 0#32
  let c3_352 : Index := 3#32
  let c2_i32_93 : BitVec 32 := 2#32
  let c0_i32_58 : BitVec 32 := 0#32
  let c1_i32_60 : BitVec 32 := 1#32
  let arg12 : BitVec 32 := Scf.iv c0_i32_58 c1_i32_60 k0_t1
  let v143 : BitVec 32 := Scalar.muli c2_i32_93 arg12
  let c1_i32_269 : BitVec 32 := 1#32
  let v358 : BitVec 32 := Scalar.addi v143 c1_i32_269
  let v460 : Index := Scalar.indexCast v358
  let c0_353 : Index := 0#32
  let c0_354 : Index := 0#32
  ![0, 3, v460.toNat, 0, 0]
@[reducible] def k0_t2_loop (i : grid0.Coords) : Scf.Loop 32 :=
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let v83 : BitVec 32 := Scalar.addi c0_i32_58 v82
  let c1_i32_61 : BitVec 32 := 1#32
  ⟨v86, v83, c1_i32_61⟩
def k0_mult4 (i : grid0.Coords) (k0_t2 : Fin (k0_t2_loop i).trips) : BitVec 32 :=
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let c1_i32_94 : BitVec 32 := 1#32
  let v144 : BitVec 32 := Scalar.addi v143 c1_i32_94
  let c512_i32 : BitVec 32 := 512#32
  let v145 : BitVec 32 := Scalar.muli v144 c512_i32
  v145
def k0_off13 (i : grid0.Coords) (k0_t2 : Fin (k0_t2_loop i).trips) (c1_i32_94 : BitVec 32) : Fin 3 → Nat :=
  let c0_95 : Index := 0#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let v144 : BitVec 32 := Scalar.addi v143 c1_i32_94
  let c512_i32 : BitVec 32 := 512#32
  let v145 : BitVec 32 := Scalar.muli v144 c512_i32
  let v146 : BitVec 32 := v145
  let v147 : Index := Scalar.indexCast v146
  let c0_96 : Index := 0#32
  ![0, v147.toNat, 0]
def k0_off14 (i : grid0.Coords) (k0_t2 : Fin (k0_t2_loop i).trips) (c1_i32_94 : BitVec 32) : Fin 3 → Nat :=
  let c0_105 : Index := 0#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let v144 : BitVec 32 := Scalar.addi v143 c1_i32_94
  let c512_i32 : BitVec 32 := 512#32
  let v145 : BitVec 32 := Scalar.muli v144 c512_i32
  let v146 : BitVec 32 := v145
  let v159 : Index := Scalar.indexCast v146
  let c128_106 : Index := 128#32
  ![0, v159.toNat, 128]
def k0_off15 (i : grid0.Coords) (k0_t2 : Fin (k0_t2_loop i).trips) (c1_i32_94 : BitVec 32) : Fin 3 → Nat :=
  let c0_115 : Index := 0#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let v144 : BitVec 32 := Scalar.addi v143 c1_i32_94
  let c512_i32 : BitVec 32 := 512#32
  let v145 : BitVec 32 := Scalar.muli v144 c512_i32
  let v146 : BitVec 32 := v145
  let v171 : Index := Scalar.indexCast v146
  let c256_116 : Index := 256#32
  ![0, v171.toNat, 256]
def k0_off16 (i : grid0.Coords) (k0_t2 : Fin (k0_t2_loop i).trips) (c1_i32_94 : BitVec 32) : Fin 3 → Nat :=
  let c0_125 : Index := 0#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let v144 : BitVec 32 := Scalar.addi v143 c1_i32_94
  let c512_i32 : BitVec 32 := 512#32
  let v145 : BitVec 32 := Scalar.muli v144 c512_i32
  let v146 : BitVec 32 := v145
  let v183 : Index := Scalar.indexCast v146
  let c384_126 : Index := 384#32
  ![0, v183.toNat, 384]
def k0_off17 (i : grid0.Coords) (k0_t2 : Fin (k0_t2_loop i).trips) : Fin 5 → Nat :=
  let c0_174 : Index := 0#32
  let c0_175 : Index := 0#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let v251 : Index := Scalar.indexCast v143
  let c0_176 : Index := 0#32
  let c0_177 : Index := 0#32
  ![0, 0, v251.toNat, 0, 0]
def k0_off18 (i : grid0.Coords) (k0_t2 : Fin (k0_t2_loop i).trips) : Fin 5 → Nat :=
  let c0_188 : Index := 0#32
  let c1_189 : Index := 1#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let v266 : Index := Scalar.indexCast v143
  let c0_190 : Index := 0#32
  let c0_191 : Index := 0#32
  ![0, 1, v266.toNat, 0, 0]
def k0_off19 (i : grid0.Coords) (k0_t2 : Fin (k0_t2_loop i).trips) : Fin 5 → Nat :=
  let c0_202 : Index := 0#32
  let c2_203 : Index := 2#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let v281 : Index := Scalar.indexCast v143
  let c0_204 : Index := 0#32
  let c0_205 : Index := 0#32
  ![0, 2, v281.toNat, 0, 0]
def k0_off20 (i : grid0.Coords) (k0_t2 : Fin (k0_t2_loop i).trips) : Fin 5 → Nat :=
  let c0_216 : Index := 0#32
  let c3_217 : Index := 3#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let v296 : Index := Scalar.indexCast v143
  let c0_218 : Index := 0#32
  let c0_219 : Index := 0#32
  ![0, 3, v296.toNat, 0, 0]
def k0_mult5 (i : grid0.Coords) (k0_t2 : Fin (k0_t2_loop i).trips) : BitVec 32 :=
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let c2_i32_227 : BitVec 32 := 2#32
  let v307 : BitVec 32 := Scalar.addi v143 c2_i32_227
  let c512_i32_228 : BitVec 32 := 512#32
  let v308 : BitVec 32 := Scalar.muli v307 c512_i32_228
  v308
def k0_off21 (i : grid0.Coords) (k0_t2 : Fin (k0_t2_loop i).trips) : Fin 5 → Nat :=
  let c0_309 : Index := 0#32
  let c0_310 : Index := 0#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let c1_i32_269 : BitVec 32 := 1#32
  let v358 : BitVec 32 := Scalar.addi v143 c1_i32_269
  let v415 : Index := Scalar.indexCast v358
  let c0_311 : Index := 0#32
  let c0_312 : Index := 0#32
  ![0, 0, v415.toNat, 0, 0]
def k0_off22 (i : grid0.Coords) (k0_t2 : Fin (k0_t2_loop i).trips) : Fin 5 → Nat :=
  let c0_323 : Index := 0#32
  let c1_324 : Index := 1#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let c1_i32_269 : BitVec 32 := 1#32
  let v358 : BitVec 32 := Scalar.addi v143 c1_i32_269
  let v430 : Index := Scalar.indexCast v358
  let c0_325 : Index := 0#32
  let c0_326 : Index := 0#32
  ![0, 1, v430.toNat, 0, 0]
def k0_off23 (i : grid0.Coords) (k0_t2 : Fin (k0_t2_loop i).trips) : Fin 5 → Nat :=
  let c0_337 : Index := 0#32
  let c2_338 : Index := 2#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let c1_i32_269 : BitVec 32 := 1#32
  let v358 : BitVec 32 := Scalar.addi v143 c1_i32_269
  let v445 : Index := Scalar.indexCast v358
  let c0_339 : Index := 0#32
  let c0_340 : Index := 0#32
  ![0, 2, v445.toNat, 0, 0]
def k0_off24 (i : grid0.Coords) (k0_t2 : Fin (k0_t2_loop i).trips) : Fin 5 → Nat :=
  let c0_351 : Index := 0#32
  let c3_352 : Index := 3#32
  let c2_i32_93 : BitVec 32 := 2#32
  let c0_i32_58 : BitVec 32 := 0#32
  let arg1 : BitVec 32 := BitVec.ofNat 32 (i 1).val
  let c0_i32_52 : BitVec 32 := 0#32
  let v66 : BitVec 1 := Scalar.cmpi .sgt arg1 c0_i32_52
  let v67 : BitVec 32 := Scalar.extui v66
  let c0_i32_53 : BitVec 32 := 0#32
  let v68 : BitVec 1 := Scalar.cmpi .slt arg1 c0_i32_53
  let v69 : BitVec 32 := Scalar.extui v68
  let v70 : BitVec 32 := Scalar.subi v67 v69
  let c2_i32 : BitVec 32 := 2#32
  let c0_i32_54 : BitVec 32 := 0#32
  let v71 : BitVec 1 := Scalar.cmpi .sgt c2_i32 c0_i32_54
  let v72 : BitVec 32 := Scalar.extui v71
  let c0_i32_55 : BitVec 32 := 0#32
  let v73 : BitVec 1 := Scalar.cmpi .slt c2_i32 c0_i32_55
  let v74 : BitVec 32 := Scalar.extui v73
  let v75 : BitVec 32 := Scalar.subi v72 v74
  let v76 : BitVec 1 := Scalar.cmpi .ne v70 v75
  let v77 : BitVec 32 := Scalar.remsi arg1 c2_i32
  let c0_i32_56 : BitVec 32 := 0#32
  let v78 : BitVec 1 := Scalar.cmpi .ne v77 c0_i32_56
  let v79 : BitVec 1 := Scalar.andi v76 v78
  let v65 : BitVec 32 := Scalar.divsi arg1 c2_i32
  let c1_i32 : BitVec 32 := 1#32
  let v80 : BitVec 32 := Scalar.subi v65 c1_i32
  let v81 : BitVec 32 := Scalar.select v79 v80 v65
  let v82 : BitVec 32 := Scalar.subi v81 c0_i32_58
  let c1_i32_59 : BitVec 32 := 1#32
  let v84 : BitVec 32 := Scalar.divsi v82 c1_i32_59
  let v85 : BitVec 32 := Scalar.muli v84 c1_i32_59
  let v86 : BitVec 32 := Scalar.addi c0_i32_58 v85
  let c1_i32_61 : BitVec 32 := 1#32
  let arg12 : BitVec 32 := Scf.iv v86 c1_i32_61 k0_t2
  let v143 : BitVec 32 := Scalar.muli c2_i32_93 arg12
  let c1_i32_269 : BitVec 32 := 1#32
  let v358 : BitVec 32 := Scalar.addi v143 c1_i32_269
  let v460 : Index := Scalar.indexCast v358
  let c0_353 : Index := 0#32
  let c0_354 : Index := 0#32
  ![0, 3, v460.toNat, 0, 0]
def k0_cond1 (i : grid0.Coords) : BitVec 1 :=
  let arg1 : BitVec 32 := BitVec.ofNat 32 (i 1).val
  let c2_i32_62 : BitVec 32 := 2#32
  let c0_i32_63 : BitVec 32 := 0#32
  let v87 : BitVec 1 := Scalar.cmpi .eq c2_i32_62 c0_i32_63
  let c1_i32_64 : BitVec 32 := 1#32
  let v88 : BitVec 32 := Scalar.select v87 c1_i32_64 c2_i32_62
  let v89 : BitVec 32 := Scalar.remsi arg1 v88
  let c0_i32_66 : BitVec 32 := 0#32
  let v91 : BitVec 1 := Scalar.cmpi .slt v89 c0_i32_66
  let c0_i32_67 : BitVec 32 := 0#32
  let v92 : BitVec 1 := Scalar.cmpi .slt v88 c0_i32_67
  let v93 : BitVec 1 := Scalar.xori v91 v92
  let c0_i32_65 : BitVec 32 := 0#32
  let v90 : BitVec 1 := Scalar.cmpi .ne v89 c0_i32_65
  let v94 : BitVec 1 := Scalar.andi v93 v90
  let v95 : BitVec 32 := Scalar.addi v89 v88
  let v96 : BitVec 32 := Scalar.select v94 v95 v89
  let c0_i32_68 : BitVec 32 := 0#32
  let v97 : BitVec 1 := Scalar.cmpi .eq v96 c0_i32_68
  let v98 : BitVec 32 := Scalar.extui v97
  let c0_i32_69 : BitVec 32 := 0#32
  let v99 : BitVec 1 := Scalar.cmpi .ne v98 c0_i32_69
  v99

def k0_off25 (i : grid0.Coords) : Fin 5 → Nat :=
  let c0_128 : Index := 0#32
  let c0_129 : Index := 0#32
  let arg1 : BitVec 32 := BitVec.ofNat 32 (i 1).val
  let v213 : Index := Scalar.indexCast arg1
  let c0_130 : Index := 0#32
  let c0_131 : Index := 0#32
  ![0, 0, v213.toNat, 0, 0]
def k0_off26 (i : grid0.Coords) : Fin 5 → Nat :=
  let c0_142 : Index := 0#32
  let c1_143 : Index := 1#32
  let arg1 : BitVec 32 := BitVec.ofNat 32 (i 1).val
  let v228 : Index := Scalar.indexCast arg1
  let c0_144 : Index := 0#32
  let c0_145 : Index := 0#32
  ![0, 1, v228.toNat, 0, 0]
def k0_off27 (i : grid0.Coords) : Fin 5 → Nat :=
  let c0_156 : Index := 0#32
  let c2_157 : Index := 2#32
  let arg1 : BitVec 32 := BitVec.ofNat 32 (i 1).val
  let v243 : Index := Scalar.indexCast arg1
  let c0_158 : Index := 0#32
  let c0_159 : Index := 0#32
  ![0, 2, v243.toNat, 0, 0]
def k0_off28 (i : grid0.Coords) : Fin 5 → Nat :=
  let c0_170 : Index := 0#32
  let c3_171 : Index := 3#32
  let arg1 : BitVec 32 := BitVec.ofNat 32 (i 1).val
  let v258 : Index := Scalar.indexCast arg1
  let c0_172 : Index := 0#32
  let c0_173 : Index := 0#32
  ![0, 3, v258.toNat, 0, 0]
def k0_cond2 (i : grid0.Coords) : BitVec 1 :=
  let arg1 : BitVec 32 := BitVec.ofNat 32 (i 1).val
  let c2_i32_70 : BitVec 32 := 2#32
  let c0_i32_71 : BitVec 32 := 0#32
  let v100 : BitVec 1 := Scalar.cmpi .eq c2_i32_70 c0_i32_71
  let c1_i32_72 : BitVec 32 := 1#32
  let v101 : BitVec 32 := Scalar.select v100 c1_i32_72 c2_i32_70
  let v102 : BitVec 32 := Scalar.remsi arg1 v101
  let c0_i32_74 : BitVec 32 := 0#32
  let v104 : BitVec 1 := Scalar.cmpi .slt v102 c0_i32_74
  let c0_i32_75 : BitVec 32 := 0#32
  let v105 : BitVec 1 := Scalar.cmpi .slt v101 c0_i32_75
  let v106 : BitVec 1 := Scalar.xori v104 v105
  let c0_i32_73 : BitVec 32 := 0#32
  let v103 : BitVec 1 := Scalar.cmpi .ne v102 c0_i32_73
  let v107 : BitVec 1 := Scalar.andi v106 v103
  let v108 : BitVec 32 := Scalar.addi v102 v101
  let v109 : BitVec 32 := Scalar.select v107 v108 v102
  let c1_i32_76 : BitVec 32 := 1#32
  let v110 : BitVec 1 := Scalar.cmpi .eq v109 c1_i32_76
  let v111 : BitVec 32 := Scalar.extui v110
  let c0_i32_77 : BitVec 32 := 0#32
  let v112 : BitVec 1 := Scalar.cmpi .ne v111 c0_i32_77
  v112

def k0_mult6 (i : grid0.Coords) : BitVec 32 :=
  let arg1 : BitVec 32 := BitVec.ofNat 32 (i 1).val
  let c512_i32 : BitVec 32 := 512#32
  let v143 : BitVec 32 := Scalar.muli arg1 c512_i32
  v143
def k0_off29 (i : grid0.Coords) : Fin 3 → Nat :=
  let c0_93 : Index := 0#32
  let arg1 : BitVec 32 := BitVec.ofNat 32 (i 1).val
  let c512_i32 : BitVec 32 := 512#32
  let v143 : BitVec 32 := Scalar.muli arg1 c512_i32
  let v144 : BitVec 32 := v143
  let v145 : Index := Scalar.indexCast v144
  let c0_94 : Index := 0#32
  ![0, v145.toNat, 0]
def k0_off30 (i : grid0.Coords) : Fin 3 → Nat :=
  let c0_103 : Index := 0#32
  let arg1 : BitVec 32 := BitVec.ofNat 32 (i 1).val
  let c512_i32 : BitVec 32 := 512#32
  let v143 : BitVec 32 := Scalar.muli arg1 c512_i32
  let v144 : BitVec 32 := v143
  let v157 : Index := Scalar.indexCast v144
  let c128_104 : Index := 128#32
  ![0, v157.toNat, 128]
def k0_off31 (i : grid0.Coords) : Fin 3 → Nat :=
  let c0_113 : Index := 0#32
  let arg1 : BitVec 32 := BitVec.ofNat 32 (i 1).val
  let c512_i32 : BitVec 32 := 512#32
  let v143 : BitVec 32 := Scalar.muli arg1 c512_i32
  let v144 : BitVec 32 := v143
  let v169 : Index := Scalar.indexCast v144
  let c256_114 : Index := 256#32
  ![0, v169.toNat, 256]
def k0_off32 (i : grid0.Coords) : Fin 3 → Nat :=
  let c0_123 : Index := 0#32
  let arg1 : BitVec 32 := BitVec.ofNat 32 (i 1).val
  let c512_i32 : BitVec 32 := 512#32
  let v143 : BitVec 32 := Scalar.muli arg1 c512_i32
  let v144 : BitVec 32 := v143
  let v181 : Index := Scalar.indexCast v144
  let c384_124 : Index := 384#32
  ![0, v181.toNat, 384]
def k0_off33 (i : grid0.Coords) : Fin 5 → Nat :=
  let c0_173 : Index := 0#32
  let c0_174 : Index := 0#32
  let arg1 : BitVec 32 := BitVec.ofNat 32 (i 1).val
  let c1_i32_133 : BitVec 32 := 1#32
  let v193 : BitVec 32 := Scalar.subi arg1 c1_i32_133
  let v250 : Index := Scalar.indexCast v193
  let c0_175 : Index := 0#32
  let c0_176 : Index := 0#32
  ![0, 0, v250.toNat, 0, 0]
def k0_off34 (i : grid0.Coords) : Fin 5 → Nat :=
  let c0_187 : Index := 0#32
  let c1_188 : Index := 1#32
  let arg1 : BitVec 32 := BitVec.ofNat 32 (i 1).val
  let c1_i32_133 : BitVec 32 := 1#32
  let v193 : BitVec 32 := Scalar.subi arg1 c1_i32_133
  let v265 : Index := Scalar.indexCast v193
  let c0_189 : Index := 0#32
  let c0_190 : Index := 0#32
  ![0, 1, v265.toNat, 0, 0]
def k0_off35 (i : grid0.Coords) : Fin 5 → Nat :=
  let c0_201 : Index := 0#32
  let c2_202 : Index := 2#32
  let arg1 : BitVec 32 := BitVec.ofNat 32 (i 1).val
  let c1_i32_133 : BitVec 32 := 1#32
  let v193 : BitVec 32 := Scalar.subi arg1 c1_i32_133
  let v280 : Index := Scalar.indexCast v193
  let c0_203 : Index := 0#32
  let c0_204 : Index := 0#32
  ![0, 2, v280.toNat, 0, 0]
def k0_off36 (i : grid0.Coords) : Fin 5 → Nat :=
  let c0_215 : Index := 0#32
  let c3_216 : Index := 3#32
  let arg1 : BitVec 32 := BitVec.ofNat 32 (i 1).val
  let c1_i32_133 : BitVec 32 := 1#32
  let v193 : BitVec 32 := Scalar.subi arg1 c1_i32_133
  let v295 : Index := Scalar.indexCast v193
  let c0_217 : Index := 0#32
  let c0_218 : Index := 0#32
  ![0, 3, v295.toNat, 0, 0]
def k0_off37 (i : grid0.Coords) : Fin 5 → Nat :=
  let c0_261 : Index := 0#32
  let c0_262 : Index := 0#32
  let arg1 : BitVec 32 := BitVec.ofNat 32 (i 1).val
  let v376 : Index := Scalar.indexCast arg1
  let c0_263 : Index := 0#32
  let c0_264 : Index := 0#32
  ![0, 0, v376.toNat, 0, 0]
def k0_off38 (i : grid0.Coords) : Fin 5 → Nat :=
  let c0_275 : Index := 0#32
  let c1_276 : Index := 1#32
  let arg1 : BitVec 32 := BitVec.ofNat 32 (i 1).val
  let v391 : Index := Scalar.indexCast arg1
  let c0_277 : Index := 0#32
  let c0_278 : Index := 0#32
  ![0, 1, v391.toNat, 0, 0]
def k0_off39 (i : grid0.Coords) : Fin 5 → Nat :=
  let c0_289 : Index := 0#32
  let c2_290 : Index := 2#32
  let arg1 : BitVec 32 := BitVec.ofNat 32 (i 1).val
  let v406 : Index := Scalar.indexCast arg1
  let c0_291 : Index := 0#32
  let c0_292 : Index := 0#32
  ![0, 2, v406.toNat, 0, 0]
def k0_off40 (i : grid0.Coords) : Fin 5 → Nat :=
  let c0_303 : Index := 0#32
  let c3_304 : Index := 3#32
  let arg1 : BitVec 32 := BitVec.ofNat 32 (i 1).val
  let v421 : Index := Scalar.indexCast arg1
  let c0_305 : Index := 0#32
  let c0_306 : Index := 0#32
  ![0, 3, v421.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S65536x512 : Shape := ⟨2, ![65536, 512]⟩
abbrev S8x4x16x80x512 : Shape := ⟨5, ![8, 4, 16, 80, 512]⟩
abbrev S8x8192x4x128 : Shape := ⟨4, ![8, 8192, 4, 128]⟩
abbrev S8x4x8192x128 : Shape := ⟨4, ![8, 4, 8192, 128]⟩
abbrev S8x4x16x64x512 : Shape := ⟨5, ![8, 4, 16, 64, 512]⟩
abbrev S8x4x16x512x64 : Shape := ⟨5, ![8, 4, 16, 512, 64]⟩
abbrev S8x4x8192x64 : Shape := ⟨4, ![8, 4, 8192, 64]⟩
abbrev S8x4x8192x8192 : Shape := ⟨4, ![8, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x4x8192 : Shape := ⟨3, ![8, 4, 8192]⟩
abbrev S8x4x8192x1 : Shape := ⟨4, ![8, 4, 8192, 1]⟩
abbrev S8x8192x4x64 : Shape := ⟨4, ![8, 8192, 4, 64]⟩
abbrev S8x8192x256 : Shape := ⟨3, ![8, 8192, 256]⟩

abbrev nBuf : Space → Nat
  | .hbm => 44
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S8x4x16x80x512, .bf16⟩
  | .hbm, ⟨3, _⟩ => ⟨S65536x512, .f32⟩
  | .hbm, ⟨4, _⟩ => ⟨S8x8192x4x128, .f32⟩
  | .hbm, ⟨5, _⟩ => ⟨S8x4x8192x128, .f32⟩
  | .hbm, ⟨6, _⟩ => ⟨S65536x512, .f32⟩
  | .hbm, ⟨7, _⟩ => ⟨S8x8192x4x128, .f32⟩
  | .hbm, ⟨8, _⟩ => ⟨S8x4x8192x128, .f32⟩
  | .hbm, ⟨9, _⟩ => ⟨S8x4x16x64x512, .bf16⟩
  | .hbm, ⟨10, _⟩ => ⟨S8x4x16x64x512, .f32⟩
  | .hbm, ⟨11, _⟩ => ⟨S8x4x16x512x64, .f32⟩
  | .hbm, ⟨12, _⟩ => ⟨S8x4x8192x64, .f32⟩
  | .hbm, ⟨13, _⟩ => ⟨S8x4x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S8x4x8192x8192, .i1⟩
  | .hbm, ⟨23, _⟩ => ⟨S8x4x8192x8192, .f32⟩
  | .hbm, ⟨24, _⟩ => ⟨S8x4x8192x8192, .f32⟩
  | .hbm, ⟨25, _⟩ => ⟨S_, .f32⟩
  | .hbm, ⟨26, _⟩ => ⟨S8x4x8192, .f32⟩
  | .hbm, ⟨27, _⟩ => ⟨S8x4x8192x1, .f32⟩
  | .hbm, ⟨28, _⟩ => ⟨S8x4x8192x8192, .f32⟩
  | .hbm, ⟨29, _⟩ => ⟨S8x4x8192x8192, .f32⟩
  | .hbm, ⟨30, _⟩ => ⟨S_, .f32⟩
  | .hbm, ⟨31, _⟩ => ⟨S8x4x8192x8192, .f32⟩
  | .hbm, ⟨32, _⟩ => ⟨S8x4x8192x8192, .f32⟩
  | .hbm, ⟨33, _⟩ => ⟨S_, .f32⟩
  | .hbm, ⟨34, _⟩ => ⟨S8x4x8192, .f32⟩
  | .hbm, ⟨35, _⟩ => ⟨S8x4x8192x1, .f32⟩
  | .hbm, ⟨36, _⟩ => ⟨S8x4x8192x8192, .f32⟩
  | .hbm, ⟨37, _⟩ => ⟨S8x4x8192x8192, .f32⟩
  | .hbm, ⟨38, _⟩ => ⟨S8x4x8192x8192, .bf16⟩
  | .hbm, ⟨39, _⟩ => ⟨S8x4x8192x8192, .f32⟩
  | .hbm, ⟨40, _⟩ => ⟨S8x4x8192x64, .f32⟩
  | .hbm, ⟨41, _⟩ => ⟨S8x8192x4x64, .f32⟩
  | .hbm, ⟨42, _⟩ => ⟨S8x8192x256, .f32⟩
  | .hbm, ⟨43, _⟩ => ⟨S8x8192x256, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x256 : Shape := ⟨3, ![8, 8192, 256]⟩
abbrev S65536x512 : Shape := ⟨2, ![65536, 512]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S4x256x1024 : Shape := ⟨3, ![4, 256, 1024]⟩
abbrev S4x512x1024 : Shape := ⟨3, ![4, 512, 1024]⟩
abbrev S4x1x1024 : Shape := ⟨3, ![4, 1, 1024]⟩
abbrev S4x1024x2816 : Shape := ⟨3, ![4, 1024, 2816]⟩
abbrev S4x1x2816 : Shape := ⟨3, ![4, 1, 2816]⟩
abbrev S65536x1024 : Shape := ⟨2, ![65536, 1024]⟩
abbrev S65536x256 : Shape := ⟨2, ![65536, 256]⟩
abbrev S1024x1024 : Shape := ⟨2, ![1024, 1024]⟩
abbrev S1024x256 : Shape := ⟨2, ![1024, 256]⟩
abbrev S1024x512 : Shape := ⟨2, ![1024, 512]⟩
abbrev S1x256x1024 : Shape := ⟨3, ![1, 256, 1024]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S8x2816 : Shape := ⟨2, ![8, 2816]⟩
abbrev S1024x2816 : Shape := ⟨2, ![1024, 2816]⟩
abbrev S256x1024 : Shape := ⟨2, ![256, 1024]⟩
abbrev S512x1024 : Shape := ⟨2, ![512, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S8x256 : Shape := ⟨2, ![8, 256]⟩
abbrev S1x256 : Shape := ⟨2, ![1, 256]⟩
abbrev S1x3x256 : Shape := ⟨3, ![1, 3, 256]⟩
abbrev S3x256 : Shape := ⟨2, ![3, 256]⟩
abbrev S1x1x256 : Shape := ⟨3, ![1, 1, 256]⟩
abbrev S2816x1024 : Shape := ⟨2, ![2816, 1024]⟩

abbrev nBuf : Space → Nat
  | .hbm => 27
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .bf16⟩
  | .hbm, ⟨2, _⟩ => ⟨S8x8192x256, .bf16⟩
  | .hbm, ⟨3, _⟩ => ⟨S65536x512, .bf16⟩
  | .hbm, ⟨4, _⟩ => ⟨S4x1024x1024, .f32⟩
  | .hbm, ⟨5, _⟩ => ⟨S4x1024, .f32⟩
  | .hbm, ⟨6, _⟩ => ⟨S4x1024x5632, .f32⟩
  | .hbm, ⟨7, _⟩ => ⟨S4x3x2816, .f32⟩
  | .hbm, ⟨8, _⟩ => ⟨S4x2816, .f32⟩
  | .hbm, ⟨9, _⟩ => ⟨S4x2816x1024, .f32⟩
  | .hbm, ⟨10, _⟩ => ⟨S4x256x1024, .f32⟩
  | .hbm, ⟨11, _⟩ => ⟨S4x256x1024, .bf16⟩
  | .hbm, ⟨12, _⟩ => ⟨S4x256x1024, .f32⟩
  | .hbm, ⟨13, _⟩ => ⟨S4x256x1024, .bf16⟩
  | .hbm, ⟨14, _⟩ => ⟨S4x512x1024, .f32⟩
  | .hbm, ⟨15, _⟩ => ⟨S4x512x1024, .bf16⟩
  | .hbm, ⟨16, _⟩ => ⟨S4x1x1024, .f32⟩
  | .hbm, ⟨17, _⟩ => ⟨S4x1024x2816, .f32⟩
  | .hbm, ⟨18, _⟩ => ⟨S4x1024x2816, .bf16⟩
  | .hbm, ⟨19, _⟩ => ⟨S4x1024x2816, .f32⟩
  | .hbm, ⟨20, _⟩ => ⟨S4x1024x2816, .bf16⟩
  | .hbm, ⟨21, _⟩ => ⟨S4x1x2816, .f32⟩
  | .hbm, ⟨22, _⟩ => ⟨S4x2816x1024, .bf16⟩
  | .hbm, ⟨23, _⟩ => ⟨S65536x1024, .f32⟩
  | .hbm, ⟨24, _⟩ => ⟨S65536x256, .bf16⟩
  | .hbm, ⟨25, _⟩ => ⟨S65536x256, .bf16⟩
  | .hbm, ⟨26, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x512x1024, .bf16⟩
  | .local _ .vmem, ⟨11, _⟩ => ⟨S1x1x1024, .f32⟩
  | .local _ .vmem, ⟨12, _⟩ => ⟨S1x1024x2816, .bf16⟩
  | .local _ .vmem, ⟨13, _⟩ => ⟨S1x1024x2816, .bf16⟩
  | .local _ .vmem, ⟨14, _⟩ => ⟨S1x3x2816, .f32⟩
  | .local _ .vmem, ⟨15, _⟩ => ⟨S1x1x2816, .f32⟩
  | .local _ .vmem, ⟨16, _⟩ => ⟨S1x2816x1024, .bf16⟩
  | .local _ .vmem, ⟨17, _⟩ => ⟨S1024x1024, .f32⟩
  | .local _ .vmem, ⟨18, _⟩ => ⟨S1024x1024, .f32⟩
  | .local _ .vmem, ⟨19, _⟩ => ⟨S8x2816, .f32⟩
  | .local _ .vmem, ⟨20, _⟩ => ⟨S1024x2816, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x8192x1024 : Shape := ⟨3, ![8, 8192, 1024]⟩
abbrev S8x8192x256 : Shape := ⟨3, ![8, 8192, 256]⟩
abbrev S65536x512 : Shape := ⟨2, ![65536, 512]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S8x8192x512 : Shape := ⟨3, ![8, 8192, 512]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S8x8192x5632 : Shape := ⟨3, ![8, 8192, 5632]⟩
abbrev S8x8192x2816 : Shape := ⟨3, ![8, 8192, 2816]⟩
abbrev S8x8194x2816 : Shape := ⟨3, ![8, 8194, 2816]⟩
abbrev S1x1x2816 : Shape := ⟨3, ![1, 1, 2816]⟩
abbrev S65536x1024 : Shape := ⟨2, ![65536, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .bf16⟩
  | .hbm, ⟨2, _⟩ => ⟨S8x8192x256, .bf16⟩
  | .hbm, ⟨3, _⟩ => ⟨S65536x512, .bf16⟩
  | .hbm, ⟨4, _⟩ => ⟨S4x1024x1024, .f32⟩
  | .hbm, ⟨5, _⟩ => ⟨S4x1024, .f32⟩
  | .hbm, ⟨6, _⟩ => ⟨S4x1024x5632, .f32⟩
  | .hbm, ⟨7, _⟩ => ⟨S4x3x2816, .f32⟩
  | .hbm, ⟨8, _⟩ => ⟨S4x2816, .f32⟩
  | .hbm, ⟨9, _⟩ => ⟨S4x2816x1024, .f32⟩
  | .hbm, ⟨10, _⟩ => ⟨S8x8192x512, .bf16⟩
  | .hbm, ⟨11, _⟩ => ⟨S8x8192x1024, .bf16⟩
  | .hbm, ⟨12, _⟩ => ⟨S8x8192x1024, .f32⟩
  | .hbm, ⟨13, _⟩ => ⟨S1x1024x1024, .f32⟩
  | .hbm, ⟨14, _⟩ => ⟨S1024x1024, .f32⟩
  | .hbm, ⟨15, _⟩ => ⟨S8x8192x1024, .f32⟩
  | .hbm, ⟨16, _⟩ => ⟨S8x8192x1024, .f32⟩
  | .hbm, ⟨17, _⟩ => ⟨S1x1024, .f32⟩
  | .hbm, ⟨18, _⟩ => ⟨S1024, .f32⟩
  | .hbm, ⟨19, _⟩ => ⟨S8x8192x1024, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S_, .f32⟩
  | .hbm, ⟨24, _⟩ => ⟨S8x8192x1, .f32⟩
  | .hbm, ⟨25, _⟩ => ⟨S8x8192x1, .f32⟩
  | .hbm, ⟨26, _⟩ => ⟨S_, .f32⟩
  | .hbm, ⟨27, _⟩ => ⟨S8x8192x1, .f32⟩
  | .hbm, ⟨28, _⟩ => ⟨S8x8192x1, .f32⟩
  | .hbm, ⟨29, _⟩ => ⟨S8x8192x1, .f32⟩
  | .hbm, ⟨30, _⟩ => ⟨S8x8192x1024, .f32⟩
  | .hbm, ⟨31, _⟩ => ⟨S8x8192x1024, .f32⟩
  | .hbm, ⟨32, _⟩ => ⟨S1x1x1024, .f32⟩
  | .hbm, ⟨33, _⟩ => ⟨S8x8192x1024, .f32⟩
  | .hbm, ⟨34, _⟩ => ⟨S8x8192x1024, .f32⟩
  | .hbm, ⟨35, _⟩ => ⟨S1x1024x5632, .f32⟩
  | .hbm, ⟨36, _⟩ => ⟨S1024x5632, .f32⟩
  | .hbm, ⟨37, _⟩ => ⟨S1x3x2816, .f32⟩
  | .hbm, ⟨38, _⟩ => ⟨S3x2816, .f32⟩
  | .hbm, ⟨39, _⟩ => ⟨S1x2816, .f32⟩
  | .hbm, ⟨40, _⟩ => ⟨S2816, .f32⟩
  | .hbm, ⟨41, _⟩ => ⟨S1x2816x1024, .f32⟩
  | .hbm, ⟨42, _⟩ => ⟨S2816x1024, .f32⟩
  | .hbm, ⟨43, _⟩ => ⟨S8x8192x5632, .f32⟩
  | .hbm, ⟨44, _⟩ => ⟨S8x8192x2816, .f32⟩
  | .hbm, ⟨45, _⟩ => ⟨S8x8192x2816, .f32⟩
  | .hbm, ⟨46, _⟩ => ⟨S_, .i32⟩
  | .hbm, ⟨47, _⟩ => ⟨S_, .f32⟩
  | .hbm, ⟨48, _⟩ => ⟨S8x8194x2816, .f32⟩
  | .hbm, ⟨49, _⟩ => ⟨S8x8192x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S8x8192x2816, .f32⟩
  | .hbm, ⟨54, _⟩ => ⟨S8x8192x2816, .f32⟩
  | .hbm, ⟨55, _⟩ => ⟨S1x1x2816, .f32⟩
  | .hbm, ⟨56, _⟩ => ⟨S8x8192x2816, .f32⟩
  | .hbm, ⟨57, _⟩ => ⟨S8x8192x2816, .f32⟩
  | .hbm, ⟨58, _⟩ => ⟨S8x8192x2816, .f32⟩
  | .hbm, ⟨59, _⟩ => ⟨S1x2816, .f32⟩
  | .hbm, ⟨60, _⟩ => ⟨S2816, .f32⟩
  | .hbm, ⟨61, _⟩ => ⟨S1x1x2816, .f32⟩
  | .hbm, ⟨62, _⟩ => ⟨S8x8192x2816, .f32⟩
  | .hbm, ⟨63, _⟩ => ⟨S8x8192x2816, .f32⟩
  | .hbm, ⟨64, _⟩ => ⟨S8x8192x2816, .f32⟩
  | .hbm, ⟨65, _⟩ => ⟨S8x8192x2816, .f32⟩
  | .hbm, ⟨66, _⟩ => ⟨S1x2816, .f32⟩
  | .hbm, ⟨67, _⟩ => ⟨S2816, .f32⟩
  | .hbm, ⟨68, _⟩ => ⟨S1x1x2816, .f32⟩
  | .hbm, ⟨69, _⟩ => ⟨S8x8192x2816, .f32⟩
  | .hbm, ⟨70, _⟩ => ⟨S8x8192x2816, .f32⟩
  | .hbm, ⟨71, _⟩ => ⟨S8x8192x2816, .f32⟩
  | .hbm, ⟨72, _⟩ => ⟨S8x8192x2816, .f32⟩
  | .hbm, ⟨73, _⟩ => ⟨S8x8192x2816, .f32⟩
  | .hbm, ⟨74, _⟩ => ⟨S_, .f32⟩
  | .hbm, ⟨75, _⟩ => ⟨S8x8192x2816, .f32⟩
  | .hbm, ⟨76, _⟩ => ⟨S8x8192x2816, .f32⟩
  | .hbm, ⟨77, _⟩ => ⟨S_, .f32⟩
  | .hbm, ⟨78, _⟩ => ⟨S8x8192x2816, .f32⟩
  | .hbm, ⟨79, _⟩ => ⟨S8x8192x2816, .f32⟩
  | .hbm, ⟨80, _⟩ => ⟨S8x8192x2816, .f32⟩
  | .hbm, ⟨81, _⟩ => ⟨S8x8192x2816, .f32⟩
  | .hbm, ⟨82, _⟩ => ⟨S8x8192x1024, .f32⟩
  | .hbm, ⟨83, _⟩ => ⟨S8x8192x1024, .f32⟩
  | .hbm, ⟨84, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel3.lean ====
abbrev S8x8192x1024 : Shape := ⟨3, ![8, 8192, 1024]⟩
abbrev S4x1024 : Shape := ⟨2, ![4, 1024]⟩
abbrev S4x1024x3332 : Shape := ⟨3, ![4, 1024, 3332]⟩
abbrev S4x64 : Shape := ⟨2, ![4, 64]⟩
abbrev S4x4 : Shape := ⟨2, ![4, 4]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S4x1024x256 : Shape := ⟨3, ![4, 1024, 256]⟩
abbrev S4x1024x4 : Shape := ⟨3, ![4, 1024, 4]⟩
abbrev S4x1024x1792 : Shape := ⟨3, ![4, 1024, 1792]⟩
abbrev S4x1x1024 : Shape := ⟨3, ![4, 1, 1024]⟩
abbrev S4x1024x1024 : Shape := ⟨3, ![4, 1024, 1024]⟩
abbrev S1x4x1x64 : Shape := ⟨4, ![1, 4, 1, 64]⟩
abbrev S1x4x4x64 : Shape := ⟨4, ![1, 4, 4, 64]⟩
abbrev S4x256 : Shape := ⟨2, ![4, 256]⟩
abbrev S4x1024x512 : Shape := ⟨3, ![4, 1024, 512]⟩
abbrev S4x512x1024 : Shape := ⟨3, ![4, 512, 1024]⟩
abbrev S1x4x1x4 : Shape := ⟨4, ![1, 4, 1, 4]⟩
abbrev S1x4x6x4 : Shape := ⟨4, ![1, 4, 6, 4]⟩
abbrev S4x24 : Shape := ⟨2, ![4, 24]⟩
abbrev S4x128 : Shape := ⟨2, ![4, 128]⟩
abbrev S4x1x128 : Shape := ⟨3, ![4, 1, 128]⟩
abbrev S4x1024x64 : Shape := ⟨3, ![4, 1024, 64]⟩
abbrev S4x1024x128 : Shape := ⟨3, ![4, 1024, 128]⟩
abbrev S4x1024x1536 : Shape := ⟨3, ![4, 1024, 1536]⟩
abbrev S4x1024x1920 : Shape := ⟨3, ![4, 1024, 1920]⟩
abbrev S1x4x1x1024x1x4 : Shape := ⟨6, ![1, 4, 1, 1024, 1, 4]⟩
abbrev S1x4x1x1024x6x4 : Shape := ⟨6, ![1, 4, 1, 1024, 6, 4]⟩
abbrev S4x1024x24 : Shape := ⟨3, ![4, 1024, 24]⟩
abbrev S4x1024x2048 : Shape := ⟨3, ![4, 1024, 2048]⟩
abbrev S65536x1024 : Shape := ⟨2, ![65536, 1024]⟩
abbrev S65536x256 : Shape := ⟨2, ![65536, 256]⟩
abbrev S8x4x32x80x256 : Shape := ⟨5, ![8, 4, 32, 80, 256]⟩
abbrev S65536x512 : Shape := ⟨2, ![65536, 512]⟩
abbrev S8x4x16x80x512 : Shape := ⟨5, ![8, 4, 16, 80, 512]⟩
abbrev S65536x1920 : Shape := ⟨2, ![65536, 1920]⟩
abbrev S512x1024 : Shape := ⟨2, ![512, 1024]⟩
abbrev S1x1x1024 : Shape := ⟨3, ![1, 1, 1024]⟩
abbrev S1x1024x1024 : Shape := ⟨3, ![1, 1024, 1024]⟩
abbrev S1x512x1024 : Shape := ⟨3, ![1, 512, 1024]⟩
abbrev S1x1x128 : Shape := ⟨3, ![1, 1, 128]⟩
abbrev S1x1024x2048 : Shape := ⟨3, ![1, 1024, 2048]⟩
abbrev S512x256 : Shape := ⟨2, ![512, 256]⟩
abbrev S1x4x2x80x256 : Shape := ⟨5, ![1, 4, 2, 80, 256]⟩
abbrev S1x4x1x80x512 : Shape := ⟨5, ![1, 4, 1, 80, 512]⟩
abbrev S512x1920 : Shape := ⟨2, ![512, 1920]⟩
abbrev S1x128 : Shape := ⟨2, ![1, 128]⟩
abbrev S1x1024 : Shape := ⟨2, ![1, 1024]⟩
abbrev S1024x1024 : Shape := ⟨2, ![1024, 1024]⟩
abbrev S64x256 : Shape := ⟨2, ![64, 256]⟩
abbrev S1x1x1x64x256 : Shape := ⟨5, ![1, 1, 1, 64, 256]⟩
abbrev S16x256 : Shape := ⟨2, ![16, 256]⟩
abbrev S1x1x1x16x256 : Shape := ⟨5, ![1, 1, 1, 16, 256]⟩
abbrev S64x512 : Shape := ⟨2, ![64, 512]⟩
abbrev S1x1x1x64x512 : Shape := ⟨5, ![1, 1, 1, 64, 512]⟩
abbrev S16x512 : Shape := ⟨2, ![16, 512]⟩
abbrev S1x1x1x16x512 : Shape := ⟨5, ![1, 1, 1, 16, 512]⟩
abbrev S1024x2048 : Shape := ⟨2, ![1024, 2048]⟩
abbrev S512x2048 : Shape := ⟨2, ![512, 2048]⟩
abbrev S512x128 : Shape := ⟨2, ![512, 128]⟩
abbrev S512x384 : Shape := ⟨2, ![512, 384]⟩

abbrev nBuf : Space → Nat
  | .hbm => 137
  | .vmem => 25
  | .smem => 0
  | _ => 0

abbrev hbmTy0_0 (i : Nat) : BufTy := match i % 128 with
  | 0 => ⟨S8x8192x1024, .f32⟩
  | 1 => ⟨S4x1024, .f32⟩
  | 2 => ⟨S4x1024x3332, .f32⟩
  | 3 => ⟨S4x64, .f32⟩
  | 4 => ⟨S4x64, .f32⟩
  | 5 => ⟨S4x64, .f32⟩
  | 6 => ⟨S4x64, .f32⟩
  | 7 => ⟨S4x4, .f32⟩
  | 8 => ⟨S256, .i32⟩
  | 9 => ⟨S256x1, .i32⟩
  | 10 => ⟨S_, .i32⟩
  | 11 => ⟨S_, .i32⟩
  | 12 => ⟨S256x1, .i32⟩
  | 13 => ⟨S256x1, .i32⟩
  | 14 => ⟨S256x1, .i32⟩
  | 15 => ⟨S_, .i32⟩
  | 16 => ⟨S256x1, .i32⟩
  | 17 => ⟨S256x1, .i1⟩
  | 18 => ⟨S256x1, .i32⟩
  | 19 => ⟨S256x1, .i32⟩
  | 20 => ⟨S_, .i32⟩
  | 21 => ⟨S256x1, .i32⟩
  | 22 => ⟨S256x1, .i1⟩
  | 23 => ⟨S256x1, .i1⟩
  | 24 => ⟨S_, .i32⟩
  | 25 => ⟨S256x1, .i32⟩
  | 26 => ⟨S256x1, .i32⟩
  | 27 => ⟨S256x1, .i32⟩
  | 28 => ⟨S1x256, .i32⟩
  | 29 => ⟨S_, .i32⟩
  | 30 => ⟨S_, .i32⟩
  | 31 => ⟨S1x256, .i32⟩
  | 32 => ⟨S1x256, .i32⟩
  | 33 => ⟨S1x256, .i32⟩
  | 34 => ⟨S_, .i32⟩
  | 35 => ⟨S1x256, .i32⟩
  | 36 => ⟨S1x256, .i1⟩
  | 37 => ⟨S1x256, .i32⟩
  | 38 => ⟨S1x256, .i32⟩
  | 39 => ⟨S_, .i32⟩
  | 40 => ⟨S1x256, .i32⟩
  | 41 => ⟨S1x256, .i1⟩
  | 42 => ⟨S1x256, .i1⟩
  | 43 => ⟨S_, .i32⟩
  | 44 => ⟨S1x256, .i32⟩
  | 45 => ⟨S1x256, .i32⟩
  | 46 => ⟨S1x256, .i32⟩
  | 47 => ⟨S256x256, .i32⟩
  | 48 => ⟨S256x256, .i32⟩
  | 49 => ⟨S256x256, .i1⟩
  | 50 => ⟨S256x256, .f32⟩
  | 51 => ⟨S256x256, .bf16⟩
  | 52 => ⟨S512, .i32⟩
  | 53 => ⟨S512x1, .i32⟩
  | 54 => ⟨S1x512, .i32⟩
  | 55 => ⟨S512x512, .i32⟩
  | 56 => ⟨S512x512, .i32⟩
  | 57 => ⟨S512x512, .i1⟩
  | 58 => ⟨S512x512, .f32⟩
  | 59 => ⟨S512x512, .bf16⟩
  | 60 => ⟨S4x1024x256, .f32⟩
  | 61 => ⟨S4x1024x256, .f32⟩
  | 62 => ⟨S4x1024x256, .f32⟩
  | 63 => ⟨S4x1024x256, .f32⟩
  | 64 => ⟨S4x1024x256, .f32⟩
  | 65 => ⟨S4x1024x256, .f32⟩
  | 66 => ⟨S4x1024x4, .f32⟩
  | 67 => ⟨S4x1024x1792, .f32⟩
  | 68 => ⟨S4x1x1024, .f32⟩
  | 69 => ⟨S4x1024x1024, .f32⟩
  | 70 => ⟨S4x1024x1024, .bf16⟩
  | 71 => ⟨S_, .f32⟩
  | 72 => ⟨S4x64, .f32⟩
  | 73 => ⟨S4x64, .f32⟩
  | 74 => ⟨S1x4x1x64, .f32⟩
  | 75 => ⟨S1x4x4x64, .f32⟩
  | 76 => ⟨S4x256, .f32⟩
  | 77 => ⟨S_, .f32⟩
  | 78 => ⟨S4x64, .f32⟩
  | 79 => ⟨S4x64, .f32⟩
  | 80 => ⟨S1x4x1x64, .f32⟩
  | 81 => ⟨S1x4x4x64, .f32⟩
  | 82 => ⟨S4x256, .f32⟩
  | 83 => ⟨S_, .f32⟩
  | 84 => ⟨S4x64, .f32⟩
  | 85 => ⟨S4x64, .f32⟩
  | 86 => ⟨S1x4x1x64, .f32⟩
  | 87 => ⟨S1x4x4x64, .f32⟩
  | 88 => ⟨S4x256, .f32⟩
  | 89 => ⟨S_, .f32⟩
  | 90 => ⟨S4x64, .f32⟩
  | 91 => ⟨S4x64, .f32⟩
  | 92 => ⟨S1x4x1x64, .f32⟩
  | 93 => ⟨S1x4x4x64, .f32⟩
  | 94 => ⟨S4x256, .f32⟩
  | 95 => ⟨S4x1024, .f32⟩
  | 96 => ⟨S4x1x1024, .f32⟩
  | 97 => ⟨S4x1024x512, .f32⟩
  | 98 => ⟨S4x512x1024, .f32⟩
  | 99 => ⟨S4x512x1024, .bf16⟩
  | 100 => ⟨S1x4x1x4, .f32⟩
  | 101 => ⟨S1x4x6x4, .f32⟩
  | 102 => ⟨S4x24, .f32⟩
  | 103 => ⟨S_, .i32⟩
  | 104 => ⟨S_, .f32⟩
  | 105 => ⟨S4x128, .f32⟩
  | 106 => ⟨S4x1x128, .f32⟩
  | 107 => ⟨S4x1024x64, .f32⟩
  | 108 => ⟨S4x1024x64, .f32⟩
  | 109 => ⟨S4x1024x128, .f32⟩
  | 110 => ⟨S4x1024x1536, .f32⟩
  | 111 => ⟨S_, .i32⟩
  | 112 => ⟨S_, .f32⟩
  | 113 => ⟨S4x1024x128, .f32⟩
  | 114 => ⟨S_, .i32⟩
  | 115 => ⟨S_, .f32⟩
  | 116 => ⟨S4x1024x128, .f32⟩
  | 117 => ⟨S_, .i32⟩
  | 118 => ⟨S_, .f32⟩
  | 119 => ⟨S4x1024x128, .f32⟩
  | 120 => ⟨S4x1024x1920, .f32⟩
  | 121 => ⟨S1x4x1x1024x1x4, .f32⟩
  | 122 => ⟨S1x4x1x1024x6x4, .f32⟩
  | 123 => ⟨S4x1024x24, .f32⟩
  | 124 => ⟨S_, .i32⟩
  | 125 => ⟨S_, .f32⟩
  | 126 => ⟨S4x1024x128, .f32⟩
  | 127 => ⟨S4x1024x2048, .f32⟩
  | _ => ⟨S8x8192x1024, .f32⟩

abbrev hbmTy0_1 (i : Nat) : BufTy := match i % 128 with
  | 0 => ⟨S4x1024x2048, .bf16⟩
  | 1 => ⟨S65536x1024, .f32⟩
  | 2 => ⟨S65536x256, .bf16⟩
  | 3 => ⟨S65536x256, .bf16⟩
  | 4 => ⟨S8x4x32x80x256, .bf16⟩
  | 5 => ⟨S65536x512, .bf16⟩
  | 6 => ⟨S65536x512, .bf16⟩
  | 7 => ⟨S8x4x16x80x512, .bf16⟩
  | 8 => ⟨S65536x1920, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x1x1024, .f32⟩
  | .local _ .vmem, ⟨5, _⟩ => ⟨S1x512x1024, .bf16⟩
  | .local _ .vmem, ⟨6, _⟩ => ⟨S1x1x128, .f32⟩
  | .local _ .vmem, ⟨7, _⟩ => ⟨S1x1024x2048, .bf16⟩
  | .local _ .vmem, ⟨8, _⟩ => ⟨S256x256, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S1x4x2x80x256, .bf16⟩
  | .local _ .vmem, ⟨15, _⟩ => ⟨S1x4x2x80x256, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1x4x1x80x512, .bf16⟩
  | .local _ .vmem, ⟨21, _⟩ => ⟨S1x4x1x80x512, .bf16⟩
  | .local _ .vmem, ⟨22, _⟩ => ⟨S512x1920, .f32⟩
  | .local _ .vmem, ⟨23, _⟩ => ⟨S512x1920, .f32⟩
  | .local _ .vmem, ⟨24, _⟩ => ⟨S1x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_1 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_2 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_3 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_4 : Ref sig .tc := ⟨.hbm, 103, rfl⟩
abbrev main_call2_v0 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_c_5 : Ref sig .tc := ⟨.hbm, 111, rfl⟩
abbrev main_call3_v0 : Ref sig .tc := ⟨.hbm, 112, rfl⟩
abbrev main_v63 : Ref sig .tc := ⟨.hbm, 113, rfl⟩
abbrev main_c_6 : Ref sig .tc := ⟨.hbm, 114, rfl⟩
abbrev main_call4_v0 : Ref sig .tc := ⟨.hbm, 115, rfl⟩
abbrev main_v64 : Ref sig .tc := ⟨.hbm, 116, rfl⟩
abbrev main_c_7 : Ref sig .tc := ⟨.hbm, 117, rfl⟩
abbrev main_call5_v0 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_c_8 : Ref sig .tc := ⟨.hbm, 124, rfl⟩
abbrev main_call6_v0 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74_0 : Ref sig .tc := ⟨.hbm, 130, rfl⟩
abbrev main_v74_1 : Ref sig .tc := ⟨.hbm, 131, rfl⟩
abbrev main_v74_2 : Ref sig .tc := ⟨.hbm, 132, rfl⟩
abbrev main_v74_3 : Ref sig .tc := ⟨.hbm, 133, rfl⟩
abbrev main_v74_4 : Ref sig .tc := ⟨.hbm, 134, rfl⟩
abbrev main_v74_5 : Ref sig .tc := ⟨.hbm, 135, rfl⟩
abbrev main_v74_6 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x2x80x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x1x80x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1920 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S8x8192x1024 : Shape := ⟨3, ![8, 8192, 1024]⟩
abbrev S4x1024 : Shape := ⟨2, ![4, 1024]⟩
abbrev S4x1024x3332 : Shape := ⟨3, ![4, 1024, 3332]⟩
abbrev S4x64 : Shape := ⟨2, ![4, 64]⟩
abbrev S4x4 : Shape := ⟨2, ![4, 4]⟩
abbrev S1x1024 : Shape := ⟨2, ![1, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024x3332 : Shape := ⟨3, ![1, 1024, 3332]⟩
abbrev S1024x3332 : Shape := ⟨2, ![1024, 3332]⟩
abbrev S8x8192x3332 : Shape := ⟨3, ![8, 8192, 3332]⟩
abbrev S8x8192x768 : Shape := ⟨3, ![8, 8192, 768]⟩
abbrev S8x8192x772 : Shape := ⟨3, ![8, 8192, 772]⟩
abbrev S8x8192x1792 : Shape := ⟨3, ![8, 8192, 1792]⟩
abbrev S8x8192x256 : Shape := ⟨3, ![8, 8192, 256]⟩
abbrev S8x8192x4x64 : Shape := ⟨4, ![8, 8192, 4, 64]⟩
abbrev S1x64 : Shape := ⟨2, ![1, 64]⟩
abbrev S64 : Shape := ⟨1, ![64]⟩
abbrev S8x8192x4 : Shape := ⟨3, ![8, 8192, 4]⟩
abbrev S8x8192x4x1 : Shape := ⟨4, ![8, 8192, 4, 1]⟩
abbrev S1x1x1x64 : Shape := ⟨4, ![1, 1, 1, 64]⟩
abbrev S8x8192x64 : Shape := ⟨3, ![8, 8192, 64]⟩
abbrev S8x8192x1600 : Shape := ⟨3, ![8, 8192, 1600]⟩
abbrev S8x8192x128 : Shape := ⟨3, ![8, 8192, 128]⟩
abbrev S8x8192x1920 : Shape := ⟨3, ![8, 8192, 1920]⟩
abbrev S65536x256 : Shape := ⟨2, ![65536, 256]⟩
abbrev S8x32x256x4x64 : Shape := ⟨5, ![8, 32, 256, 4, 64]⟩
abbrev S8x4x32x64x256 : Shape := ⟨5, ![8, 4, 32, 64, 256]⟩
abbrev S8x4x32x1x256 : Shape := ⟨5, ![8, 4, 32, 1, 256]⟩
abbrev S8x4x32x15x256 : Shape := ⟨5, ![8, 4, 32, 15, 256]⟩
abbrev S8x4x32x80x256 : Shape := ⟨5, ![8, 4, 32, 80, 256]⟩
abbrev S8x16x512x4x64 : Shape := ⟨5, ![8, 16, 512, 4, 64]⟩
abbrev S8x4x16x64x512 : Shape := ⟨5, ![8, 4, 16, 64, 512]⟩
abbrev S8x4x16x1x512 : Shape := ⟨5, ![8, 4, 16, 1, 512]⟩
abbrev S8x4x16x15x512 : Shape := ⟨5, ![8, 4, 16, 15, 512]⟩
abbrev S8x4x16x80x512 : Shape := ⟨5, ![8, 4, 16, 80, 512]⟩
abbrev S65536x1920 : Shape := ⟨2, ![65536, 1920]⟩

abbrev nBuf : Space → Nat
  | .hbm => 108
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S4x1024, .f32⟩
  | .hbm, ⟨2, _⟩ => ⟨S4x1024x3332, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .hbm, ⟨7, _⟩ => ⟨S4x4, .f32⟩
  | .hbm, ⟨8, _⟩ => ⟨S1x1024, .f32⟩
  | .hbm, ⟨9, _⟩ => ⟨S1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S1x1024x3332, .f32⟩
  | .hbm, ⟨27, _⟩ => ⟨S1024x3332, .f32⟩
  | .hbm, ⟨28, _⟩ => ⟨S8x8192x3332, .f32⟩
  | .hbm, ⟨29, _⟩ => ⟨S8x8192x768, .f32⟩
  | .hbm, ⟨30, _⟩ => ⟨S8x8192x772, .f32⟩
  | .hbm, ⟨31, _⟩ => ⟨S8x8192x1792, .f32⟩
  | .hbm, ⟨32, _⟩ => ⟨S8x8192x256, .f32⟩
  | .hbm, ⟨33, _⟩ => ⟨S8x8192x256, .f32⟩
  | .hbm, ⟨34, _⟩ => ⟨S8x8192x256, .f32⟩
  | .hbm, ⟨35, _⟩ => ⟨S8x8192x4x64, .f32⟩
  | .hbm, ⟨36, _⟩ => ⟨S1x64, .f32⟩
  | .hbm, ⟨37, _⟩ => ⟨S64, .f32⟩
  | .hbm, ⟨38, _⟩ => ⟨S8x8192x4x64, .f32⟩
  | .hbm, ⟨39, _⟩ => ⟨S_, .f32⟩
  | .hbm, ⟨40, _⟩ => ⟨S8x8192x4, .f32⟩
  | .hbm, ⟨41, _⟩ => ⟨S8x8192x4x1, .f32⟩
  | .hbm, ⟨42, _⟩ => ⟨S_, .f32⟩
  | .hbm, ⟨43, _⟩ => ⟨S8x8192x4x1, .f32⟩
  | .hbm, ⟨44, _⟩ => ⟨S8x8192x4x1, .f32⟩
  | .hbm, ⟨45, _⟩ => ⟨S_, .f32⟩
  | .hbm, ⟨46, _⟩ => ⟨S8x8192x4x1, .f32⟩
  | .hbm, ⟨47, _⟩ => ⟨S8x8192x4x1, .f32⟩
  | .hbm, ⟨48, _⟩ => ⟨S8x8192x4x1, .f32⟩
  | .hbm, ⟨49, _⟩ => ⟨S8x8192x4x64, .f32⟩
  | .hbm, ⟨50, _⟩ => ⟨S8x8192x4x64, .f32⟩
  | .hbm, ⟨51, _⟩ => ⟨S1x1x1x64, .f32⟩
  | .hbm, ⟨52, _⟩ => ⟨S8x8192x4x64, .f32⟩
  | .hbm, ⟨53, _⟩ => ⟨S8x8192x4x64, .f32⟩
  | .hbm, ⟨54, _⟩ => ⟨S_, .f32⟩
  | .hbm, ⟨55, _⟩ => ⟨S8x8192x4x64, .f32⟩
  | .hbm, ⟨56, _⟩ => ⟨S8x8192x4x64, .f32⟩
  | .hbm, ⟨57, _⟩ => ⟨S8x8192x4x64, .f32⟩
  | .hbm, ⟨58, _⟩ => ⟨S1x64, .f32⟩
  | .hbm, ⟨59, _⟩ => ⟨S64, .f32⟩
  | .hbm, ⟨60, _⟩ => ⟨S8x8192x4x64, .f32⟩
  | .hbm, ⟨61, _⟩ => ⟨S_, .f32⟩
  | .hbm, ⟨62, _⟩ => ⟨S8x8192x4, .f32⟩
  | .hbm, ⟨63, _⟩ => ⟨S8x8192x4x1, .f32⟩
  | .hbm, ⟨64, _⟩ => ⟨S_, .f32⟩
  | .hbm, ⟨65, _⟩ => ⟨S8x8192x4x1, .f32⟩
  | .hbm, ⟨66, _⟩ => ⟨S8x8192x4x1, .f32⟩
  | .hbm, ⟨67, _⟩ => ⟨S_, .f32⟩
  | .hbm, ⟨68, _⟩ => ⟨S8x8192x4x1, .f32⟩
  | .hbm, ⟨69, _⟩ => ⟨S8x8192x4x1, .f32⟩
  | .hbm, ⟨70, _⟩ => ⟨S8x8192x4x1, .f32⟩
  | .hbm, ⟨71, _⟩ => ⟨S8x8192x4x64, .f32⟩
  | .hbm, ⟨72, _⟩ => ⟨S8x8192x4x64, .f32⟩
  | .hbm, ⟨73, _⟩ => ⟨S1x1x1x64, .f32⟩
  | .hbm, ⟨74, _⟩ => ⟨S8x8192x4x64, .f32⟩
  | .hbm, ⟨75, _⟩ => ⟨S8x8192x4x64, .f32⟩
  | .hbm, ⟨76, _⟩ => ⟨S8x8192x256, .f32⟩
  | .hbm, ⟨77, _⟩ => ⟨S_, .f32⟩
  | .hbm, ⟨78, _⟩ => ⟨S8x8192x64, .f32⟩
  | .hbm, ⟨79, _⟩ => ⟨S8x8192x1600, .f32⟩
  | .hbm, ⟨80, _⟩ => ⟨S8x8192x64, .f32⟩
  | .hbm, ⟨81, _⟩ => ⟨S8x8192x128, .f32⟩
  | .hbm, ⟨82, _⟩ => ⟨S8x8192x1920, .f32⟩
  | .hbm, ⟨83, _⟩ => ⟨S65536x256, .f32⟩
  | .hbm, ⟨84, _⟩ => ⟨S65536x256, .bf16⟩
  | .hbm, ⟨85, _⟩ => ⟨S65536x256, .f32⟩
  | .hbm, ⟨86, _⟩ => ⟨S65536x256, .bf16⟩
  | .hbm, ⟨87, _⟩ => ⟨S8x32x256x4x64, .f32⟩
  | .hbm, ⟨88, _⟩ => ⟨S8x4x32x64x256, .f32⟩
  | .hbm, ⟨89, _⟩ => ⟨S8x4x32x1x256, .f32⟩
  | .hbm, ⟨90, _⟩ => ⟨S_, .f32⟩
  | .hbm, ⟨91, _⟩ => ⟨S8x4x32x1x256, .f32⟩
  | .hbm, ⟨92, _⟩ => ⟨S8x4x32x15x256, .f32⟩
  | .hbm, ⟨93, _⟩ => ⟨S_, .f32⟩
  | .hbm, ⟨94, _⟩ => ⟨S8x4x32x15x256, .f32⟩
  | .hbm, ⟨95, _⟩ => ⟨S8x4x32x80x256, .f32⟩
  | .hbm, ⟨96, _⟩ => ⟨S8x4x32x80x256, .bf16⟩
  | .hbm, ⟨97, _⟩ => ⟨S8x16x512x4x64, .f32⟩
  | .hbm, ⟨98, _⟩ => ⟨S8x4x16x64x512, .f32⟩
  | .hbm, ⟨99, _⟩ => ⟨S8x4x16x1x512, .f32⟩
  | .hbm, ⟨100, _⟩ => ⟨S_, .f32⟩
  | .hbm, ⟨101, _⟩ => ⟨S8x4x16x1x512, .f32⟩
  | .hbm, ⟨102, _⟩ => ⟨S8x4x16x15x512, .f32⟩
  | .hbm, ⟨103, _⟩ => ⟨S_, .f32⟩
  | .hbm, ⟨104, _⟩ => ⟨S8x4x16x15x512, .f32⟩
  | .hbm, ⟨105, _⟩ => ⟨S8x4x16x80x512, .f32⟩
  | .hbm, ⟨106, _⟩ => ⟨S8x4x16x80x512, .bf16⟩
  | .hbm, ⟨107, _⟩ => ⟨S65536x1920, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== Proof.FoxIdealTrip.lean ====
/- One trip of the forgetting attention's loop over pairs of key tiles, the buffers' contents before
   each trip, and the loop's invariant. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- Trip `k` of the loop, from any maxima, sums, even scores and even score maxima: the pieces it writes into these
    buffers, with the run that writes them. The buffers of the odd scores are written before they are read, so
    that what they held is of no account. -/
@[irreducible] noncomputable def trip (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole)
    (arg1 : BitVec 32) (v1 v3 v5 v7 v55 : FVec F S512x128 .bf16) (cst_45 : FVec F S512x512 .f32) (k : Fin (k0_t1_loop i).trips)
    (x3 : Vec F S1x8192x512 .bf16) (x4 : Vec F S1x4x16x80x512 .bf16) (y6 : Vec F S4x1x512 .f32) (y7 : Vec F S4x80x512 .f32) (y8 : Vec F S4x512x512 .f32) (y10 : Vec F S4x1x512 .f32) :
    Σ' (L6 : List (View.Piece (Elt F) S4x1x512 .f32)), Σ' (L7 : List (View.Piece (Elt F) S4x80x512 .f32)), Σ' (L8 : List (View.Piece (Elt F) S4x512x512 .f32)), { L10 : List (View.Piece (Elt F) S4x1x512 .f32) //
      ∀ (E : Set ℕ) (K : Unit → sProp 𝕄),
        iprop(owns (c : Thread nD τ) arg3 fullShare x3 ∗ owns (c : Thread nD τ) arg4 fullShare x4 ∗ owns (c : Thread nD τ) arg6 fullShare y6 ∗ owns (c : Thread nD τ) arg7 fullShare y7 ∗ owns (c : Thread nD τ) arg8 fullShare y8 ∗ owns (c : Thread nD τ) arg10 fullShare y10 ∗ (∃ d, owns (c : Thread nD τ) arg9 fullShare d) ∗ (∃ d, owns (c : Thread nD τ) arg11 fullShare d)
            ∗ (iprop(owns (c : Thread nD τ) arg3 fullShare x3 ∗ owns (c : Thread nD τ) arg4 fullShare x4 ∗ (arg6.view.loc (c : Thread nD τ) ↦[arg6.view.set]{fullShare} arg6.view.writes (Elt F) (harg6.unread y6) L6) ∗ (arg7.view.loc (c : Thread nD τ) ↦[arg7.view.set]{fullShare} arg7.view.writes (Elt F) (harg7.unread y7) L7) ∗ (arg8.view.loc (c : Thread nD τ) ↦[arg8.view.set]{fullShare} arg8.view.writes (Elt F) (harg8.unread y8) L8) ∗ (arg10.view.loc (c : Thread nD τ) ↦[arg10.view.set]{fullShare} arg10.view.writes (Elt F) (harg10.unread y10) L10) ∗ (∃ d, owns (c : Thread nD τ) arg9 fullShare d) ∗ (∃ d, owns (c : Thread nD τ) arg11 fullShare d)) -∗ K ()))
          ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg1 v1 v3 v5 v7 v55 cst_45 k ()) K } := by
  refine ⟨?_, ?_, ?_, ?_, fun E K => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f3, %hf3, H3⟩, ⟨%f4, %hf4, H4⟩, ⟨%f6, %hf6, H6⟩, ⟨%f7, %hf7, H7⟩, ⟨%f8, %hf8, H8⟩, ⟨%f10, %hf10, H10⟩, ⟨%d9, %f9, -, H9⟩, ⟨%d11, %f11, -, H11⟩, Hk⟩
    obtain rfl := harg3.eq_unread hf3; obtain rfl := harg4.eq_unread hf4; obtain rfl := harg6.eq_unread hf6; obtain rfl := harg7.eq_unread hf7; obtain rfl := harg8.eq_unread hf8; obtain rfl := harg10.eq_unread hf10
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H6]; · iexact H6
    isplitl [H7]; · iexact H7
    isplitl [H8]; · iexact H8
    isplitl [H10]; · iexact H10
    isplitl [H9]
    · iexists _, _; isplitr; swap; · iexact H9
      ipureintro; rfl
    iexists _, _; isplitr; swap; · iexact H11
    ipureintro; rfl

/-- The contents that a trip passes on: maxima, sums, even scores, even score maxima. -/
structure Carry (F : FTy → Type) (arg6 : Memref sig .tc .vmem S4x1x512 .f32) (arg7 : Memref sig .tc .vmem S4x80x512 .f32) (arg8 : Memref sig .tc .vmem S4x512x512 .f32) (arg10 : Memref sig .tc .vmem S4x1x512 .f32) where
  g6 : arg6.view.ty.Contents (Elt F)
  g7 : arg7.view.ty.Contents (Elt F)
  g8 : arg8.view.ty.Contents (Elt F)
  g10 : arg10.view.ty.Contents (Elt F)

/-- What trip `k` leaves, from the contents before it. -/
@[irreducible] def next (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole)
    (arg1 : BitVec 32) (v1 v3 v5 v7 v55 : FVec F S512x128 .bf16) (cst_45 : FVec F S512x512 .f32) (x3 : Vec F S1x8192x512 .bf16) (x4 : Vec F S1x4x16x80x512 .bf16) (k : Fin (k0_t1_loop i).trips)
    (s : Carry F arg6 arg7 arg8 arg10) : Carry F arg6 arg7 arg8 arg10 :=
  let t := trip c i arg2 harg2 arg3 harg3 arg4 harg4 arg5 harg5 arg6 harg6 arg7 harg7 arg8 harg8 arg9 harg9 arg10 harg10 arg11 harg11 arg1 v1 v3 v5 v7 v55 cst_45 k x3 x4 (arg6.view.read (Elt F) s.g6) (arg7.view.read (Elt F) s.g7) (arg8.view.read (Elt F) s.g8) (arg10.view.read (Elt F) s.g10)
  ⟨arg6.view.writes (Elt F) (harg6.unread (arg6.view.read (Elt F) s.g6)) t.1, arg7.view.writes (Elt F) (harg7.unread (arg7.view.read (Elt F) s.g7)) t.2.1, arg8.view.writes (Elt F) (harg8.unread (arg8.view.read (Elt F) s.g8)) t.2.2.1, arg10.view.writes (Elt F) (harg10.unread (arg10.view.read (Elt F) s.g10)) t.2.2.2.1⟩

/-- The contents before trip `k`. -/
def carry (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole)
    (arg1 : BitVec 32) (v1 v3 v5 v7 v55 : FVec F S512x128 .bf16) (cst_45 : FVec F S512x512 .f32) (x3 : Vec F S1x8192x512 .bf16) (x4 : Vec F S1x4x16x80x512 .bf16)
    (s : Carry F arg6 arg7 arg8 arg10) : ℕ → Carry F arg6 arg7 arg8 arg10
  | 0 => s
  | k + 1 => if h : k < (k0_t1_loop i).trips then
      next c i arg2 harg2 arg3 harg3 arg4 harg4 arg5 harg5 arg6 harg6 arg7 harg7 arg8 harg8 arg9 harg9 arg10 harg10 arg11 harg11 arg1 v1 v3 v5 v7 v55 cst_45 x3 x4 ⟨k, h⟩ (carry c i arg2 harg2 arg3 harg3 arg4 harg4 arg5 harg5 arg6 harg6 arg7 harg7 arg8 harg8 arg9 harg9 arg10 harg10 arg11 harg11 arg1 v1 v3 v5 v7 v55 cst_45 x3 x4 s k)
    else carry c i arg2 harg2 arg3 harg3 arg4 harg4 arg5 harg5 arg6 harg6 arg7 harg7 arg8 harg8 arg9 harg9 arg10 harg10 arg11 harg11 arg1 v1 v3 v5 v7 v55 cst_45 x3 x4 s k

theorem carry_succ (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole)
    (arg1 : BitVec 32) (v1 v3 v5 v7 v55 : FVec F S512x128 .bf16) (cst_45 : FVec F S512x512 .f32) (x3 : Vec F S1x8192x512 .bf16) (x4 : Vec F S1x4x16x80x512 .bf16)
    (s : Carry F arg6 arg7 arg8 arg10) (k : Fin (k0_t1_loop i).trips) :
    carry c i arg2 harg2 arg3 harg3 arg4 harg4 arg5 harg5 arg6 harg6 arg7 harg7 arg8 harg8 arg9 harg9 arg10 harg10 arg11 harg11 arg1 v1 v3 v5 v7 v55 cst_45 x3 x4 s (k.val + 1) = next c i arg2 harg2 arg3 harg3 arg4 harg4 arg5 harg5 arg6 harg6 arg7 harg7 arg8 harg8 arg9 harg9 arg10 harg10 arg11 harg11 arg1 v1 v3 v5 v7 v55 cst_45 x3 x4 k (carry c i arg2 harg2 arg3 harg3 arg4 harg4 arg5 harg5 arg6 harg6 arg7 harg7 arg8 harg8 arg9 harg9 arg10 harg10 arg11 harg11 arg1 v1 v3 v5 v7 v55 cst_45 x3 x4 s k.val) :=
  dif_pos k.isLt

/-- A buffer's contents before trip `k`, those at the loop's entry spelt out. -/
abbrev before {α : Type} (a : α) (f : ℕ → α) (k : ℕ) : α :=
  match k with
  | 0 => a
  | n + 1 => f (n + 1)

theorem before_eq {α : Type} (a : α) (f : ℕ → α) (h : f 0 = a) (k : ℕ) : before a f k = f k := by
  cases k with
  | zero => exact h.symm
  | succ n => rfl

/-- The buffers before trip `k`. -/
abbrev inv (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole)
    (arg1 : BitVec 32) (v1 v3 v5 v7 v55 : FVec F S512x128 .bf16) (cst_45 : FVec F S512x512 .f32) (x3 : Vec F S1x8192x512 .bf16) (x4 : Vec F S1x4x16x80x512 .bf16)
    (G6 : arg6.view.ty.Contents (Elt F)) (G7 : arg7.view.ty.Contents (Elt F)) (G8 : arg8.view.ty.Contents (Elt F)) (G10 : arg10.view.ty.Contents (Elt F)) (k : ℕ) : sProp 𝕄 :=
  iprop((arg3.view.loc (c : Thread nD τ) ↦[arg3.view.set]{fullShare} harg3.unread x3) ∗ (arg4.view.loc (c : Thread nD τ) ↦[arg4.view.set]{fullShare} harg4.unread x4)
    ∗ (∃ f, (arg6.view.loc (c : Thread nD τ) ↦[arg6.view.set]{fullShare} f) ∗ ⌜f = before G6 (fun n => (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ n).g6) k⌝) ∗ (∃ f, (arg7.view.loc (c : Thread nD τ) ↦[arg7.view.set]{fullShare} f) ∗ ⌜f = before G7 (fun n => (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ n).g7) k⌝) ∗ (∃ f, (arg8.view.loc (c : Thread nD τ) ↦[arg8.view.set]{fullShare} f) ∗ ⌜f = before G8 (fun n => (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ n).g8) k⌝) ∗ (∃ f, (arg10.view.loc (c : Thread nD τ) ↦[arg10.view.set]{fullShare} f) ∗ ⌜f = before G10 (fun n => (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ n).g10) k⌝)
    ∗ (∃ f, (arg9.view.loc (c : Thread nD τ) ↦[arg9.view.set]{fullShare} f)) ∗ (∃ f, (arg11.view.loc (c : Thread nD τ) ↦[arg11.view.set]{fullShare} f)))

set_option maxHeartbeats 4000000 in
theorem inv_step (E : Set ℕ) (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole)
    (arg1 : BitVec 32) (v1 v3 v5 v7 v55 : FVec F S512x128 .bf16) (cst_45 : FVec F S512x512 .f32) (x3 : Vec F S1x8192x512 .bf16) (x4 : Vec F S1x4x16x80x512 .bf16)
    (G6 : arg6.view.ty.Contents (Elt F)) (G7 : arg7.view.ty.Contents (Elt F)) (G8 : arg8.view.ty.Contents (Elt F)) (G10 : arg10.view.ty.Contents (Elt F)) (k : Fin (k0_t1_loop i).trips) :
    inv c i arg2 harg2 arg3 harg3 arg4 harg4 arg5 harg5 arg6 harg6 arg7 harg7 arg8 harg8 arg9 harg9 arg10 harg10 arg11 harg11 arg1 v1 v3 v5 v7 v55 cst_45 x3 x4 G6 G7 G8 G10 k.val
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg1 v1 v3 v5 v7 v55 cst_45 k ())
          (fun _ => inv c i arg2 harg2 arg3 harg3 arg4 harg4 arg5 harg5 arg6 harg6 arg7 harg7 arg8 harg8 arg9 harg9 arg10 harg10 arg11 harg11 arg1 v1 v3 v5 v7 v55 cst_45 x3 x4 G6 G7 G8 G10 (k.val + 1)) := by
  unfold inv
  rw [before_eq G6 _ rfl k.val, before_eq G7 _ rfl k.val, before_eq G8 _ rfl k.val, before_eq G10 _ rfl k.val,
    before_eq G6 _ rfl (k.val + 1), before_eq G7 _ rfl (k.val + 1), before_eq G8 _ rfl (k.val + 1), before_eq G10 _ rfl (k.val + 1),
    carry_succ]
  generalize carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ k.val = s
  unfold next
  iintro ⟨H3, H4, ⟨%f6, H6, %h6⟩, ⟨%f7, H7, %h7⟩, ⟨%f8, H8, %h8⟩, ⟨%f10, H10, %h10⟩, ⟨%f9, H9⟩, ⟨%f11, H11⟩⟩
  subst h6 h7 h8 h10
  iapply ((trip c i arg2 harg2 arg3 harg3 arg4 harg4 arg5 harg5 arg6 harg6 arg7 harg7 arg8 harg8 arg9 harg9 arg10 harg10 arg11 harg11 arg1 v1 v3 v5 v7 v55 cst_45 k x3 x4 (arg6.view.read (Elt F) s.g6) (arg7.view.read (Elt F) s.g7) (arg8.view.read (Elt F) s.g8) (arg10.view.read (Elt F) s.g10)).2.2.2.2 E _)
  unfold owns
  isplitl [H3]
  · iexists _; isplitr; swap; · iexact H3
    ipureintro; exact harg3.read_unread _
  isplitl [H4]
  · iexists _; isplitr; swap; · iexact H4
    ipureintro; exact harg4.read_unread _
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H10]
  · iexists _; isplitr; swap; · iexact H10
    ipureintro; rfl
  isplitl [H9]
  · iexists _, _; isplitr; swap; · iexact H9
    ipureintro; rfl
  isplitl [H11]
  · iexists _, _; isplitr; swap; · iexact H11
    ipureintro; rfl
  iintro ⟨⟨%e3, %he3, H3⟩, ⟨%e4, %he4, H4⟩, H6, H7, H8, H10, ⟨%d9, %e9, -, H9⟩, ⟨%d11, %e11, -, H11⟩⟩
  obtain rfl := harg3.eq_unread he3; obtain rfl := harg4.eq_unread he4
  isplitl [H3]; · iexact H3
  isplitl [H4]; · iexact H4
  isplitl [H6]
  · iexists _; isplitl; · iexact H6
    ipureintro; rfl
  isplitl [H7]
  · iexists _; isplitl; · iexact H7
    ipureintro; rfl
  isplitl [H8]
  · iexists _; isplitl; · iexact H8
    ipureintro; rfl
  isplitl [H10]
  · iexists _; isplitl; · iexact H10
    ipureintro; rfl
  isplitl [H9]; · iexists _; iexact H9
  iexists _; iexact H11

/-- The loop over pairs of key tiles. -/
@[sl_loop] def loopInv1 (E : Set ℕ) (c : Dev nD) (x3 : Vec F S1x8192x512 .bf16) (x4 : Vec F S1x4x16x80x512 .bf16) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole)
    (arg1 : BitVec 32) (v1 v3 v5 v7 v55 : FVec F S512x128 .bf16) (cst_45 : FVec F S512x512 .f32)
    (G6 : arg6.view.ty.Contents (Elt F)) (G7 : arg7.view.ty.Contents (Elt F)) (G8 : arg8.view.ty.Contents (Elt F)) (G10 : arg10.view.ty.Contents (Elt F)) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg1 v1 v3 v5 v7 v55 cst_45 where
  inv := fun k _ => inv c i arg2 harg2 arg3 harg3 arg4 harg4 arg5 harg5 arg6 harg6 arg7 harg7 arg8 harg8 arg9 harg9 arg10 harg10 arg11 harg11 arg1 v1 v3 v5 v7 v55 cst_45 x3 x4 G6 G7 G8 G10 k
  step := fun k _ => inv_step E c i arg2 harg2 arg3 harg3 arg4 harg4 arg5 harg5 arg6 harg6 arg7 harg7 arg8 harg8 arg9 harg9 arg10 harg10 arg11 harg11 arg1 v1 v3 v5 v7 v55 cst_45 x3 x4 G6 G7 G8 G10 k

/-- The second printed loop, over the remainder of the trips, has no trip. -/
theorem trips2 (i : grid0.Coords) : (k0_t2_loop i).trips = 0 := by
  unfold k0_t2_loop
  generalize i 1 = j
  revert j
  decide +kernel

end Cert.Proof.KernelIdeal

end
-- ==== Proof.FoxIdealRunA.lean ====
/- The body of the forgetting attention at an even query tile: what it stores into the output's buffer. -/
module

public import proofs.«01_k».proof.Proof.FoxIdealTrip
public import proofs.«01_k».proof.Proof.Gen.KernelIdeal.Points
public import Idealize.ShloMosaic.Lib.Ring
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The query tile's number is even. -/
abbrev cond0 (i : grid0.Coords) : Prop := k0_cond1 i = 1#1
/-- The query tile's number is odd. -/
abbrev cond1 (i : grid0.Coords) : Prop := k0_cond2 i = 1#1

set_option maxHeartbeats 8000000 in
/-- The pieces that the body stores into the output's buffer, with the run that stores them: from the inputs'
    buffers at their blocks and the others at anything, to the inputs' as they were and the scratch at anything. -/
@[irreducible] noncomputable def bodyRunA (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : cond0 i) (hc1 : ¬cond1 i)
    (x0 : Vec F S1x512x512 .bf16) (x1 : Vec F S1x8192x512 .bf16) (x2 : Vec F S1x4x16x80x512 .bf16) :
    { L5 : List (View.Piece (Elt F) S1x512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, (arg5.view.loc (c : Thread nD τ) ↦[arg5.view.set]{fullShare} arg5.view.writes (Elt F) f L5)) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_attn_eq_skeleton]; unfold cc0_fox_attn_skel
    simp only [k0_part33_eq_skeleton, k0_part34_eq_skeleton, k0_part35_eq_skeleton, k0_part36_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2
    have hz := trips2 i
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Proof.KernelIdeal

end
-- ==== Proof.FoxIdealRunB.lean ====
/- The body of the forgetting attention at an odd query tile: what it stores into the output's buffer. -/
module

public import proofs.«01_k».proof.Proof.FoxIdealRunA

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The pieces that the body stores into the output's buffer, with the run that stores them: from the inputs'
    buffers at their blocks and the others at anything, to the inputs' as they were and the scratch at anything. -/
@[irreducible] noncomputable def bodyRunB (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : ¬cond0 i) (hc1 : cond1 i)
    (x0 : Vec F S1x512x512 .bf16) (x1 : Vec F S1x8192x512 .bf16) (x2 : Vec F S1x4x16x80x512 .bf16) :
    { L5 : List (View.Piece (Elt F) S1x512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ (∃ f, (arg5.view.loc (c : Thread nD τ) ↦[arg5.view.set]{fullShare} arg5.view.writes (Elt F) f L5)) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_attn_eq_skeleton]; unfold cc0_fox_attn_skel
    simp only [k0_part33_eq_skeleton, k0_part34_eq_skeleton, k0_part35_eq_skeleton, k0_part36_eq_skeleton, k0_part32_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2
    have hz := trips2 i
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Proof.KernelIdeal

end
-- ==== Proof.FoxIdealFrame.lean ====
/- The frame of the forgetting attention: what each grid point leaves in the output, and the run of the whole call. -/
module

public import proofs.«01_k».proof.Proof.FoxIdealRunB
public import Idealize.ShloMosaic.Lib.Claim
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hcond0 : ∀ t : Fin cfg0.N, cond0 (grid0.coords t) ↔ t.val % 2 = 0 :=
  (by decide +kernel : ∀ t : Fin grid0.N, cond0 (grid0.coords t) ↔ t.val % 2 = 0)
theorem hcond1 : ∀ t : Fin cfg0.N, cond1 (grid0.coords t) ↔ t.val % 2 = 1 :=
  (by decide +kernel : ∀ t : Fin grid0.N, cond1 (grid0.coords t) ↔ t.val % 2 = 1)
theorem not_cond1 (t : Fin cfg0.N) (h : t.val % 2 = 0) : ¬cond1 (grid0.coords t) := fun h' => by
  have := (hcond1 t).mp h'; omega
theorem not_cond0 (t : Fin cfg0.N) (h : t.val % 2 = 1) : ¬cond0 (grid0.coords t) := fun h' => by
  have := (hcond0 t).mp h'; omega

/-- One staging buffer of the output, through which its contents are stated. -/
abbrev VO : View sig .tc .vmem S1x512x256 .bf16 := (Memref.whole cc0_stg3_0 : Memref sig .tc .vmem S1x512x256 .bf16).view
abbrev ms0 (t : Fin cfg0.N) : Memref sig .tc .vmem S1x512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4x16x80x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x256 .bf16 := win0_3.stage (cfg0.slots t 3)
abbrev hs3 (t : Fin cfg0.N) : (ms3 t).IsWhole := hstage0_3 ((cfg0.slots t 3).cast nbuf0_3)
abbrev sc0 : Memref sig .tc .vmem S4x1x512 .f32 := Memref.whole cc0_scratch0
abbrev sc1 : Memref sig .tc .vmem S4x80x512 .f32 := Memref.whole cc0_scratch1
abbrev sc2 : Memref sig .tc .vmem S4x512x512 .f32 := Memref.whole cc0_scratch2
abbrev sc3 : Memref sig .tc .vmem S4x512x512 .f32 := Memref.whole cc0_scratch3
abbrev sc4 : Memref sig .tc .vmem S4x1x512 .f32 := Memref.whole cc0_scratch4
abbrev sc5 : Memref sig .tc .vmem S4x1x512 .f32 := Memref.whole cc0_scratch5

/-- The invariant between grid points: every scratch buffer at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The one piece stored is the whole block. -/
theorem coverA (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : cond0 i) (hc1 : ¬cond1 i)
    (x0 : Vec F S1x512x512 .bf16) (x1 : Vec F S1x8192x512 .bf16) (x2 : Vec F S1x4x16x80x512 .bf16) (y : S1x512x256.Idx) :
    ∃ pc ∈ (bodyRunA c i arg2 harg2 arg3 harg3 arg4 harg4 arg5 harg5 arg6 harg6 arg7 harg7 arg8 harg8 arg9 harg9 arg10 harg10 arg11 harg11 hc0 hc1 x0 x1 x2).1, y ∈ pc.1.set :=
  View.cover_of_tiledL (bodyRunA c i arg2 harg2 arg3 harg3 arg4 harg4 arg5 harg5 arg6 harg6 arg7 harg7 arg8 harg8 arg9 harg9 arg10 harg10 arg11 harg11 hc0 hc1 x0 x1 x2).1 S1x512x256.size (by unfold bodyRunA; sl_kernel_rfl) y

/-- The block that the body leaves. -/
def outA (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : cond0 i) (hc1 : ¬cond1 i)
    (x0 : Vec F S1x512x512 .bf16) (x1 : Vec F S1x8192x512 .bf16) (x2 : Vec F S1x4x16x80x512 .bf16) : Vec F S1x512x256 .bf16 :=
  VO.read (Elt F) (VO.writes (Elt F) VO.junk (bodyRunA c i arg2 harg2 arg3 harg3 arg4 harg4 arg5 harg5 arg6 harg6 arg7 harg7 arg8 harg8 arg9 harg9 arg10 harg10 arg11 harg11 hc0 hc1 x0 x1 x2).1)

/-- The one piece stored is the whole block. -/
theorem coverB (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : ¬cond0 i) (hc1 : cond1 i)
    (x0 : Vec F S1x512x512 .bf16) (x1 : Vec F S1x8192x512 .bf16) (x2 : Vec F S1x4x16x80x512 .bf16) (y : S1x512x256.Idx) :
    ∃ pc ∈ (bodyRunB c i arg2 harg2 arg3 harg3 arg4 harg4 arg5 harg5 arg6 harg6 arg7 harg7 arg8 harg8 arg9 harg9 arg10 harg10 arg11 harg11 hc0 hc1 x0 x1 x2).1, y ∈ pc.1.set :=
  View.cover_of_tiledL (bodyRunB c i arg2 harg2 arg3 harg3 arg4 harg4 arg5 harg5 arg6 harg6 arg7 harg7 arg8 harg8 arg9 harg9 arg10 harg10 arg11 harg11 hc0 hc1 x0 x1 x2).1 S1x512x256.size (by unfold bodyRunB; sl_kernel_rfl) y

/-- The block that the body leaves. -/
def outB (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : ¬cond0 i) (hc1 : cond1 i)
    (x0 : Vec F S1x512x512 .bf16) (x1 : Vec F S1x8192x512 .bf16) (x2 : Vec F S1x4x16x80x512 .bf16) : Vec F S1x512x256 .bf16 :=
  VO.read (Elt F) (VO.writes (Elt F) VO.junk (bodyRunB c i arg2 harg2 arg3 harg3 arg4 harg4 arg5 harg5 arg6 harg6 arg7 harg7 arg8 harg8 arg9 harg9 arg10 harg10 arg11 harg11 hc0 hc1 x0 x1 x2).1)

/-- The output's block after the body at point `t`. -/
def outsAt (c : Dev nD) (t : Fin cfg0.N) : Vec F S1x512x256 .bf16 :=
  if h : t.val % 2 = 0 then
    outA c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) ((hcond0 t).mpr (h)) (not_cond1 t (h)) (iblk m c 0 t) (iblk m c 1 t) (iblk m c 2 t)
  else
    outB c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) (not_cond0 t (Nat.mod_two_ne_zero.mp h)) ((hcond1 t).mpr (Nat.mod_two_ne_zero.mp h)) (iblk m c 0 t) (iblk m c 1 t) (iblk m c 2 t)

theorem outsAt_A (c : Dev nD) (t : Fin cfg0.N) (h : t.val % 2 = 0) :
    outsAt m c t = outA c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) ((hcond0 t).mpr (h)) (not_cond1 t (h)) (iblk m c 0 t) (iblk m c 1 t) (iblk m c 2 t) :=
  dif_pos h

theorem outsAt_B (c : Dev nD) (t : Fin cfg0.N) (h : t.val % 2 = 1) :
    outsAt m c t = outB c (grid0.coords t) (ms0 t) (hs0 t) (ms1 t) (hs1 t) (ms2 t) (hs2 t) (ms3 t) (hs3 t) sc0 (Memref.isWhole_whole _) sc1 (Memref.isWhole_whole _) sc2 (Memref.isWhole_whole _) sc3 (Memref.isWhole_whole _) sc4 (Memref.isWhole_whole _) sc5 (Memref.isWhole_whole _) (not_cond0 t (h)) ((hcond1 t).mpr (h)) (iblk m c 0 t) (iblk m c 1 t) (iblk m c 2 t) :=
  dif_neg (by omega)

/-- The pipeline's proof data: the inputs' buffers at their blocks, the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outsAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t))

set_option maxHeartbeats 1600000 in
/-- The body at any point: the inputs' buffers hold their blocks, and the run of the case that the point is in applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, PhiA_eq]
  by_cases h : t.val % 2 = 0
  · rw [outsAt_A m c t h]
    unfold outA
    iintro ⟨⟨⟨HS0, HS1, HS2, HS3, HS4, HS5⟩, Hg⟩, Ho, ⟨%d0, H0⟩, ⟨%d1, H1⟩, ⟨%d2, H2⟩, ⟨%d3, H3⟩⟩
    iapply ((bodyRunA c (grid0.coords t) _ _ _ _ _ _ _ _ _ _ _ _ _ _ _ _ _ _ _ _ ((hcond0 t).mpr (h)) (not_cond1 t (h)) (iblk m c 0 t) (iblk m c 1 t) (iblk m c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _ _ _ _ _ _ _ _ _ _ _ _)
  · rw [outsAt_B m c t (Nat.mod_two_ne_zero.mp h)]
    unfold outB
    iintro ⟨⟨⟨HS0, HS1, HS2, HS3, HS4, HS5⟩, Hg⟩, Ho, ⟨%d0, H0⟩, ⟨%d1, H1⟩, ⟨%d2, H2⟩, ⟨%d3, H3⟩⟩
    iapply ((bodyRunB c (grid0.coords t) _ _ _ _ _ _ _ _ _ _ _ _ _ _ _ _ _ _ _ _ (not_cond0 t (Nat.mod_two_ne_zero.mp h)) ((hcond1 t).mpr (Nat.mod_two_ne_zero.mp h)) (iblk m c 0 t) (iblk m c 1 t) (iblk m c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the call, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-! ## The final array block by block -/

theorem flushed3 (c : Dev nD) (t : Fin cfg0.N) :
    (dats m 0 c).flushed 3 t = (cfg0.win 3).cut (grid0.coords t) (outsAt m c t) := by
  show (cfg0.win 3).cut (grid0.coords t) ((dats m 0 c).after 3 t) = _
  rw [after3]

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Block `t` of the final array is what point `t` left. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- The run, with the result named and the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩)
    (run_main m ρ)

end Cert.Proof.KernelIdeal

end
-- ==== Proof.FoxStage.lean ====
/- What a trip of the loop and the whole body leave, head by head, as named stages of what they read. -/
module

public import proofs.«01_k».proof.Proof.FoxIdealFrame
public import Idealize.ShloMosaic.Lib.Pipeline.ValueKit
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## One head of an array with a leading axis of heads -/

theorem inb_head {a b : ℕ} (h : Fin 4) : ∀ x, (![h.val, 0, 0] : Fin 3 → ℕ) x + (![1, a, b] : Fin 3 → ℕ) x ≤ (![4, a, b] : Fin 3 → ℕ) x := by
  have := h.isLt
  intro x; fin_cases x
  · show h.val + 1 ≤ 4; omega
  · show 0 + a ≤ a; omega
  · show 0 + b ≤ b; omega

/-- The part of head `h`. -/
abbrev headR (a b : ℕ) (h : Fin 4) : Rect (⟨3, ![4, a, b]⟩ : Shape) := Rect.unit (s := ⟨3, ![4, a, b]⟩) ![h.val, 0, 0] ![1, a, b] (inb_head h)

/-- What an array holds of head `h`. -/
def hd {a b : ℕ} {e : EltTy} (y : Vec F (⟨3, ![4, a, b]⟩ : Shape) e) (h : Fin 4) : Vec F (⟨3, ![1, a, b]⟩ : Shape) e := View.ld y (headR a b h)

/-- A store of each head, the last head stored last. -/
def heads {a b : ℕ} {e : EltTy} (p : Fin 4 → Vec F (⟨3, ![1, a, b]⟩ : Shape) e) (L : List (View.Piece (Elt F) (⟨3, ![4, a, b]⟩ : Shape) e)) : List (View.Piece (Elt F) (⟨3, ![4, a, b]⟩ : Shape) e) :=
  ⟨headR a b 3, p 3⟩ :: ⟨headR a b 2, p 2⟩ :: ⟨headR a b 1, p 1⟩ :: ⟨headR a b 0, p 0⟩ :: L

theorem hd_writes_hit {sig : RefSig} {κ : Kind} {sp : Space} {a b : ℕ} {e : EltTy} (v : View sig κ sp (⟨3, ![4, a, b]⟩ : Shape) e) (f : v.ty.Contents (Elt F)) (h : Fin 4)
    (x : Vec F (⟨3, ![1, a, b]⟩ : Shape) e) (L : List (View.Piece (Elt F) (⟨3, ![4, a, b]⟩ : Shape) e)) :
    hd (v.read (Elt F) (v.writes (Elt F) f (⟨headR a b h, x⟩ :: L))) h = x := by
  funext j
  exact View.read_writes_cons_unit_of_mem v f (inb_head h) x L _ j rfl fun ax => Rect.idx_unit_val _ _ _ j ax

theorem hd_writes_skip {sig : RefSig} {κ : Kind} {sp : Space} {a b : ℕ} {e : EltTy} (v : View sig κ sp (⟨3, ![4, a, b]⟩ : Shape) e) (f : v.ty.Contents (Elt F)) (h h' : Fin 4) (hne : h ≠ h')
    (x : Vec F (⟨3, ![1, a, b]⟩ : Shape) e) (L : List (View.Piece (Elt F) (⟨3, ![4, a, b]⟩ : Shape) e)) :
    hd (v.read (Elt F) (v.writes (Elt F) f (⟨headR a b h, x⟩ :: L))) h' = hd (v.read (Elt F) (v.writes (Elt F) f L)) h' := by
  funext j
  refine View.read_writes_cons_unit_of_not_mem v f (inb_head h) x L _ rfl 0 ?_
  have e : ((headR a b h').emb j 0).val = h'.val + (j 0).val := Rect.idx_unit_val (s := ⟨3, ![4, a, b]⟩) ![h'.val, 0, 0] ![1, a, b] (inb_head h') j 0
  have hj : (j 0).val < 1 := (j 0).isLt
  have hn : h.val ≠ h'.val := fun hv => hne (Fin.ext hv)
  show ((headR a b h').emb j 0).val < h.val ∨ h.val + 1 ≤ ((headR a b h').emb j 0).val
  rw [e]; omega

/-- Reading head `h` back after a store of every head. -/
theorem hd_heads {sig : RefSig} {κ : Kind} {sp : Space} {a b : ℕ} {e : EltTy} (v : View sig κ sp (⟨3, ![4, a, b]⟩ : Shape) e) (f : v.ty.Contents (Elt F))
    (p : Fin 4 → Vec F (⟨3, ![1, a, b]⟩ : Shape) e) (L : List (View.Piece (Elt F) (⟨3, ![4, a, b]⟩ : Shape) e)) (h : Fin 4) :
    hd (v.read (Elt F) (v.writes (Elt F) f (heads p L))) h = p h := by
  unfold heads
  fin_cases h
  · rw [hd_writes_skip _ _ 3 _ (by decide), hd_writes_skip _ _ 2 _ (by decide), hd_writes_skip _ _ 1 _ (by decide)]; exact hd_writes_hit _ _ _ _ _
  · rw [hd_writes_skip _ _ 3 _ (by decide), hd_writes_skip _ _ 2 _ (by decide)]; exact hd_writes_hit _ _ _ _ _
  · rw [hd_writes_skip _ _ 3 _ (by decide)]; exact hd_writes_hit _ _ _ _ _
  · exact hd_writes_hit _ _ _ _ _

/-- A load of a head that was stored last is what was stored. -/
theorem readCov_hit {sig : RefSig} {κ : Kind} {sp : Space} {s : Shape} {e : EltTy} (v : View sig κ sp s e) {o z : Fin s.rank → ℕ} (inb inb' : ∀ a, o a + z a ≤ s.size a)
    (x : (Rect.unit o z inb).shape.Idx → Elt F e) (L : List (View.Piece (Elt F) s e)) :
    v.readCov ((⟨Rect.unit o z inb, x⟩ : View.Piece (Elt F) s e) :: L) (Rect.unit o z inb').toLoadRect = x := by
  rw [View.readCov_eq_canon']
  funext j
  exact View.canon_cons_emb _ _ _ _

/-- A load of one head passes over a store of another. -/
theorem readCov_pass {sig : RefSig} {κ : Kind} {sp : Space} {a b h h' : ℕ} {e : EltTy} (v : View sig κ sp (⟨3, ![4, a, b]⟩ : Shape) e)
    (inb : ∀ x, (![h, 0, 0] : Fin 3 → ℕ) x + (![1, a, b] : Fin 3 → ℕ) x ≤ (![4, a, b] : Fin 3 → ℕ) x) (inb' : ∀ x, (![h', 0, 0] : Fin 3 → ℕ) x + (![1, a, b] : Fin 3 → ℕ) x ≤ (![4, a, b] : Fin 3 → ℕ) x)
    (x : (Rect.unit (s := ⟨3, ![4, a, b]⟩) ![h, 0, 0] ![1, a, b] inb).shape.Idx → Elt F e) (L : List (View.Piece (Elt F) (⟨3, ![4, a, b]⟩ : Shape) e)) (hne : h ≠ h') :
    v.readCov ((⟨Rect.unit (s := ⟨3, ![4, a, b]⟩) ![h, 0, 0] ![1, a, b] inb, x⟩ : View.Piece (Elt F) (⟨3, ![4, a, b]⟩ : Shape) e) :: L) (Rect.unit (s := ⟨3, ![4, a, b]⟩) ![h', 0, 0] ![1, a, b] inb').toLoadRect
      = v.readCov L (Rect.unit (s := ⟨3, ![4, a, b]⟩) ![h', 0, 0] ![1, a, b] inb').toLoadRect := by
  rw [View.readCov_eq_canon', View.readCov_eq_canon']
  funext j
  refine View.canon_cons_of_not_mem _ _ ?_
  rw [Rect.mem_set_unit]
  intro hm
  have h1 := hm 0
  have hj : (j 0).val < 1 := (j 0).isLt
  have h2 : h ≤ h' + 1 * (j 0).val ∧ h' + 1 * (j 0).val < h + 1 := h1
  omega

/-! ## Tiles of keys and values -/

theorem inb_key (t : Fin 16) (h : Fin 4) : ∀ x, (![0, 512 * t.val, 128 * h.val] : Fin 3 → ℕ) x + (![1, 512, 128] : Fin 3 → ℕ) x ≤ (![1, 8192, 512] : Fin 3 → ℕ) x := by
  have := h.isLt; have := t.isLt
  intro x; fin_cases x
  · show 0 + 1 ≤ 1; omega
  · show 512 * t.val + 512 ≤ 8192; omega
  · show 128 * h.val + 128 ≤ 512; omega

/-- Key tile `t` of head `h`. -/
def keyT (x3 : Vec F S1x8192x512 .bf16) (t : Fin 16) (h : Fin 4) : Vec F S1x512x128 .bf16 :=
  View.ld x3 (Rect.unit (s := S1x8192x512) ![0, 512 * t.val, 128 * h.val] ![1, 512, 128] (inb_key t h))

theorem inb_val (t : Fin 16) (h : Fin 4) : ∀ x, (![0, h.val, t.val, 0, 0] : Fin 5 → ℕ) x + (![1, 1, 1, 80, 512] : Fin 5 → ℕ) x ≤ (![1, 4, 16, 80, 512] : Fin 5 → ℕ) x := by
  have := h.isLt; have := t.isLt
  intro x; fin_cases x
  · show 0 + 1 ≤ 1; omega
  · show h.val + 1 ≤ 4; omega
  · show t.val + 1 ≤ 16; omega
  · show 0 + 80 ≤ 80; omega
  · show 0 + 512 ≤ 512; omega

/-- Value tile `t` of head `h`, with its row of ones. -/
def valT (x4 : Vec F S1x4x16x80x512 .bf16) (t : Fin 16) (h : Fin 4) : Vec F S1x1x1x80x512 .bf16 :=
  View.ld x4 (Rect.unit (s := S1x4x16x80x512) ![0, h.val, t.val, 0, 0] ![1, 1, 1, 80, 512] (inb_val t h))

theorem ld_unit_congr {s : Shape} {e : EltTy} (x : Vec F s e) {o o' : Fin s.rank → ℕ} {z : Fin s.rank → ℕ} (inb : ∀ a, o a + z a ≤ s.size a) (inb' : ∀ a, o' a + z a ≤ s.size a) (h : o = o') :
    View.ld x (Rect.unit o z inb) = View.ld x (Rect.unit o' z inb') := by subst h; rfl

/-- The loop makes half as many trips as there are key tiles before the last. -/
theorem trips1 (i : grid0.Coords) : (k0_t1_loop i).trips = (i 1).val / 2 := by
  unfold k0_t1_loop
  generalize i 1 = j
  revert j
  decide +kernel

theorem trip_lt (i : grid0.Coords) (k : Fin (k0_t1_loop i).trips) : k.val < 8 := by
  have h1 := lt_of_lt_of_eq k.isLt (trips1 i)
  have h2 : (i 1).val < 16 := (i 1).isLt
  omega

/-- The key tile before, at and after a trip's pair. -/
def pairT (i : grid0.Coords) (k : Fin (k0_t1_loop i).trips) (r : Fin 3) : Fin 16 := ⟨(2 * k.val + r.val) % 16, Nat.mod_lt _ (by decide)⟩

theorem rowOff : ∀ (n : Fin 8) (r : Fin 2), (Scalar.indexCast (Scalar.muli (Scalar.addi (Scalar.muli 2#32 (Scf.iv 0#32 1#32 n.val)) (BitVec.ofNat 32 (1 + r.val))) 512#32)).toNat = 512 * (2 * n.val + (1 + r.val)) := by
  decide +kernel

theorem tileOff0 : ∀ (n : Fin 8), (Scalar.indexCast (Scalar.muli 2#32 (Scf.iv 0#32 1#32 n.val))).toNat = 2 * n.val := by
  decide +kernel

theorem tileOff1 : ∀ (n : Fin 8), (Scalar.indexCast (Scalar.addi (Scalar.muli 2#32 (Scf.iv 0#32 1#32 n.val)) 1#32)).toNat = 2 * n.val + 1 := by
  decide +kernel

theorem offK (i : grid0.Coords) (k : Fin (k0_t1_loop i).trips) (r : Fin 2) (d : ℕ) (r' : Fin 3) (hr : r'.val = 1 + r.val) (h : 2 * k.val + r'.val < 16) :
    (![0, (Scalar.indexCast (Scalar.muli (Scalar.addi (Scalar.muli 2#32 (Scf.iv 0#32 1#32 k.val)) (BitVec.ofNat 32 (1 + r.val))) 512#32)).toNat, d] : Fin 3 → ℕ) = ![0, 512 * (pairT i k r').val, d] := by
  have e := rowOff ⟨k.val, trip_lt i k⟩ r
  have e' : (pairT i k r').val = 2 * k.val + (1 + r.val) := by
    show (2 * k.val + r'.val) % 16 = _
    rw [Nat.mod_eq_of_lt h, hr]
  rw [e']; exact congrArg (fun n : ℕ => (![0, n, d] : Fin 3 → ℕ)) e

theorem pair_lt (i : grid0.Coords) (k : Fin (k0_t1_loop i).trips) (r : Fin 3) : 2 * k.val + r.val < 16 := by
  have h1 := lt_of_lt_of_eq k.isLt (trips1 i)
  have h2 : (i 1).val < 16 := (i 1).isLt
  have h3 := r.isLt
  omega

theorem ld_key0_1 (x3 : Vec F S1x8192x512 .bf16) (i : grid0.Coords) (k : Fin (k0_t1_loop i).trips) (inb : ∀ a, k0_off1 i k 1#32 a + (no_index S1x512x128.size) a ≤ S1x8192x512.size a) :
    View.ld x3 (Rect.unit (s := S1x8192x512) (k0_off1 i k 1#32) (no_index S1x512x128.size) inb) = keyT x3 (pairT i k 1) 0 :=
  ld_unit_congr x3 _ _ (offK i k 0 0 1 rfl (pair_lt i k _))
theorem ld_key0_2 (x3 : Vec F S1x8192x512 .bf16) (i : grid0.Coords) (k : Fin (k0_t1_loop i).trips) (inb : ∀ a, k0_off1 i k 2#32 a + (no_index S1x512x128.size) a ≤ S1x8192x512.size a) :
    View.ld x3 (Rect.unit (s := S1x8192x512) (k0_off1 i k 2#32) (no_index S1x512x128.size) inb) = keyT x3 (pairT i k 2) 0 :=
  ld_unit_congr x3 _ _ (offK i k 1 0 2 rfl (pair_lt i k _))
theorem ld_key1_1 (x3 : Vec F S1x8192x512 .bf16) (i : grid0.Coords) (k : Fin (k0_t1_loop i).trips) (inb : ∀ a, k0_off2 i k 1#32 a + (no_index S1x512x128.size) a ≤ S1x8192x512.size a) :
    View.ld x3 (Rect.unit (s := S1x8192x512) (k0_off2 i k 1#32) (no_index S1x512x128.size) inb) = keyT x3 (pairT i k 1) 1 :=
  ld_unit_congr x3 _ _ (offK i k 0 128 1 rfl (pair_lt i k _))
theorem ld_key1_2 (x3 : Vec F S1x8192x512 .bf16) (i : grid0.Coords) (k : Fin (k0_t1_loop i).trips) (inb : ∀ a, k0_off2 i k 2#32 a + (no_index S1x512x128.size) a ≤ S1x8192x512.size a) :
    View.ld x3 (Rect.unit (s := S1x8192x512) (k0_off2 i k 2#32) (no_index S1x512x128.size) inb) = keyT x3 (pairT i k 2) 1 :=
  ld_unit_congr x3 _ _ (offK i k 1 128 2 rfl (pair_lt i k _))
theorem ld_key2_1 (x3 : Vec F S1x8192x512 .bf16) (i : grid0.Coords) (k : Fin (k0_t1_loop i).trips) (inb : ∀ a, k0_off3 i k 1#32 a + (no_index S1x512x128.size) a ≤ S1x8192x512.size a) :
    View.ld x3 (Rect.unit (s := S1x8192x512) (k0_off3 i k 1#32) (no_index S1x512x128.size) inb) = keyT x3 (pairT i k 1) 2 :=
  ld_unit_congr x3 _ _ (offK i k 0 256 1 rfl (pair_lt i k _))
theorem ld_key2_2 (x3 : Vec F S1x8192x512 .bf16) (i : grid0.Coords) (k : Fin (k0_t1_loop i).trips) (inb : ∀ a, k0_off3 i k 2#32 a + (no_index S1x512x128.size) a ≤ S1x8192x512.size a) :
    View.ld x3 (Rect.unit (s := S1x8192x512) (k0_off3 i k 2#32) (no_index S1x512x128.size) inb) = keyT x3 (pairT i k 2) 2 :=
  ld_unit_congr x3 _ _ (offK i k 1 256 2 rfl (pair_lt i k _))
theorem ld_key3_1 (x3 : Vec F S1x8192x512 .bf16) (i : grid0.Coords) (k : Fin (k0_t1_loop i).trips) (inb : ∀ a, k0_off4 i k 1#32 a + (no_index S1x512x128.size) a ≤ S1x8192x512.size a) :
    View.ld x3 (Rect.unit (s := S1x8192x512) (k0_off4 i k 1#32) (no_index S1x512x128.size) inb) = keyT x3 (pairT i k 1) 3 :=
  ld_unit_congr x3 _ _ (offK i k 0 384 1 rfl (pair_lt i k _))
theorem ld_key3_2 (x3 : Vec F S1x8192x512 .bf16) (i : grid0.Coords) (k : Fin (k0_t1_loop i).trips) (inb : ∀ a, k0_off4 i k 2#32 a + (no_index S1x512x128.size) a ≤ S1x8192x512.size a) :
    View.ld x3 (Rect.unit (s := S1x8192x512) (k0_off4 i k 2#32) (no_index S1x512x128.size) inb) = keyT x3 (pairT i k 2) 3 :=
  ld_unit_congr x3 _ _ (offK i k 1 384 2 rfl (pair_lt i k _))
theorem ld_val0_0 (x4 : Vec F S1x4x16x80x512 .bf16) (i : grid0.Coords) (k : Fin (k0_t1_loop i).trips) (inb : ∀ a, k0_off5 i k a + (no_index S1x1x1x80x512.size) a ≤ S1x4x16x80x512.size a) :
    View.ld x4 (Rect.unit (s := S1x4x16x80x512) (k0_off5 i k) (no_index S1x1x1x80x512.size) inb) = valT x4 (pairT i k 0) 0 :=
  ld_unit_congr x4 _ _ (congrArg (fun n : ℕ => (![0, 0, n, 0, 0] : Fin 5 → ℕ)) ((tileOff0 ⟨k.val, trip_lt i k⟩).trans (Nat.mod_eq_of_lt (pair_lt i k 0)).symm))
theorem ld_val0_1 (x4 : Vec F S1x4x16x80x512 .bf16) (i : grid0.Coords) (k : Fin (k0_t1_loop i).trips) (inb : ∀ a, k0_off9 i k a + (no_index S1x1x1x80x512.size) a ≤ S1x4x16x80x512.size a) :
    View.ld x4 (Rect.unit (s := S1x4x16x80x512) (k0_off9 i k) (no_index S1x1x1x80x512.size) inb) = valT x4 (pairT i k 1) 0 :=
  ld_unit_congr x4 _ _ (congrArg (fun n : ℕ => (![0, 0, n, 0, 0] : Fin 5 → ℕ)) ((tileOff1 ⟨k.val, trip_lt i k⟩).trans (Nat.mod_eq_of_lt (pair_lt i k 1)).symm))
theorem ld_val1_0 (x4 : Vec F S1x4x16x80x512 .bf16) (i : grid0.Coords) (k : Fin (k0_t1_loop i).trips) (inb : ∀ a, k0_off6 i k a + (no_index S1x1x1x80x512.size) a ≤ S1x4x16x80x512.size a) :
    View.ld x4 (Rect.unit (s := S1x4x16x80x512) (k0_off6 i k) (no_index S1x1x1x80x512.size) inb) = valT x4 (pairT i k 0) 1 :=
  ld_unit_congr x4 _ _ (congrArg (fun n : ℕ => (![0, 1, n, 0, 0] : Fin 5 → ℕ)) ((tileOff0 ⟨k.val, trip_lt i k⟩).trans (Nat.mod_eq_of_lt (pair_lt i k 0)).symm))
theorem ld_val1_1 (x4 : Vec F S1x4x16x80x512 .bf16) (i : grid0.Coords) (k : Fin (k0_t1_loop i).trips) (inb : ∀ a, k0_off10 i k a + (no_index S1x1x1x80x512.size) a ≤ S1x4x16x80x512.size a) :
    View.ld x4 (Rect.unit (s := S1x4x16x80x512) (k0_off10 i k) (no_index S1x1x1x80x512.size) inb) = valT x4 (pairT i k 1) 1 :=
  ld_unit_congr x4 _ _ (congrArg (fun n : ℕ => (![0, 1, n, 0, 0] : Fin 5 → ℕ)) ((tileOff1 ⟨k.val, trip_lt i k⟩).trans (Nat.mod_eq_of_lt (pair_lt i k 1)).symm))
theorem ld_val2_0 (x4 : Vec F S1x4x16x80x512 .bf16) (i : grid0.Coords) (k : Fin (k0_t1_loop i).trips) (inb : ∀ a, k0_off7 i k a + (no_index S1x1x1x80x512.size) a ≤ S1x4x16x80x512.size a) :
    View.ld x4 (Rect.unit (s := S1x4x16x80x512) (k0_off7 i k) (no_index S1x1x1x80x512.size) inb) = valT x4 (pairT i k 0) 2 :=
  ld_unit_congr x4 _ _ (congrArg (fun n : ℕ => (![0, 2, n, 0, 0] : Fin 5 → ℕ)) ((tileOff0 ⟨k.val, trip_lt i k⟩).trans (Nat.mod_eq_of_lt (pair_lt i k 0)).symm))
theorem ld_val2_1 (x4 : Vec F S1x4x16x80x512 .bf16) (i : grid0.Coords) (k : Fin (k0_t1_loop i).trips) (inb : ∀ a, k0_off11 i k a + (no_index S1x1x1x80x512.size) a ≤ S1x4x16x80x512.size a) :
    View.ld x4 (Rect.unit (s := S1x4x16x80x512) (k0_off11 i k) (no_index S1x1x1x80x512.size) inb) = valT x4 (pairT i k 1) 2 :=
  ld_unit_congr x4 _ _ (congrArg (fun n : ℕ => (![0, 2, n, 0, 0] : Fin 5 → ℕ)) ((tileOff1 ⟨k.val, trip_lt i k⟩).trans (Nat.mod_eq_of_lt (pair_lt i k 1)).symm))
theorem ld_val3_0 (x4 : Vec F S1x4x16x80x512 .bf16) (i : grid0.Coords) (k : Fin (k0_t1_loop i).trips) (inb : ∀ a, k0_off8 i k a + (no_index S1x1x1x80x512.size) a ≤ S1x4x16x80x512.size a) :
    View.ld x4 (Rect.unit (s := S1x4x16x80x512) (k0_off8 i k) (no_index S1x1x1x80x512.size) inb) = valT x4 (pairT i k 0) 3 :=
  ld_unit_congr x4 _ _ (congrArg (fun n : ℕ => (![0, 3, n, 0, 0] : Fin 5 → ℕ)) ((tileOff0 ⟨k.val, trip_lt i k⟩).trans (Nat.mod_eq_of_lt (pair_lt i k 0)).symm))
theorem ld_val3_1 (x4 : Vec F S1x4x16x80x512 .bf16) (i : grid0.Coords) (k : Fin (k0_t1_loop i).trips) (inb : ∀ a, k0_off12 i k a + (no_index S1x1x1x80x512.size) a ≤ S1x4x16x80x512.size a) :
    View.ld x4 (Rect.unit (s := S1x4x16x80x512) (k0_off12 i k) (no_index S1x1x1x80x512.size) inb) = valT x4 (pairT i k 1) 3 :=
  ld_unit_congr x4 _ _ (congrArg (fun n : ℕ => (![0, 3, n, 0, 0] : Fin 5 → ℕ)) ((tileOff1 ⟨k.val, trip_lt i k⟩).trans (Nat.mod_eq_of_lt (pair_lt i k 1)).symm))

theorem ld_hd0 {a b : ℕ} {e : EltTy} (y : Vec F (⟨3, ![4, a, b]⟩ : Shape) e) (inb : ∀ x, (![0, 0, 0] : Fin 3 → ℕ) x + (![1, a, b] : Fin 3 → ℕ) x ≤ (![4, a, b] : Fin 3 → ℕ) x) :
    View.ld y (Rect.unit (s := ⟨3, ![4, a, b]⟩) ![0, 0, 0] ![1, a, b] inb) = hd y 0 := rfl
theorem ld_hd1 {a b : ℕ} {e : EltTy} (y : Vec F (⟨3, ![4, a, b]⟩ : Shape) e) (inb : ∀ x, (![1, 0, 0] : Fin 3 → ℕ) x + (![1, a, b] : Fin 3 → ℕ) x ≤ (![4, a, b] : Fin 3 → ℕ) x) :
    View.ld y (Rect.unit (s := ⟨3, ![4, a, b]⟩) ![1, 0, 0] ![1, a, b] inb) = hd y 1 := rfl
theorem ld_hd2 {a b : ℕ} {e : EltTy} (y : Vec F (⟨3, ![4, a, b]⟩ : Shape) e) (inb : ∀ x, (![2, 0, 0] : Fin 3 → ℕ) x + (![1, a, b] : Fin 3 → ℕ) x ≤ (![4, a, b] : Fin 3 → ℕ) x) :
    View.ld y (Rect.unit (s := ⟨3, ![4, a, b]⟩) ![2, 0, 0] ![1, a, b] inb) = hd y 2 := rfl
theorem ld_hd3 {a b : ℕ} {e : EltTy} (y : Vec F (⟨3, ![4, a, b]⟩ : Shape) e) (inb : ∀ x, (![3, 0, 0] : Fin 3 → ℕ) x + (![1, a, b] : Fin 3 → ℕ) x ≤ (![4, a, b] : Fin 3 → ℕ) x) :
    View.ld y (Rect.unit (s := ⟨3, ![4, a, b]⟩) ![3, 0, 0] ![1, a, b] inb) = hd y 3 := rfl

/-! ## The stages -/

/-- The scores of one tile of keys against the queries. -/
def scoreP (q : FVec F S512x128 .bf16) (kt : Vec F S1x512x128 .bf16) : FVec F S1x512x512 .f32 := k0_pay12 q kt
/-- Each query's greatest score in the tile. -/
def smaxP (q : FVec F S512x128 .bf16) (kt : Vec F S1x512x128 .bf16) : FVec F S1x1x512 .f32 := k0_pay13 q kt
/-- The running maximum with a tile's maximum added. -/
def mP (m sx : Vec F S1x1x512 .f32) : FVec F S1x1x512 .f32 := k0_pay33 (k0_pay22 sx m)
/-- The running sums with a tile added. -/
def accP (m sx : Vec F S1x1x512 .f32) (s : Vec F S1x512x512 .f32) (acc : Vec F S1x80x512 .f32) (v : Vec F S1x1x1x80x512 .bf16) : FVec F S1x80x512 .f32 :=
  k0_pay32 (k0_pay18 m) (k0_pay22 sx m) (k0_pay26 (k0_pay17 s) sx m) acc v

set_option maxRecDepth 100000 in
set_option maxHeartbeats 2000000 in
theorem trip_L8 (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (k : Fin (k0_t1_loop i).trips) (x3 : Vec F S1x8192x512 .bf16) (x4 : Vec F S1x4x16x80x512 .bf16) (y6 : Vec F S4x1x512 .f32) (y7 : Vec F S4x80x512 .f32) (y8 : Vec F S4x512x512 .f32) (y10 : Vec F S4x1x512 .f32) : (trip c i arg2 harg2 arg3 harg3 arg4 harg4 arg5 harg5 arg6 harg6 arg7 harg7 arg8 harg8 arg9 harg9 arg10 harg10 arg11 harg11 arg1 v1 v3 v5 v7 v55 cst_45 k x3 x4 y6 y7 y8 y10).2.2.1 = heads (fun h => scoreP ((![v1, v3, v5, v7] : Fin 4 → FVec F S512x128 .bf16) h) (keyT x3 (pairT i k 2) h)) [] := by
  unfold trip
  dsimp only
  skip
  simp only [View.readAt_eq_ld, Memref.IsWhole.read_unread]
  simp (disch := decide) only [readCov_hit, readCov_pass, ne_eq, OfNat.ofNat_ne_zero, not_false_eq_true, Nat.reduceEqDiff, ld_key0_1, ld_key0_2, ld_key1_1, ld_key1_2, ld_key2_1, ld_key2_2, ld_key3_1, ld_key3_2, ld_val0_0, ld_val0_1, ld_val1_0, ld_val1_1, ld_val2_0, ld_val2_1, ld_val3_0, ld_val3_1, ld_hd0, ld_hd1, ld_hd2, ld_hd3]
  rfl

set_option maxRecDepth 100000 in
set_option maxHeartbeats 2000000 in
theorem trip_L10 (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (k : Fin (k0_t1_loop i).trips) (x3 : Vec F S1x8192x512 .bf16) (x4 : Vec F S1x4x16x80x512 .bf16) (y6 : Vec F S4x1x512 .f32) (y7 : Vec F S4x80x512 .f32) (y8 : Vec F S4x512x512 .f32) (y10 : Vec F S4x1x512 .f32) : (trip c i arg2 harg2 arg3 harg3 arg4 harg4 arg5 harg5 arg6 harg6 arg7 harg7 arg8 harg8 arg9 harg9 arg10 harg10 arg11 harg11 arg1 v1 v3 v5 v7 v55 cst_45 k x3 x4 y6 y7 y8 y10).2.2.2.1 = heads (fun h => smaxP ((![v1, v3, v5, v7] : Fin 4 → FVec F S512x128 .bf16) h) (keyT x3 (pairT i k 2) h)) [] := by
  unfold trip
  dsimp only
  sl_unfold_run_names
  simp only [View.readAt_eq_ld, Memref.IsWhole.read_unread]
  simp (disch := decide) only [readCov_hit, readCov_pass, ne_eq, OfNat.ofNat_ne_zero, not_false_eq_true, Nat.reduceEqDiff, ld_key0_1, ld_key0_2, ld_key1_1, ld_key1_2, ld_key2_1, ld_key2_2, ld_key3_1, ld_key3_2, ld_val0_0, ld_val0_1, ld_val1_0, ld_val1_1, ld_val2_0, ld_val2_1, ld_val3_0, ld_val3_1, ld_hd0, ld_hd1, ld_hd2, ld_hd3]
  rfl

set_option maxRecDepth 100000 in
set_option maxHeartbeats 2000000 in
theorem trip_L6 (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (k : Fin (k0_t1_loop i).trips) (x3 : Vec F S1x8192x512 .bf16) (x4 : Vec F S1x4x16x80x512 .bf16) (y6 : Vec F S4x1x512 .f32) (y7 : Vec F S4x80x512 .f32) (y8 : Vec F S4x512x512 .f32) (y10 : Vec F S4x1x512 .f32) : (trip c i arg2 harg2 arg3 harg3 arg4 harg4 arg5 harg5 arg6 harg6 arg7 harg7 arg8 harg8 arg9 harg9 arg10 harg10 arg11 harg11 arg1 v1 v3 v5 v7 v55 cst_45 k x3 x4 y6 y7 y8 y10).1 = heads (fun h => mP (mP (hd y6 h) (hd y10 h)) (smaxP ((![v1, v3, v5, v7] : Fin 4 → FVec F S512x128 .bf16) h) (keyT x3 (pairT i k 1) h))) (heads (fun h => (mP (hd y6 h) (hd y10 h))) []) := by
  unfold trip
  dsimp only
  sl_unfold_run_names
  simp only [View.readAt_eq_ld, Memref.IsWhole.read_unread]
  simp (disch := decide) only [readCov_hit, readCov_pass, ne_eq, OfNat.ofNat_ne_zero, not_false_eq_true, Nat.reduceEqDiff, ld_key0_1, ld_key0_2, ld_key1_1, ld_key1_2, ld_key2_1, ld_key2_2, ld_key3_1, ld_key3_2, ld_val0_0, ld_val0_1, ld_val1_0, ld_val1_1, ld_val2_0, ld_val2_1, ld_val3_0, ld_val3_1, ld_hd0, ld_hd1, ld_hd2, ld_hd3]
  rfl

set_option maxRecDepth 100000 in
set_option maxHeartbeats 2000000 in
theorem trip_L7 (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (k : Fin (k0_t1_loop i).trips) (x3 : Vec F S1x8192x512 .bf16) (x4 : Vec F S1x4x16x80x512 .bf16) (y6 : Vec F S4x1x512 .f32) (y7 : Vec F S4x80x512 .f32) (y8 : Vec F S4x512x512 .f32) (y10 : Vec F S4x1x512 .f32) : (trip c i arg2 harg2 arg3 harg3 arg4 harg4 arg5 harg5 arg6 harg6 arg7 harg7 arg8 harg8 arg9 harg9 arg10 harg10 arg11 harg11 arg1 v1 v3 v5 v7 v55 cst_45 k x3 x4 y6 y7 y8 y10).2.1 = heads (fun h => accP (mP (hd y6 h) (hd y10 h)) (smaxP ((![v1, v3, v5, v7] : Fin 4 → FVec F S512x128 .bf16) h) (keyT x3 (pairT i k 1) h)) (scoreP ((![v1, v3, v5, v7] : Fin 4 → FVec F S512x128 .bf16) h) (keyT x3 (pairT i k 1) h)) (accP (hd y6 h) (hd y10 h) (hd y8 h) (hd y7 h) (valT x4 (pairT i k 0) h)) (valT x4 (pairT i k 1) h)) (heads (fun h => (accP (hd y6 h) (hd y10 h) (hd y8 h) (hd y7 h) (valT x4 (pairT i k 0) h))) []) := by
  unfold trip
  dsimp only
  sl_unfold_run_names
  simp only [View.readAt_eq_ld, Memref.IsWhole.read_unread]
  simp (disch := decide) only [readCov_hit, readCov_pass, ne_eq, OfNat.ofNat_ne_zero, not_false_eq_true, Nat.reduceEqDiff, ld_key0_1, ld_key0_2, ld_key1_1, ld_key1_2, ld_key2_1, ld_key2_2, ld_key3_1, ld_key3_2, ld_val0_0, ld_val0_1, ld_val1_0, ld_val1_1, ld_val2_0, ld_val2_1, ld_val3_0, ld_val3_1, ld_hd0, ld_hd1, ld_hd2, ld_hd3]
  rfl

/-! ## The loop, head by head -/

/-- What is kept of one head between trips: maxima, sums, the next tile's scores and their maxima. -/
structure HS (F : FTy → Type) [FloatOps F] where
  m : Vec F S1x1x512 .f32
  acc : Vec F S1x80x512 .f32
  s : Vec F S1x512x512 .f32
  sx : Vec F S1x1x512 .f32

/-- One trip of one head. -/
def stepH (q : FVec F S512x128 .bf16) (k1 k2 : Vec F S1x512x128 .bf16) (w0 w1 : Vec F S1x1x1x80x512 .bf16) (st : HS F) : HS F :=
  ⟨mP (mP st.m st.sx) (smaxP q k1), accP (mP st.m st.sx) (smaxP q k1) (scoreP q k1) (accP st.m st.sx st.s st.acc w0) w1, scoreP q k2, smaxP q k2⟩

/-- One head's part of the buffers. -/
def rep {arg6 : Memref sig .tc .vmem S4x1x512 .f32} {arg7 : Memref sig .tc .vmem S4x80x512 .f32} {arg8 : Memref sig .tc .vmem S4x512x512 .f32} {arg10 : Memref sig .tc .vmem S4x1x512 .f32}
    (s : Carry F arg6 arg7 arg8 arg10) (h : Fin 4) : HS F :=
  ⟨hd (arg6.view.read (Elt F) s.g6) h, hd (arg7.view.read (Elt F) s.g7) h, hd (arg8.view.read (Elt F) s.g8) h, hd (arg10.view.read (Elt F) s.g10) h⟩

/-- Tile `n`. -/
def tl (n : ℕ) : Fin 16 := ⟨n % 16, Nat.mod_lt _ (by decide)⟩

/-- One head after `n` trips. -/
def stateH (q : FVec F S512x128 .bf16) (x3 : Vec F S1x8192x512 .bf16) (x4 : Vec F S1x4x16x80x512 .bf16) (h : Fin 4) (st : HS F) : ℕ → HS F
  | 0 => st
  | n + 1 => stepH q (keyT x3 (tl (2 * n + 1)) h) (keyT x3 (tl (2 * n + 2)) h) (valT x4 (tl (2 * n + 0)) h) (valT x4 (tl (2 * n + 1)) h) (stateH q x3 x4 h st n)

theorem rep_next (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (x3 : Vec F S1x8192x512 .bf16) (x4 : Vec F S1x4x16x80x512 .bf16) (k : Fin (k0_t1_loop i).trips) (s : Carry F arg6 arg7 arg8 arg10) (h : Fin 4) :
    rep (next c i arg2 harg2 arg3 harg3 arg4 harg4 arg5 harg5 arg6 harg6 arg7 harg7 arg8 harg8 arg9 harg9 arg10 harg10 arg11 harg11 arg1 v1 v3 v5 v7 v55 cst_45 x3 x4 k s) h = stepH ((![v1, v3, v5, v7] : Fin 4 → FVec F S512x128 .bf16) h) (keyT x3 (tl (2 * k.val + 1)) h) (keyT x3 (tl (2 * k.val + 2)) h) (valT x4 (tl (2 * k.val + 0)) h) (valT x4 (tl (2 * k.val + 1)) h) (rep s h) := by
  have e6 := (congrArg (fun L => hd (arg6.view.read (Elt F) (arg6.view.writes (Elt F) (harg6.unread (arg6.view.read (Elt F) s.g6)) L)) h) (trip_L6 c i arg2 harg2 arg3 harg3 arg4 harg4 arg5 harg5 arg6 harg6 arg7 harg7 arg8 harg8 arg9 harg9 arg10 harg10 arg11 harg11 arg1 v1 v3 v5 v7 v55 cst_45 k x3 x4 (arg6.view.read (Elt F) s.g6) (arg7.view.read (Elt F) s.g7) (arg8.view.read (Elt F) s.g8) (arg10.view.read (Elt F) s.g10))).trans (hd_heads _ _ _ _ _)
  have e7 := (congrArg (fun L => hd (arg7.view.read (Elt F) (arg7.view.writes (Elt F) (harg7.unread (arg7.view.read (Elt F) s.g7)) L)) h) (trip_L7 c i arg2 harg2 arg3 harg3 arg4 harg4 arg5 harg5 arg6 harg6 arg7 harg7 arg8 harg8 arg9 harg9 arg10 harg10 arg11 harg11 arg1 v1 v3 v5 v7 v55 cst_45 k x3 x4 (arg6.view.read (Elt F) s.g6) (arg7.view.read (Elt F) s.g7) (arg8.view.read (Elt F) s.g8) (arg10.view.read (Elt F) s.g10))).trans (hd_heads _ _ _ _ _)
  have e8 := (congrArg (fun L => hd (arg8.view.read (Elt F) (arg8.view.writes (Elt F) (harg8.unread (arg8.view.read (Elt F) s.g8)) L)) h) (trip_L8 c i arg2 harg2 arg3 harg3 arg4 harg4 arg5 harg5 arg6 harg6 arg7 harg7 arg8 harg8 arg9 harg9 arg10 harg10 arg11 harg11 arg1 v1 v3 v5 v7 v55 cst_45 k x3 x4 (arg6.view.read (Elt F) s.g6) (arg7.view.read (Elt F) s.g7) (arg8.view.read (Elt F) s.g8) (arg10.view.read (Elt F) s.g10))).trans (hd_heads _ _ _ _ _)
  have e10 := (congrArg (fun L => hd (arg10.view.read (Elt F) (arg10.view.writes (Elt F) (harg10.unread (arg10.view.read (Elt F) s.g10)) L)) h) (trip_L10 c i arg2 harg2 arg3 harg3 arg4 harg4 arg5 harg5 arg6 harg6 arg7 harg7 arg8 harg8 arg9 harg9 arg10 harg10 arg11 harg11 arg1 v1 v3 v5 v7 v55 cst_45 k x3 x4 (arg6.view.read (Elt F) s.g6) (arg7.view.read (Elt F) s.g7) (arg8.view.read (Elt F) s.g8) (arg10.view.read (Elt F) s.g10))).trans (hd_heads _ _ _ _ _)
  unfold next rep
  exact congr (congr (congr (congrArg HS.mk e6) e7) e8) e10

theorem rep_carry (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (x3 : Vec F S1x8192x512 .bf16) (x4 : Vec F S1x4x16x80x512 .bf16) (s : Carry F arg6 arg7 arg8 arg10) (h : Fin 4) (n : ℕ) (hn : n ≤ (k0_t1_loop i).trips) :
    rep (carry c i arg2 harg2 arg3 harg3 arg4 harg4 arg5 harg5 arg6 harg6 arg7 harg7 arg8 harg8 arg9 harg9 arg10 harg10 arg11 harg11 arg1 v1 v3 v5 v7 v55 cst_45 x3 x4 s n) h = stateH ((![v1, v3, v5, v7] : Fin 4 → FVec F S512x128 .bf16) h) x3 x4 h (rep s h) n := by
  induction n with
  | zero => rfl
  | succ n ih =>
    refine (congrArg (fun s' => rep s' h) (carry_succ c i arg2 harg2 arg3 harg3 arg4 harg4 arg5 harg5 arg6 harg6 arg7 harg7 arg8 harg8 arg9 harg9 arg10 harg10 arg11 harg11 arg1 v1 v3 v5 v7 v55 cst_45 x3 x4 s ⟨n, hn⟩)).trans ((rep_next c i arg2 harg2 arg3 harg3 arg4 harg4 arg5 harg5 arg6 harg6 arg7 harg7 arg8 harg8 arg9 harg9 arg10 harg10 arg11 harg11 arg1 v1 v3 v5 v7 v55 cst_45 x3 x4 ⟨n, hn⟩ _ h).trans ?_)
    exact congrArg (stepH ((![v1, v3, v5, v7] : Fin 4 → FVec F S512x128 .bf16) h) (keyT x3 (tl (2 * n + 1)) h) (keyT x3 (tl (2 * n + 2)) h) (valT x4 (tl (2 * n + 0)) h) (valT x4 (tl (2 * n + 1)) h)) (ih (Nat.le_of_succ_le hn))

theorem after_g6 (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (x3 : Vec F S1x8192x512 .bf16) (x4 : Vec F S1x4x16x80x512 .bf16)
    (G6 : arg6.view.ty.Contents (Elt F)) (G7 : arg7.view.ty.Contents (Elt F)) (G8 : arg8.view.ty.Contents (Elt F)) (G10 : arg10.view.ty.Contents (Elt F)) (k : ℕ) :
    before G6 (fun n => (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ n).g6) k = (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ k).g6 := by
  cases k <;> rfl

theorem after_g7 (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (x3 : Vec F S1x8192x512 .bf16) (x4 : Vec F S1x4x16x80x512 .bf16)
    (G6 : arg6.view.ty.Contents (Elt F)) (G7 : arg7.view.ty.Contents (Elt F)) (G8 : arg8.view.ty.Contents (Elt F)) (G10 : arg10.view.ty.Contents (Elt F)) (k : ℕ) :
    before G7 (fun n => (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ n).g7) k = (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ k).g7 := by
  cases k <;> rfl

theorem after_g8 (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (x3 : Vec F S1x8192x512 .bf16) (x4 : Vec F S1x4x16x80x512 .bf16)
    (G6 : arg6.view.ty.Contents (Elt F)) (G7 : arg7.view.ty.Contents (Elt F)) (G8 : arg8.view.ty.Contents (Elt F)) (G10 : arg10.view.ty.Contents (Elt F)) (k : ℕ) :
    before G8 (fun n => (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ n).g8) k = (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ k).g8 := by
  cases k <;> rfl

theorem after_g10 (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (arg1 : BitVec 32) (v1 v3 v5 v7 v55 : FVec F S512x128 .bf16) (cst_45 : FVec F S512x512 .f32) (x3 : Vec F S1x8192x512 .bf16) (x4 : Vec F S1x4x16x80x512 .bf16)
    (G6 : arg6.view.ty.Contents (Elt F)) (G7 : arg7.view.ty.Contents (Elt F)) (G8 : arg8.view.ty.Contents (Elt F)) (G10 : arg10.view.ty.Contents (Elt F)) (k : ℕ) :
    before G10 (fun n => (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ n).g10) k = (carry c i arg2 harg2 arg3 harg3 arg4 harg4 arg5 harg5 arg6 harg6 arg7 harg7 arg8 harg8 arg9 harg9 arg10 harg10 arg11 harg11 arg1 v1 v3 v5 v7 v55 cst_45 x3 x4 ⟨G6, G7, G8, G10⟩ k).g10 := by
  cases k <;> rfl

end Cert.Proof.KernelIdeal

end
-- ==== Proof.FoxPoint.lean ====
/- What a grid point of the forgetting attention leaves in its block of the output, as named stages of the blocks it reads. -/
module

public import proofs.«01_k».proof.Proof.FoxStage
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

theorem inb_qry (h : Fin 4) : ∀ x, (![0, 0, 128 * h.val] : Fin 3 → ℕ) x + (![1, 512, 128] : Fin 3 → ℕ) x ≤ (![1, 512, 512] : Fin 3 → ℕ) x := by
  have := h.isLt
  intro x; fin_cases x
  · show 0 + 1 ≤ 1; omega
  · show 0 + 512 ≤ 512; omega
  · show 128 * h.val + 128 ≤ 512; omega

/-- The queries of head `h`. -/
def qT (x0 : Vec F S1x512x512 .bf16) (h : Fin 4) : FVec F S512x128 .bf16 :=
  k0_pay261 (View.ld x0 (Rect.unit (s := S1x512x512) ![0, 0, 128 * h.val] ![1, 512, 128] (inb_qry h)))

/-- One head at the loop's entry: no tile added, and the first tile's scores. -/
def st0 (x0 : Vec F S1x512x512 .bf16) (x1 : Vec F S1x8192x512 .bf16) (h : Fin 4) : HS F :=
  ⟨hd k0_pay265 h, hd k0_pay266 h, scoreP (qT x0 h) (keyT x1 0 h), smaxP (qT x0 h) (keyT x1 0 h)⟩

/-- The running sums with the last tile added, the keys after a query left out. -/
def accC (m : Vec F S1x1x512 .f32) (s : Vec F S1x512x512 .f32) (acc : Vec F S1x80x512 .f32) (v : Vec F S1x1x1x80x512 .bf16) : FVec F S1x80x512 .f32 :=
  k0_pay287 (truncf .bf16 (exp2 (subf (k0_pay162 s) (broadcastTo S512x512 (maximumf (k0_pay170 m) (k0_pay166 s)) broadcasts_S1x512_S512x512))) bitsLt_bf16_f32)
    (exp2 (subf (k0_pay170 m) (maximumf (k0_pay170 m) (k0_pay166 s)))) acc v

/-- The block of the output off the four heads' sums. -/
def finP (a : Fin 4 → FVec F S1x80x512 .f32) : FVec F S1x512x256 .bf16 :=
  k0_pay1 (k0_pay291 (a 1)) (k0_pay292 (a 2)) (k0_pay293 (a 3)) (k0_pay294 (a 0)) (k0_pay295 (a 0))

theorem ld_last25_0 (x4 : Vec F S1x4x16x80x512 .bf16) (i : grid0.Coords) (inb : ∀ a, k0_off25 i a + (no_index S1x1x1x80x512.size) a ≤ S1x4x16x80x512.size a) :
    View.ld x4 (Rect.unit (s := S1x4x16x80x512) (k0_off25 i) (no_index S1x1x1x80x512.size) inb) = valT x4 (tl (i 1).val) 0 :=
  ld_unit_congr x4 _ _ (by unfold k0_off25; generalize i 1 = j; revert j; decide +kernel)
theorem ld_last25_1 (x4 : Vec F S1x4x16x80x512 .bf16) (i : grid0.Coords) (inb : ∀ a, k0_off26 i a + (no_index S1x1x1x80x512.size) a ≤ S1x4x16x80x512.size a) :
    View.ld x4 (Rect.unit (s := S1x4x16x80x512) (k0_off26 i) (no_index S1x1x1x80x512.size) inb) = valT x4 (tl (i 1).val) 1 :=
  ld_unit_congr x4 _ _ (by unfold k0_off26; generalize i 1 = j; revert j; decide +kernel)
theorem ld_last25_2 (x4 : Vec F S1x4x16x80x512 .bf16) (i : grid0.Coords) (inb : ∀ a, k0_off27 i a + (no_index S1x1x1x80x512.size) a ≤ S1x4x16x80x512.size a) :
    View.ld x4 (Rect.unit (s := S1x4x16x80x512) (k0_off27 i) (no_index S1x1x1x80x512.size) inb) = valT x4 (tl (i 1).val) 2 :=
  ld_unit_congr x4 _ _ (by unfold k0_off27; generalize i 1 = j; revert j; decide +kernel)
theorem ld_last25_3 (x4 : Vec F S1x4x16x80x512 .bf16) (i : grid0.Coords) (inb : ∀ a, k0_off28 i a + (no_index S1x1x1x80x512.size) a ≤ S1x4x16x80x512.size a) :
    View.ld x4 (Rect.unit (s := S1x4x16x80x512) (k0_off28 i) (no_index S1x1x1x80x512.size) inb) = valT x4 (tl (i 1).val) 3 :=
  ld_unit_congr x4 _ _ (by unfold k0_off28; generalize i 1 = j; revert j; decide +kernel)
theorem ld_last37_0 (x4 : Vec F S1x4x16x80x512 .bf16) (i : grid0.Coords) (inb : ∀ a, k0_off37 i a + (no_index S1x1x1x80x512.size) a ≤ S1x4x16x80x512.size a) :
    View.ld x4 (Rect.unit (s := S1x4x16x80x512) (k0_off37 i) (no_index S1x1x1x80x512.size) inb) = valT x4 (tl (i 1).val) 0 :=
  ld_unit_congr x4 _ _ (by unfold k0_off37; generalize i 1 = j; revert j; decide +kernel)
theorem ld_last37_1 (x4 : Vec F S1x4x16x80x512 .bf16) (i : grid0.Coords) (inb : ∀ a, k0_off38 i a + (no_index S1x1x1x80x512.size) a ≤ S1x4x16x80x512.size a) :
    View.ld x4 (Rect.unit (s := S1x4x16x80x512) (k0_off38 i) (no_index S1x1x1x80x512.size) inb) = valT x4 (tl (i 1).val) 1 :=
  ld_unit_congr x4 _ _ (by unfold k0_off38; generalize i 1 = j; revert j; decide +kernel)
theorem ld_last37_2 (x4 : Vec F S1x4x16x80x512 .bf16) (i : grid0.Coords) (inb : ∀ a, k0_off39 i a + (no_index S1x1x1x80x512.size) a ≤ S1x4x16x80x512.size a) :
    View.ld x4 (Rect.unit (s := S1x4x16x80x512) (k0_off39 i) (no_index S1x1x1x80x512.size) inb) = valT x4 (tl (i 1).val) 2 :=
  ld_unit_congr x4 _ _ (by unfold k0_off39; generalize i 1 = j; revert j; decide +kernel)
theorem ld_last37_3 (x4 : Vec F S1x4x16x80x512 .bf16) (i : grid0.Coords) (inb : ∀ a, k0_off40 i a + (no_index S1x1x1x80x512.size) a ≤ S1x4x16x80x512.size a) :
    View.ld x4 (Rect.unit (s := S1x4x16x80x512) (k0_off40 i) (no_index S1x1x1x80x512.size) inb) = valT x4 (tl (i 1).val) 3 :=
  ld_unit_congr x4 _ _ (by unfold k0_off40; generalize i 1 = j; revert j; decide +kernel)
theorem ld_prev0 (x4 : Vec F S1x4x16x80x512 .bf16) (i : grid0.Coords) (hi : (i 1).val % 2 = 1) (inb : ∀ a, k0_off33 i a + (no_index S1x1x1x80x512.size) a ≤ S1x4x16x80x512.size a) :
    View.ld x4 (Rect.unit (s := S1x4x16x80x512) (k0_off33 i) (no_index S1x1x1x80x512.size) inb) = valT x4 (tl ((i 1).val - 1)) 0 :=
  ld_unit_congr x4 _ _ (by unfold k0_off33; generalize i 1 = j at hi ⊢; revert j; decide +kernel)
theorem ld_keyi0 (x3 : Vec F S1x8192x512 .bf16) (i : grid0.Coords) (inb : ∀ a, k0_off29 i a + (no_index S1x512x128.size) a ≤ S1x8192x512.size a) :
    View.ld x3 (Rect.unit (s := S1x8192x512) (k0_off29 i) (no_index S1x512x128.size) inb) = keyT x3 (tl (i 1).val) 0 :=
  ld_unit_congr x3 _ _ (by unfold k0_off29; generalize i 1 = j; revert j; decide +kernel)
theorem ld_prev1 (x4 : Vec F S1x4x16x80x512 .bf16) (i : grid0.Coords) (hi : (i 1).val % 2 = 1) (inb : ∀ a, k0_off34 i a + (no_index S1x1x1x80x512.size) a ≤ S1x4x16x80x512.size a) :
    View.ld x4 (Rect.unit (s := S1x4x16x80x512) (k0_off34 i) (no_index S1x1x1x80x512.size) inb) = valT x4 (tl ((i 1).val - 1)) 1 :=
  ld_unit_congr x4 _ _ (by unfold k0_off34; generalize i 1 = j at hi ⊢; revert j; decide +kernel)
theorem ld_keyi1 (x3 : Vec F S1x8192x512 .bf16) (i : grid0.Coords) (inb : ∀ a, k0_off30 i a + (no_index S1x512x128.size) a ≤ S1x8192x512.size a) :
    View.ld x3 (Rect.unit (s := S1x8192x512) (k0_off30 i) (no_index S1x512x128.size) inb) = keyT x3 (tl (i 1).val) 1 :=
  ld_unit_congr x3 _ _ (by unfold k0_off30; generalize i 1 = j; revert j; decide +kernel)
theorem ld_prev2 (x4 : Vec F S1x4x16x80x512 .bf16) (i : grid0.Coords) (hi : (i 1).val % 2 = 1) (inb : ∀ a, k0_off35 i a + (no_index S1x1x1x80x512.size) a ≤ S1x4x16x80x512.size a) :
    View.ld x4 (Rect.unit (s := S1x4x16x80x512) (k0_off35 i) (no_index S1x1x1x80x512.size) inb) = valT x4 (tl ((i 1).val - 1)) 2 :=
  ld_unit_congr x4 _ _ (by unfold k0_off35; generalize i 1 = j at hi ⊢; revert j; decide +kernel)
theorem ld_keyi2 (x3 : Vec F S1x8192x512 .bf16) (i : grid0.Coords) (inb : ∀ a, k0_off31 i a + (no_index S1x512x128.size) a ≤ S1x8192x512.size a) :
    View.ld x3 (Rect.unit (s := S1x8192x512) (k0_off31 i) (no_index S1x512x128.size) inb) = keyT x3 (tl (i 1).val) 2 :=
  ld_unit_congr x3 _ _ (by unfold k0_off31; generalize i 1 = j; revert j; decide +kernel)
theorem ld_prev3 (x4 : Vec F S1x4x16x80x512 .bf16) (i : grid0.Coords) (hi : (i 1).val % 2 = 1) (inb : ∀ a, k0_off36 i a + (no_index S1x1x1x80x512.size) a ≤ S1x4x16x80x512.size a) :
    View.ld x4 (Rect.unit (s := S1x4x16x80x512) (k0_off36 i) (no_index S1x1x1x80x512.size) inb) = valT x4 (tl ((i 1).val - 1)) 3 :=
  ld_unit_congr x4 _ _ (by unfold k0_off36; generalize i 1 = j at hi ⊢; revert j; decide +kernel)
theorem ld_keyi3 (x3 : Vec F S1x8192x512 .bf16) (i : grid0.Coords) (inb : ∀ a, k0_off32 i a + (no_index S1x512x128.size) a ≤ S1x8192x512.size a) :
    View.ld x3 (Rect.unit (s := S1x8192x512) (k0_off32 i) (no_index S1x512x128.size) inb) = keyT x3 (tl (i 1).val) 3 :=
  ld_unit_congr x3 _ _ (by unfold k0_off32; generalize i 1 = j; revert j; decide +kernel)

/-- The carried buffers at the loop's entry. -/
def entry (arg6 : Memref sig .tc .vmem S4x1x512 .f32) (arg7 : Memref sig .tc .vmem S4x80x512 .f32) (arg8 : Memref sig .tc .vmem S4x512x512 .f32) (arg10 : Memref sig .tc .vmem S4x1x512 .f32)
    (x0 : Vec F S1x512x512 .bf16) (x1 : Vec F S1x8192x512 .bf16) : Carry F arg6 arg7 arg8 arg10 :=
  ⟨arg6.view.writes (Elt F) arg6.view.junk [⟨Rect.unit (s := S4x1x512) ![0, 0, 0] S4x1x512.size inb_S4x1x512_S4x1x512_0_0_0, k0_pay265⟩],
   arg7.view.writes (Elt F) arg7.view.junk [⟨Rect.unit (s := S4x80x512) ![0, 0, 0] S4x80x512.size inb_S4x80x512_S4x80x512_0_0_0, k0_pay266⟩],
   arg8.view.writes (Elt F) arg8.view.junk (heads (fun h => scoreP (qT x0 h) (keyT x1 0 h)) []),
   arg10.view.writes (Elt F) arg10.view.junk (heads (fun h => smaxP (qT x0 h) (keyT x1 0 h)) [])⟩

/-- Reading a head back after one store of the whole array. -/
theorem hd_writes_all {sig : RefSig} {κ : Kind} {sp : Space} {a b : ℕ} {e : EltTy} (v : View sig κ sp (⟨3, ![4, a, b]⟩ : Shape) e) (f : v.ty.Contents (Elt F))
    (inb : ∀ x, (![0, 0, 0] : Fin 3 → ℕ) x + (⟨3, ![4, a, b]⟩ : Shape).size x ≤ (⟨3, ![4, a, b]⟩ : Shape).size x) (x : Vec F (⟨3, ![4, a, b]⟩ : Shape) e) (h : Fin 4) :
    hd (v.read (Elt F) (v.writes (Elt F) f [⟨Rect.unit (s := ⟨3, ![4, a, b]⟩) ![0, 0, 0] (⟨3, ![4, a, b]⟩ : Shape).size inb, x⟩])) h = hd x h :=
  congrArg (fun y : Vec F (⟨3, ![4, a, b]⟩ : Shape) e => hd y h) (View.read_writes_full v f inb x [])

theorem rep_entry (arg6 : Memref sig .tc .vmem S4x1x512 .f32) (arg7 : Memref sig .tc .vmem S4x80x512 .f32) (arg8 : Memref sig .tc .vmem S4x512x512 .f32) (arg10 : Memref sig .tc .vmem S4x1x512 .f32)
    (x0 : Vec F S1x512x512 .bf16) (x1 : Vec F S1x8192x512 .bf16) (h : Fin 4) : rep (entry arg6 arg7 arg8 arg10 x0 x1) h = st0 x0 x1 h := by
  have e6 : hd (arg6.view.read (Elt F) (arg6.view.writes (Elt F) arg6.view.junk [⟨Rect.unit (s := S4x1x512) ![0, 0, 0] S4x1x512.size inb_S4x1x512_S4x1x512_0_0_0, k0_pay265⟩])) h = hd k0_pay265 h := hd_writes_all _ _ _ _ h
  have e7 : hd (arg7.view.read (Elt F) (arg7.view.writes (Elt F) arg7.view.junk [⟨Rect.unit (s := S4x80x512) ![0, 0, 0] S4x80x512.size inb_S4x80x512_S4x80x512_0_0_0, k0_pay266⟩])) h = hd k0_pay266 h := hd_writes_all _ _ _ _ h
  have e8 := hd_heads arg8.view arg8.view.junk (fun h => scoreP (qT x0 h) (keyT x1 0 h)) [] h
  have e10 := hd_heads arg10.view arg10.view.junk (fun h => smaxP (qT x0 h) (keyT x1 0 h)) [] h
  show HS.mk _ _ _ _ = HS.mk _ _ _ _
  unfold entry
  dsimp only
  rw [e6, e7, e8, e10]

/-- The carried buffers after the loop. -/
def last (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (x0 : Vec F S1x512x512 .bf16) (x1 : Vec F S1x8192x512 .bf16) (x2 : Vec F S1x4x16x80x512 .bf16) : Carry F arg6 arg7 arg8 arg10 :=
  carry c i arg2 harg2 arg3 harg3 arg4 harg4 arg5 harg5 arg6 harg6 arg7 harg7 arg8 harg8 arg9 harg9 arg10 harg10 arg11 harg11 (BitVec.ofNat 32 (i 1).val) (qT x0 0) (qT x0 1) (qT x0 2) (qT x0 3) (k0_pay277 (keyT x1 0 3)) (constant S512x512 .f32 0x00000000#32) x1 x2 (entry arg6 arg7 arg8 arg10 x0 x1) (k0_t1_loop i).trips

/-- One head after the loop. -/
def stL (i : grid0.Coords) (x0 : Vec F S1x512x512 .bf16) (x1 : Vec F S1x8192x512 .bf16) (x2 : Vec F S1x4x16x80x512 .bf16) (h : Fin 4) : HS F := stateH (qT x0 h) x1 x2 h (st0 x0 x1 h) ((i 1).val / 2)

theorem rep_last (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (x0 : Vec F S1x512x512 .bf16) (x1 : Vec F S1x8192x512 .bf16) (x2 : Vec F S1x4x16x80x512 .bf16) (h : Fin 4) : rep (last c i arg2 harg2 arg3 harg3 arg4 harg4 arg5 harg5 arg6 harg6 arg7 harg7 arg8 harg8 arg9 harg9 arg10 harg10 arg11 harg11 x0 x1 x2) h = stL i x0 x1 x2 h := by
  refine (rep_carry c i arg2 harg2 arg3 harg3 arg4 harg4 arg5 harg5 arg6 harg6 arg7 harg7 arg8 harg8 arg9 harg9 arg10 harg10 arg11 harg11 _ _ _ _ _ _ _ x1 x2 (entry arg6 arg7 arg8 arg10 x0 x1) h _ le_rfl).trans ?_
  rw [rep_entry, trips1]
  unfold stL
  refine congrArg (fun q => stateH q x1 x2 h (st0 x0 x1 h) ((i 1).val / 2)) ?_
  fin_cases h <;> rfl

theorem odd_of (i : grid0.Coords) (hc1 : cond1 i) : (i 1).val % 2 = 1 := by
  unfold cond1 k0_cond2 at hc1
  generalize i 1 = j at hc1 ⊢
  revert j; decide +kernel

set_option maxRecDepth 100000 in
set_option maxHeartbeats 8000000 in
theorem runA_L (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : cond0 i) (hc1 : ¬cond1 i) (x0 : Vec F S1x512x512 .bf16) (x1 : Vec F S1x8192x512 .bf16) (x2 : Vec F S1x4x16x80x512 .bf16) : (bodyRunA c i arg2 harg2 arg3 harg3 arg4 harg4 arg5 harg5 arg6 harg6 arg7 harg7 arg8 harg8 arg9 harg9 arg10 harg10 arg11 harg11 hc0 hc1 x0 x1 x2).1
    = [⟨Rect.unit (s := S1x512x256) ![0, 0, 0] S1x512x256.size inb_S1x512x256_S1x512x256_0_0_0, finP (fun h => accC (rep (last c i arg2 harg2 arg3 harg3 arg4 harg4 arg5 harg5 arg6 harg6 arg7 harg7 arg8 harg8 arg9 harg9 arg10 harg10 arg11 harg11 x0 x1 x2) h).m (rep (last c i arg2 harg2 arg3 harg3 arg4 harg4 arg5 harg5 arg6 harg6 arg7 harg7 arg8 harg8 arg9 harg9 arg10 harg10 arg11 harg11 x0 x1 x2) h).s (rep (last c i arg2 harg2 arg3 harg3 arg4 harg4 arg5 harg5 arg6 harg6 arg7 harg7 arg8 harg8 arg9 harg9 arg10 harg10 arg11 harg11 x0 x1 x2) h).acc (valT x2 (tl (i 1).val) h))⟩] := by
  skip
  unfold bodyRunA
  dsimp only
  sl_unfold_run_names
  simp only [View.readAt_eq_ld, Memref.IsWhole.read_unread]
  simp (disch := first | decide | assumption) only [readCov_hit, readCov_pass, ne_eq, OfNat.ofNat_ne_zero, not_false_eq_true, Nat.reduceEqDiff, ld_hd0, ld_hd1, ld_hd2, ld_hd3, ld_last25_0, ld_last25_1, ld_last25_2, ld_last25_3, ld_last37_0, ld_last37_1, ld_last37_2, ld_last37_3, ld_prev0, ld_prev1, ld_prev2, ld_prev3, ld_keyi0, ld_keyi1, ld_keyi2, ld_keyi3]
  simp only [after_g6, after_g7, after_g8, after_g10]
  rfl

set_option maxRecDepth 100000 in
set_option maxHeartbeats 8000000 in
theorem runB_L (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : ¬cond0 i) (hc1 : cond1 i) (x0 : Vec F S1x512x512 .bf16) (x1 : Vec F S1x8192x512 .bf16) (x2 : Vec F S1x4x16x80x512 .bf16) : (bodyRunB c i arg2 harg2 arg3 harg3 arg4 harg4 arg5 harg5 arg6 harg6 arg7 harg7 arg8 harg8 arg9 harg9 arg10 harg10 arg11 harg11 hc0 hc1 x0 x1 x2).1
    = [⟨Rect.unit (s := S1x512x256) ![0, 0, 0] S1x512x256.size inb_S1x512x256_S1x512x256_0_0_0, finP (fun h => accC (mP (rep (last c i arg2 harg2 arg3 harg3 arg4 harg4 arg5 harg5 arg6 harg6 arg7 harg7 arg8 harg8 arg9 harg9 arg10 harg10 arg11 harg11 x0 x1 x2) h).m (rep (last c i arg2 harg2 arg3 harg3 arg4 harg4 arg5 harg5 arg6 harg6 arg7 harg7 arg8 harg8 arg9 harg9 arg10 harg10 arg11 harg11 x0 x1 x2) h).sx) (scoreP (qT x0 h) (keyT x1 (tl (i 1).val) h)) (accP (rep (last c i arg2 harg2 arg3 harg3 arg4 harg4 arg5 harg5 arg6 harg6 arg7 harg7 arg8 harg8 arg9 harg9 arg10 harg10 arg11 harg11 x0 x1 x2) h).m (rep (last c i arg2 harg2 arg3 harg3 arg4 harg4 arg5 harg5 arg6 harg6 arg7 harg7 arg8 harg8 arg9 harg9 arg10 harg10 arg11 harg11 x0 x1 x2) h).sx (rep (last c i arg2 harg2 arg3 harg3 arg4 harg4 arg5 harg5 arg6 harg6 arg7 harg7 arg8 harg8 arg9 harg9 arg10 harg10 arg11 harg11 x0 x1 x2) h).s (rep (last c i arg2 harg2 arg3 harg3 arg4 harg4 arg5 harg5 arg6 harg6 arg7 harg7 arg8 harg8 arg9 harg9 arg10 harg10 arg11 harg11 x0 x1 x2) h).acc (valT x2 (tl ((i 1).val - 1)) h)) (valT x2 (tl (i 1).val) h))⟩] := by
  have hodd := odd_of i hc1
  unfold bodyRunB
  dsimp only
  sl_unfold_run_names
  simp only [View.readAt_eq_ld, Memref.IsWhole.read_unread]
  simp (disch := first | decide | assumption) only [readCov_hit, readCov_pass, ne_eq, OfNat.ofNat_ne_zero, not_false_eq_true, Nat.reduceEqDiff, ld_hd0, ld_hd1, ld_hd2, ld_hd3, ld_last25_0, ld_last25_1, ld_last25_2, ld_last25_3, ld_last37_0, ld_last37_1, ld_last37_2, ld_last37_3, ld_prev0, ld_prev1, ld_prev2, ld_prev3, ld_keyi0, ld_keyi1, ld_keyi2, ld_keyi3]
  simp only [after_g6, after_g7, after_g8, after_g10]
  rfl

/-- The block that an even query tile's point leaves. -/
theorem outA_eq (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : cond0 i) (hc1 : ¬cond1 i) (x0 : Vec F S1x512x512 .bf16) (x1 : Vec F S1x8192x512 .bf16) (x2 : Vec F S1x4x16x80x512 .bf16) : outA c i arg2 harg2 arg3 harg3 arg4 harg4 arg5 harg5 arg6 harg6 arg7 harg7 arg8 harg8 arg9 harg9 arg10 harg10 arg11 harg11 hc0 hc1 x0 x1 x2
    = finP (fun h => accC (stL i x0 x1 x2 h).m (stL i x0 x1 x2 h).s (stL i x0 x1 x2 h).acc (valT x2 (tl (i 1).val) h)) := by
  unfold outA
  rw [runA_L]
  refine (View.read_writes_full VO VO.junk inb_S1x512x256_S1x512x256_0_0_0 _ []).trans ?_
  refine congrArg finP (funext fun h => ?_)
  rw [rep_last]

/-- The block that an odd query tile's point leaves. -/
theorem outB_eq (c : Dev nD) (i : grid0.Coords) (arg2 : Memref sig .tc .vmem S1x512x512 .bf16) (harg2 : arg2.IsWhole) (arg3 : Memref sig .tc .vmem S1x8192x512 .bf16) (harg3 : arg3.IsWhole) (arg4 : Memref sig .tc .vmem S1x4x16x80x512 .bf16) (harg4 : arg4.IsWhole) (arg5 : Memref sig .tc .vmem S1x512x256 .bf16) (harg5 : arg5.IsWhole)
    (arg6 : Memref sig .tc .vmem S4x1x512 .f32) (harg6 : arg6.IsWhole) (arg7 : Memref sig .tc .vmem S4x80x512 .f32) (harg7 : arg7.IsWhole) (arg8 : Memref sig .tc .vmem S4x512x512 .f32) (harg8 : arg8.IsWhole) (arg9 : Memref sig .tc .vmem S4x512x512 .f32) (harg9 : arg9.IsWhole) (arg10 : Memref sig .tc .vmem S4x1x512 .f32) (harg10 : arg10.IsWhole) (arg11 : Memref sig .tc .vmem S4x1x512 .f32) (harg11 : arg11.IsWhole) (hc0 : ¬cond0 i) (hc1 : cond1 i) (x0 : Vec F S1x512x512 .bf16) (x1 : Vec F S1x8192x512 .bf16) (x2 : Vec F S1x4x16x80x512 .bf16) : outB c i arg2 harg2 arg3 harg3 arg4 harg4 arg5 harg5 arg6 harg6 arg7 harg7 arg8 harg8 arg9 harg9 arg10 harg10 arg11 harg11 hc0 hc1 x0 x1 x2
    = finP (fun h => accC (mP (stL i x0 x1 x2 h).m (stL i x0 x1 x2 h).sx) (scoreP (qT x0 h) (keyT x1 (tl (i 1).val) h)) (accP (stL i x0 x1 x2 h).m (stL i x0 x1 x2 h).sx (stL i x0 x1 x2 h).s (stL i x0 x1 x2 h).acc (valT x2 (tl ((i 1).val - 1)) h)) (valT x2 (tl (i 1).val) h)) := by
  unfold outB
  rw [runB_L]
  refine (View.read_writes_full VO VO.junk inb_S1x512x256_S1x512x256_0_0_0 _ []).trans ?_
  refine congrArg finP (funext fun h => ?_)
  rw [rep_last]

end Cert.Proof.KernelIdeal

end
-- ==== Proof.FoxMath.lean ====
/- The running softmax over the extended reals: sums rescaled by a running maximum, tile by tile, are the sums about the final maximum. -/
module

public import Idealize.ShloMosaic.Lib.Pointwise

@[expose] public section

noncomputable section

namespace Cert.Proof.FoxMath
open Idealize.ShloMosaic

theorem exp2_nonneg (x : EReal) : 0 ≤ Ideal.exp2 x := by
  induction x with
  | bot => exact le_refl _
  | top => exact le_top
  | coe r => exact EReal.coe_nonneg.mpr (Real.rpow_nonneg (by norm_num) r)

theorem exp2_ne_top {x : EReal} (h : x ≠ ⊤) : Ideal.exp2 x ≠ ⊤ := by
  induction x with
  | bot => exact EReal.zero_ne_top
  | top => exact absurd rfl h
  | coe r => exact EReal.coe_ne_top _

theorem exp2_pos {x : EReal} (h : x ≠ ⊥) : 0 < Ideal.exp2 x := by
  induction x with
  | bot => exact absurd rfl h
  | top => exact EReal.zero_lt_top
  | coe r => exact EReal.coe_pos.mpr (Real.rpow_pos_of_pos (by norm_num) r)

theorem sub_ne_top {x M : EReal} (hx : x ≠ ⊤) (hM : M ≠ ⊥) : x - M ≠ ⊤ := by
  induction x with
  | top => exact absurd rfl hx
  | bot => simp
  | coe r =>
    induction M with
    | bot => exact absurd rfl hM
    | top => simp
    | coe s => exact EReal.coe_ne_top _

/-- Two rescalings in a row are one. -/
theorem exp2_mul {x M N : EReal} (h : x ≤ M) (hM : M ≠ ⊤) (hN : N ≠ ⊥) (hN' : N ≠ ⊤) :
    Ideal.exp2 (M - N) * Ideal.exp2 (x - M) = Ideal.exp2 (x - N) := by
  induction N with
  | bot => exact absurd rfl hN
  | top => exact absurd rfl hN'
  | coe n =>
    induction M with
    | top => exact absurd rfl hM
    | bot =>
      rw [le_bot_iff.mp h, EReal.bot_sub, EReal.bot_sub, Ideal.exp2_bot, zero_mul]
    | coe m =>
      induction x with
      | top => exact absurd (top_le_iff.mp h) (EReal.coe_ne_top m)
      | bot => rw [EReal.bot_sub, EReal.bot_sub, Ideal.exp2_bot, mul_zero]
      | coe r =>
        rw [← EReal.coe_sub, ← EReal.coe_sub, ← EReal.coe_sub, Ideal.exp2_coe, Ideal.exp2_coe, Ideal.exp2_coe, ← EReal.coe_mul]
        refine congrArg _ ?_
        show (2 : ℝ) ^ (m - n) * (2 : ℝ) ^ (r - m) = (2 : ℝ) ^ (r - n)
        rw [← Real.rpow_add (by norm_num)]
        congr 1
        ring

/-- A finite nonnegative factor goes into a sum. -/
theorem mul_sum {ι : Type} (s : Finset ι) (f : ι → EReal) {a : EReal} (h : 0 ≤ a) (h' : a ≠ ⊤) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h h', ih]

/-- The greatest score of a tile. -/
def top1 (S : Fin 512 → EReal) : EReal := Finset.univ.fold max ⊥ S

theorem le_top1 (S : Fin 512 → EReal) (r : Fin 512) : S r ≤ top1 S :=
  (Finset.le_fold_max _).mpr (Or.inr ⟨r, Finset.mem_univ _, le_refl _⟩)

theorem top1_le {S : Fin 512 → EReal} {x : EReal} (h : ∀ r, S r ≤ x) : top1 S ≤ x :=
  (Finset.fold_max_le _).mpr ⟨bot_le, fun r _ => h r⟩

theorem top1_ne_top {S : Fin 512 → EReal} (h : ∀ r, S r ≠ ⊤) : top1 S ≠ ⊤ :=
  ((Finset.fold_max_lt _).mpr ⟨bot_lt_top, fun r _ => lt_top_iff_ne_top.mpr (h r)⟩).ne

/-- The greatest score of the tiles before the `n`-th. -/
def topN (S : ℕ → Fin 512 → EReal) : ℕ → EReal
  | 0 => ⊥
  | n + 1 => max (topN S n) (top1 (S n))

/-- The sum of the tiles before the `n`-th, about a maximum. -/
def sumN (S : ℕ → Fin 512 → EReal) (V : ℕ → Fin 512 → EReal) (M : EReal) (n : ℕ) : EReal :=
  ∑ t ∈ Finset.range n, ∑ r : Fin 512, V t r * Ideal.exp2 (S t r - M)

theorem topN_ne_top {S : ℕ → Fin 512 → EReal} (h : ∀ t r, S t r ≠ ⊤) (n : ℕ) : topN S n ≠ ⊤ := by
  induction n with
  | zero => exact bot_ne_top
  | succ n ih => exact (max_lt (lt_top_iff_ne_top.mpr ih) (lt_top_iff_ne_top.mpr (top1_ne_top (h n)))).ne

theorem le_topN {S : ℕ → Fin 512 → EReal} {t n : ℕ} (h : t < n) (r : Fin 512) : S t r ≤ topN S n := by
  induction n with
  | zero => exact absurd h (Nat.not_lt_zero _)
  | succ n ih =>
    rcases Nat.lt_succ_iff_lt_or_eq.mp h with h | rfl
    · exact (ih h).trans (le_max_left _ _)
    · exact (le_top1 (S t) r).trans (le_max_right _ _)

theorem topN_le {S : ℕ → Fin 512 → EReal} {x : EReal} (n : ℕ) (h : ∀ t r, t < n → S t r ≤ x) : topN S n ≤ x := by
  induction n with
  | zero => exact bot_le
  | succ n ih => exact max_le (ih fun t r ht => h t r (Nat.lt_succ_of_lt ht)) (top1_le fun r => h n r (Nat.lt_succ_self n))

theorem topN_ne_bot {S : ℕ → Fin 512 → EReal} {t n : ℕ} (h : t < n) (r : Fin 512) (hS : S t r ≠ ⊥) : topN S n ≠ ⊥ :=
  ((bot_lt_iff_ne_bot.mpr hS).trans_le (le_topN h r)).ne'

theorem topN_congr {S S' : ℕ → Fin 512 → EReal} (n : ℕ) (h : ∀ t, t < n → S t = S' t) : topN S n = topN S' n := by
  induction n with
  | zero => rfl
  | succ n ih =>
    show max (topN S n) (top1 (S n)) = max (topN S' n) (top1 (S' n))
    rw [ih fun t ht => h t (Nat.lt_succ_of_lt ht), h n (Nat.lt_succ_self n)]

theorem sumN_congr {S S' : ℕ → Fin 512 → EReal} (V : ℕ → Fin 512 → EReal) (M : EReal) (n : ℕ) (h : ∀ t, t < n → S t = S' t) : sumN S V M n = sumN S' V M n := by
  unfold sumN
  exact Finset.sum_congr rfl fun t ht => by rw [h t (Finset.mem_range.mp ht)]

/-- The sums before a tile, rescaled to the next maximum, with the tile's own sum, are the sums after it. -/
theorem sum_step {S : ℕ → Fin 512 → EReal} (V : ℕ → Fin 512 → EReal) (hS : ∀ t r, S t r ≠ ⊤) (n : ℕ) (hn : topN S (n + 1) ≠ ⊥) :
    Ideal.exp2 (topN S n - topN S (n + 1)) * sumN S V (topN S n) n + ∑ r : Fin 512, V n r * Ideal.exp2 (S n r - topN S (n + 1)) = sumN S V (topN S (n + 1)) (n + 1) := by
  have h0 := exp2_nonneg (topN S n - topN S (n + 1))
  have h1 := exp2_ne_top (sub_ne_top (topN_ne_top hS n) hn)
  unfold sumN
  rw [Finset.sum_range_succ, mul_sum _ _ h0 h1]
  refine congrArg (· + _) (Finset.sum_congr rfl fun t ht => ?_)
  rw [mul_sum _ _ h0 h1]
  refine Finset.sum_congr rfl fun r _ => ?_
  rw [mul_left_comm, exp2_mul (le_topN (Finset.mem_range.mp ht) r) (topN_ne_top hS n) hn (topN_ne_top hS (n + 1))]

/-- A sum over a sequence's positions, tile by tile. -/
theorem sum_tiles (g : Fin 8192 → EReal) : ∑ k : Fin 8192, g k = ∑ t ∈ Finset.range 16, ∑ r : Fin 512, g ⟨(512 * t + r.val) % 8192, Nat.mod_lt _ (by decide)⟩ := by
  rw [← Fin.sum_univ_eq_sum_range (fun t => ∑ r : Fin 512, g ⟨(512 * t + r.val) % 8192, Nat.mod_lt _ (by decide)⟩) 16, ← Fintype.sum_prod_type']
  refine (Fintype.sum_equiv (finProdFinEquiv (m := 16) (n := 512)) _ _ fun x => ?_).symm
  refine congrArg g (Fin.ext ?_)
  have h1 := x.1.isLt
  have h2 := x.2.isLt
  show (512 * x.1.val + x.2.val) % 8192 = x.2.val + 512 * x.1.val
  omega

/-- The quotient of a sum by a positive finite number. -/
theorem div_eq {L : EReal} (h : 0 < L) (x : EReal) : Ideal.div x L = x * L⁻¹ := by
  unfold Ideal.div
  rw [if_neg h.ne']

/-- Weights divided before the sum or the sum divided after it. -/
theorem sum_div {ι : Type} [Fintype ι] {L : EReal} (h : 0 < L) (h' : L ≠ ⊤) (e v : ι → EReal) :
    ∑ k, Ideal.div (e k) L * v k = Ideal.div (∑ k, v k * e k) L := by
  rw [div_eq h, mul_comm, mul_sum _ _ (EReal.inv_nonneg_of_nonneg h.le) (by
    induction L with
    | bot => exact absurd h (by simp)
    | top => exact absurd rfl h'
    | coe r => rw [← EReal.coe_inv]; exact EReal.coe_ne_top _)]
  refine Finset.sum_congr rfl fun k _ => ?_
  rw [div_eq h, mul_comm (e k), mul_assoc, mul_comm (e k)]

/-- A finite sum of reals is a real. -/
theorem sum_real {ι : Type} (s : Finset ι) (f : ι → EReal) (h : ∀ i, f i ≠ ⊥ ∧ f i ≠ ⊤) : ∑ i ∈ s, f i ≠ ⊥ ∧ ∑ i ∈ s, f i ≠ ⊤ := by
  classical
  induction s using Finset.induction_on with
  | empty => simp
  | insert i s hi ih =>
    rw [Finset.sum_insert hi, ← EReal.coe_toReal (h i).2 (h i).1, ← EReal.coe_toReal ih.2 ih.1, ← EReal.coe_add]
    exact ⟨EReal.coe_ne_bot _, EReal.coe_ne_top _⟩

theorem mul_real {x y : EReal} (hx : x ≠ ⊥ ∧ x ≠ ⊤) (hy : y ≠ ⊥ ∧ y ≠ ⊤) : x * y ≠ ⊥ ∧ x * y ≠ ⊤ := by
  rw [← EReal.coe_toReal hx.2 hx.1, ← EReal.coe_toReal hy.2 hy.1, ← EReal.coe_mul]
  exact ⟨EReal.coe_ne_bot _, EReal.coe_ne_top _⟩

theorem mod_lt (n : ℕ) : n % 512 < 512 := Nat.mod_lt _ (by decide)

section Whole
variable {S : ℕ → Fin 512 → EReal} {i : ℕ} {R : Fin 8192 → EReal}
  (hR : ∀ k : Fin 8192, R k = if k.val / 512 ≤ i then S (k.val / 512) ⟨k.val % 512, mod_lt _⟩ else ⊥)
include hR

/-- The greatest of a query's scores is the running maximum after its tile. -/
theorem fold_eq (hi : i < 16) : Finset.univ.fold max ⊥ R = topN S (i + 1) := by
  refine le_antisymm ((Finset.fold_max_le _).mpr ⟨bot_le, fun k _ => ?_⟩) (topN_le (i + 1) fun t r ht => ?_)
  · rw [hR]
    split_ifs with h
    · exact le_topN (Nat.lt_succ_of_le h) _
    · exact bot_le
  · have hr := r.isLt
    have hk : 512 * t + r.val < 8192 := by omega
    refine (Finset.le_fold_max _).mpr (Or.inr ⟨⟨512 * t + r.val, hk⟩, Finset.mem_univ _, ?_⟩)
    rw [hR, if_pos (show (512 * t + r.val) / 512 ≤ i by omega)]
    refine le_of_eq (congrArg₂ S ?_ (Fin.ext ?_))
    · show t = (512 * t + r.val) / 512; omega
    · show r.val = (512 * t + r.val) % 512; omega

/-- The sum over a sequence's positions is the running sum after the query's tile. -/
theorem sum_eq (hi : i < 16) (V : ℕ → Fin 512 → EReal) (M : EReal) :
    ∑ k : Fin 8192, V (k.val / 512) ⟨k.val % 512, mod_lt _⟩ * Ideal.exp2 (R k - M) = sumN S V M (i + 1) := by
  rw [sum_tiles]
  unfold sumN
  have hsub : Finset.range (i + 1) ⊆ Finset.range 16 := Finset.range_mono (by omega)
  rw [← Finset.sum_subset hsub]
  · refine Finset.sum_congr rfl fun t ht => Finset.sum_congr rfl fun r _ => ?_
    have ht' := Finset.mem_range.mp ht
    have hr := r.isLt
    have e1 : (512 * t + r.val) % 8192 / 512 = t := by omega
    have e2 : (⟨(512 * t + r.val) % 8192 % 512, mod_lt _⟩ : Fin 512) = r := Fin.ext (by show (512 * t + r.val) % 8192 % 512 = r.val; omega)
    rw [hR]
    dsimp only
    rw [e1, e2, if_pos (by omega)]
  · intro t ht hn
    have ht' := Finset.mem_range.mp ht
    have hn' : ¬ t < i + 1 := fun h => hn (Finset.mem_range.mpr h)
    refine Finset.sum_eq_zero fun r _ => ?_
    have hr := r.isLt
    have e1 : ¬ (512 * t + r.val) % 8192 / 512 ≤ i := by omega
    rw [hR]
    dsimp only
    rw [if_neg e1, EReal.bot_sub, Ideal.exp2_bot, mul_zero]

/-- The softmax of a query's scores against the values is the quotient of the running sums after its tile. -/
theorem softmax_eq (hi : i < 16) (hT : ∀ t r, S t r ≠ ⊤) (hB : S i 0 ≠ ⊥) (V : ℕ → Fin 512 → EReal) :
    ∑ k : Fin 8192, Ideal.div (Ideal.exp2 (R k - Finset.univ.fold max ⊥ R)) (∑ k' : Fin 8192, Ideal.exp2 (R k' - Finset.univ.fold max ⊥ R)) * V (k.val / 512) ⟨k.val % 512, mod_lt _⟩
      = Ideal.div (sumN S V (topN S (i + 1)) (i + 1)) (sumN S (fun _ _ => 1) (topN S (i + 1)) (i + 1)) := by
  rw [fold_eq hR hi]
  have hM := topN_ne_top hT (i + 1)
  have hM' : topN S (i + 1) ≠ ⊥ := topN_ne_bot (Nat.lt_succ_self i) 0 hB
  have hRT : ∀ k, R k ≠ ⊤ := by
    intro k
    rw [hR]
    split_ifs
    · exact hT _ _
    · exact bot_ne_top
  have hreal : ∀ k, Ideal.exp2 (R k - topN S (i + 1)) ≠ ⊥ ∧ Ideal.exp2 (R k - topN S (i + 1)) ≠ ⊤ := fun k =>
    ⟨(EReal.bot_lt_zero.trans_le (exp2_nonneg _)).ne', exp2_ne_top (sub_ne_top (hRT k) hM')⟩
  have hk : 512 * i < 8192 := by omega
  have hpos : 0 < ∑ k' : Fin 8192, Ideal.exp2 (R k' - topN S (i + 1)) := by
    refine (exp2_pos (x := R ⟨512 * i, hk⟩ - topN S (i + 1)) ?_).trans_le (Finset.single_le_sum (f := fun k' => Ideal.exp2 (R k' - topN S (i + 1))) (fun k _ => exp2_nonneg _) (Finset.mem_univ _))
    have e : R ⟨512 * i, hk⟩ = S i 0 := by
      rw [hR, if_pos (show 512 * i / 512 ≤ i by omega)]
      refine congrArg₂ S ?_ (Fin.ext ?_)
      · show 512 * i / 512 = i; omega
      · show 512 * i % 512 = 0; omega
    rw [e, ← EReal.coe_toReal (hT i 0) hB, ← EReal.coe_toReal hM hM', ← EReal.coe_sub]
    exact EReal.coe_ne_bot _
  rw [sum_div hpos (sum_real _ _ hreal).2, sum_eq hR hi, ← sum_eq hR hi (fun _ _ => 1)]
  simp only [one_mul]

end Whole

end Cert.Proof.FoxMath

end
-- ==== Proof.FoxValue.lean ====
/- The stages of the forgetting attention's kernel read at an index, over the extended reals, and the running softmax they compute. -/
module

public import proofs.«01_k».proof.Proof.FoxPoint
public import proofs.«01_k».proof.Proof.FoxMath
public import Idealize.ShloMosaic.Lib.Pointwise

@[expose] public section

set_option maxRecDepth 16384

noncomputable section

namespace Cert.Proof.KernelIdeal
open Cert.KernelIdeal Cert.KernelIdeal.Gen
open Idealize.ShloMosaic Idealize.ShloMosaic.TcCoe Idealize.ShloMosaic.Tactic
open Cert.Proof.FoxMath

theorem neg_inf : Ideal.ofBits .f32 0xFF800000#32 = ⊥ := by simp [Ideal.ofBits, Ideal.ieee]

theorem mask_bot : (Named.named κ "mask" 0xF149F2CA#32 : Ideal .f32) = ⊥ := IdealRules.named_const.ideal_named_scalar _ _ _ _ rfl

/-- Two positions of a tile compared as words are compared as numbers. -/
theorem select_le {α : Type} (r c : Fin 512) (a b : α) :
    Scalar.select (IntOp.cmpi CmpIPredicate.sle (BitVec.ofNat 32 r.val) (BitVec.ofNat 32 c.val)) a b = if r.val ≤ c.val then a else b := by
  have hr := r.isLt
  have hc := c.isLt
  have e : (BitVec.ofNat 32 r.val).sle (BitVec.ofNat 32 c.val) = decide (r.val ≤ c.val) := by
    rw [BitVec.sle_eq_decide, BitVec.toInt_eq_toNat_of_lt (by rw [BitVec.toNat_ofNat]; omega), BitVec.toInt_eq_toNat_of_lt (by rw [BitVec.toNat_ofNat]; omega), BitVec.toNat_ofNat, BitVec.toNat_ofNat, Nat.mod_eq_of_lt (by omega), Nat.mod_eq_of_lt (by omega)]
    exact decide_eq_decide.mpr (by omega)
  by_cases h : r.val ≤ c.val
  · simp [Scalar.select, IntOp.cmpi, e, h]
  · simp [Scalar.select, IntOp.cmpi, e, h]

theorem scoreP_apply (q : FVec Ideal S512x128 .bf16) (kt : Vec Ideal S1x512x128 .bf16) (r c : Fin 512) :
    scoreP (F := Ideal) q kt (ix3 0 r c) = ∑ d : Fin 128, kt (ix3 0 r d) * q (ix2 c d) := by
  unfold scoreP
  pointwise [k0_pay12, k0_pay11]

theorem smaxP_apply (q : FVec Ideal S512x128 .bf16) (kt : Vec Ideal S1x512x128 .bf16) (c : Fin 512) :
    smaxP (F := Ideal) q kt (ix3 0 0 c) = top1 fun r : Fin 512 => ∑ d : Fin 128, kt (ix3 0 r d) * q (ix2 c d) := by
  unfold smaxP top1
  pointwise [k0_pay13, k0_pay11]
  rw [neg_inf]

theorem mP_apply (m sx : Vec Ideal S1x1x512 .f32) (c : Fin 512) : mP (F := Ideal) m sx (ix3 0 0 c) = max (m (ix3 0 0 c)) (sx (ix3 0 0 c)) := by
  unfold mP
  pointwise [k0_pay33, k0_pay22, k0_pay18]

theorem accP_apply (m sx : Vec Ideal S1x1x512 .f32) (s : Vec Ideal S1x512x512 .f32) (acc : Vec Ideal S1x80x512 .f32) (v : Vec Ideal S1x1x1x80x512 .bf16) (d : Fin 80) (c : Fin 512) :
    accP (F := Ideal) m sx s acc v (ix3 0 d c) = Ideal.exp2 (m (ix3 0 0 c) - max (m (ix3 0 0 c)) (sx (ix3 0 0 c))) * acc (ix3 0 d c)
      + ∑ r : Fin 512, v (ix5 0 0 0 d r) * Ideal.exp2 (s (ix3 0 r c) - max (m (ix3 0 0 c)) (sx (ix3 0 0 c))) := by
  unfold accP
  pointwise [k0_pay32, k0_pay26, k0_pay22, k0_pay18, k0_pay17]
  rfl

theorem mask_apply (s : Vec Ideal S1x512x512 .f32) (r c : Fin 512) : k0_pay162 (F := Ideal) s (ix2 r c) = if r.val ≤ c.val then s (ix3 0 r c) else ⊥ := by
  pointwise [k0_pay162]
  rw [select_le, mask_bot]

theorem maskmax_apply (s : Vec Ideal S1x512x512 .f32) (c : Fin 512) : k0_pay166 (F := Ideal) s (ix2 0 c) = top1 fun r : Fin 512 => if r.val ≤ c.val then s (ix3 0 r c) else ⊥ := by
  rw [show (fun r : Fin 512 => if r.val ≤ c.val then s (ix3 0 r c) else ⊥) = fun r => k0_pay162 (F := Ideal) s (ix2 r c) from funext fun r => (mask_apply s r c).symm]
  unfold k0_pay166 top1
  generalize k0_pay162 (F := Ideal) s = y
  pointwise []
  rw [neg_inf]

theorem accC_apply (m : Vec Ideal S1x1x512 .f32) (s : Vec Ideal S1x512x512 .f32) (acc : Vec Ideal S1x80x512 .f32) (v : Vec Ideal S1x1x1x80x512 .bf16) (d : Fin 80) (c : Fin 512) :
    accC (F := Ideal) m s acc v (ix3 0 d c) = Ideal.exp2 (m (ix3 0 0 c) - max (m (ix3 0 0 c)) (k0_pay166 (F := Ideal) s (ix2 0 c))) * acc (ix3 0 d c)
      + ∑ r : Fin 512, v (ix5 0 0 0 d r) * Ideal.exp2 (k0_pay162 (F := Ideal) s (ix2 r c) - max (m (ix3 0 0 c)) (k0_pay166 (F := Ideal) s (ix2 0 c))) := by
  unfold accC
  generalize k0_pay162 (F := Ideal) s = y
  generalize k0_pay166 (F := Ideal) s = z
  pointwise [k0_pay287, k0_pay170]
  rfl

theorem finP_apply (a : Fin 4 → FVec Ideal S1x80x512 .f32) (h : Fin 4) (d : Fin 64) (c : Fin 512) :
    finP (F := Ideal) a (ix3 0 c ⟨64 * h.val + d.val, by omega⟩) = Ideal.div (a h (ix3 0 ⟨d.val, by omega⟩ c)) (a h (ix3 0 64 c)) := by
  unfold finP
  pointwise [k0_pay1, k0_pay290, k0_pay291, k0_pay292, k0_pay293, k0_pay294, k0_pay295]
  have hd := d.isLt
  match h with
  | ⟨0, _⟩ =>
    rw [dif_pos (show 64 * 0 + d.val < 64 by omega)]
    refine congrArg (fun x => Ideal.div (a 0 (ix3 0 x c)) _) (Fin.ext ?_)
    show 64 * 0 + d.val = d.val; omega
  | ⟨1, _⟩ =>
    rw [dif_neg (show ¬ 64 * 1 + d.val < 64 by omega), dif_pos (show 64 * 1 + d.val - 64 < 64 by omega)]
    refine congrArg (fun x => Ideal.div (a 1 (ix3 0 x c)) _) (Fin.ext ?_)
    show 64 * 1 + d.val - 64 = d.val; omega
  | ⟨2, _⟩ =>
    rw [dif_neg (show ¬ 64 * 2 + d.val < 64 by omega), dif_neg (show ¬ 64 * 2 + d.val - 64 < 64 by omega), dif_pos (show 64 * 2 + d.val - 64 - 64 < 64 by omega)]
    refine congrArg (fun x => Ideal.div (a 2 (ix3 0 x c)) _) (Fin.ext ?_)
    show 64 * 2 + d.val - 64 - 64 = d.val; omega
  | ⟨3, _⟩ =>
    rw [dif_neg (show ¬ 64 * 3 + d.val < 64 by omega), dif_neg (show ¬ 64 * 3 + d.val - 64 < 64 by omega), dif_neg (show ¬ 64 * 3 + d.val - 64 - 64 < 64 by omega)]
    refine congrArg (fun x => Ideal.div (a 3 (ix3 0 x c)) _) (Fin.ext ?_)
    show 64 * 3 + d.val - 64 - 64 - 64 = d.val; omega

theorem qT_apply (x0 : Vec Ideal S1x512x512 .bf16) (h : Fin 4) (c : Fin 512) (d : Fin 128) :
    qT (F := Ideal) x0 h (ix2 c d) = x0 (ix3 0 c ⟨128 * h.val + d.val, by omega⟩) := by
  unfold qT
  pointwise [k0_pay261]

theorem keyT_apply (x1 : Vec Ideal S1x8192x512 .bf16) (t : Fin 16) (h : Fin 4) (r : Fin 512) (d : Fin 128) :
    keyT (F := Ideal) x1 t h (ix3 0 r d) = x1 (ix3 0 ⟨512 * t.val + r.val, by omega⟩ ⟨128 * h.val + d.val, by omega⟩) := by
  unfold keyT
  pointwise []

theorem valT_apply (x2 : Vec Ideal S1x4x16x80x512 .bf16) (t : Fin 16) (h : Fin 4) (d : Fin 80) (r : Fin 512) :
    valT (F := Ideal) x2 t h (ix5 0 0 0 d r) = x2 (ix5 0 h t d r) := by
  unfold valT
  pointwise []

/-- The scores of the tiles' keys against a query. -/
def rawS (x0 : Vec Ideal S1x512x512 .bf16) (x1 : Vec Ideal S1x8192x512 .bf16) (h : Fin 4) (c : Fin 512) (t : ℕ) (r : Fin 512) : EReal :=
  ∑ d : Fin 128, keyT (F := Ideal) x1 (tl t) h (ix3 0 r d) * qT (F := Ideal) x0 h (ix2 c d)

/-- A row of the tiles' values. -/
def valS (x2 : Vec Ideal S1x4x16x80x512 .bf16) (h : Fin 4) (d : Fin 80) (t : ℕ) (r : Fin 512) : EReal := valT (F := Ideal) x2 (tl t) h (ix5 0 0 0 d r)

/-- The scores up to a query's tile, the keys after the query left out of it. -/
def cauS (x0 : Vec Ideal S1x512x512 .bf16) (x1 : Vec Ideal S1x8192x512 .bf16) (h : Fin 4) (i : ℕ) (c : Fin 512) (t : ℕ) (r : Fin 512) : EReal :=
  if t = i then (if r.val ≤ c.val then rawS x0 x1 h c i r else ⊥) else rawS x0 x1 h c t r

variable (x0 : Vec Ideal S1x512x512 .bf16) (x1 : Vec Ideal S1x8192x512 .bf16) (x2 : Vec Ideal S1x4x16x80x512 .bf16) (h : Fin 4)

/-- A head after `n` tiles: the running maximum and the sums about it. -/
def Run (n : ℕ) (m : Vec Ideal S1x1x512 .f32) (acc : Vec Ideal S1x80x512 .f32) : Prop :=
  ∀ c : Fin 512, m (ix3 0 0 c) = topN (rawS x0 x1 h c) n ∧ ∀ d : Fin 80, acc (ix3 0 d c) = sumN (rawS x0 x1 h c) (valS x2 h d) (topN (rawS x0 x1 h c) n) n

/-- Every score is a real number. -/
def Real1 : Prop := ∀ (c : Fin 512) (t : ℕ) (r : Fin 512), rawS x0 x1 h c t r ≠ ⊥ ∧ rawS x0 x1 h c t r ≠ ⊤

/-- One more tile. -/
theorem run_step (hR : Real1 x0 x1 h) (n : ℕ) (m : Vec Ideal S1x1x512 .f32) (acc : Vec Ideal S1x80x512 .f32) (hm : Run x0 x1 x2 h n m acc) :
    Run x0 x1 x2 h (n + 1) (mP m (smaxP (qT x0 h) (keyT x1 (tl n) h))) (accP m (smaxP (qT x0 h) (keyT x1 (tl n) h)) (scoreP (qT x0 h) (keyT x1 (tl n) h)) acc (valT x2 (tl n) h)) := by
  intro c
  obtain ⟨h1, h2⟩ := hm c
  have e : max (m (ix3 0 0 c)) (smaxP (F := Ideal) (qT x0 h) (keyT x1 (tl n) h) (ix3 0 0 c)) = topN (rawS x0 x1 h c) (n + 1) := by
    rw [h1, smaxP_apply]; rfl
  refine ⟨(mP_apply _ _ c).trans e, fun d => ?_⟩
  rw [accP_apply, e, h1, h2 d]
  simp only [scoreP_apply]
  exact sum_step (valS x2 h d) (fun t r => (hR c t r).2) n (topN_ne_bot (Nat.lt_succ_self n) 0 (hR c n 0).1)

/-- A head at the loop's entry. -/
theorem run_zero : Run x0 x1 x2 h 0 (st0 (F := Ideal) x0 x1 h).m (st0 (F := Ideal) x0 x1 h).acc := by
  unfold st0
  intro c
  refine ⟨?_, fun d => ?_⟩
  · show _ = ⊥
    dsimp only
    unfold hd headR
    pointwise [k0_pay265]
    exact mask_bot
  · show _ = ∑ t ∈ Finset.range 0, _
    rw [Finset.sum_range_zero]
    dsimp only
    unfold hd headR
    pointwise [k0_pay266]

theorem st0_s : (st0 (F := Ideal) x0 x1 h).s = scoreP (qT x0 h) (keyT x1 (tl 0) h) := by
  have e : tl 0 = (0 : Fin 16) := by decide
  rw [e]
  unfold st0
  dsimp only

theorem st0_sx : (st0 (F := Ideal) x0 x1 h).sx = smaxP (qT x0 h) (keyT x1 (tl 0) h) := by
  have e : tl 0 = (0 : Fin 16) := by decide
  rw [e]
  unfold st0
  dsimp only

/-- A head after the loop's trips, the next tile's scores at hand. -/
theorem run_trips (hR : Real1 x0 x1 h) (n : ℕ) :
    Run x0 x1 x2 h (2 * n) (stateH (qT x0 h) x1 x2 h (st0 (F := Ideal) x0 x1 h) n).m (stateH (qT x0 h) x1 x2 h (st0 (F := Ideal) x0 x1 h) n).acc
      ∧ (stateH (qT x0 h) x1 x2 h (st0 (F := Ideal) x0 x1 h) n).s = scoreP (qT x0 h) (keyT x1 (tl (2 * n)) h)
      ∧ (stateH (qT x0 h) x1 x2 h (st0 (F := Ideal) x0 x1 h) n).sx = smaxP (qT x0 h) (keyT x1 (tl (2 * n)) h) := by
  induction n with
  | zero =>
    rw [show stateH (qT x0 h) x1 x2 h (st0 (F := Ideal) x0 x1 h) 0 = st0 (F := Ideal) x0 x1 h from by unfold stateH; rfl, Nat.mul_zero]
    refine ⟨run_zero x0 x1 x2 h, ?_, ?_⟩
    · exact st0_s x0 x1 h
    · exact st0_sx x0 x1 h
  | succ n ih =>
    rw [show stateH (qT x0 h) x1 x2 h (st0 (F := Ideal) x0 x1 h) (n + 1) = stepH (qT x0 h) (keyT x1 (tl (2 * n + 1)) h) (keyT x1 (tl (2 * n + 2)) h) (valT x2 (tl (2 * n)) h) (valT x2 (tl (2 * n + 1)) h) (stateH (qT x0 h) x1 x2 h (st0 (F := Ideal) x0 x1 h) n) from rfl, show 2 * (n + 1) = 2 * n + 2 from rfl]
    revert ih
    generalize stateH (qT x0 h) x1 x2 h (st0 (F := Ideal) x0 x1 h) n = st
    rintro ⟨h1, h2, h3⟩
    have s1 := run_step x0 x1 x2 h hR (2 * n) _ _ h1
    rw [← h2, ← h3] at s1
    have s2 := run_step x0 x1 x2 h hR (2 * n + 1) _ _ s1
    rw [show 2 * n + 1 + 1 = 2 * n + 2 from rfl] at s2
    unfold stepH
    dsimp only
    exact ⟨s2, by trivial, by trivial⟩

/-- The last tile: the sums of all the scores up to the query. -/
theorem run_last (hR : Real1 x0 x1 h) (i : ℕ) (m : Vec Ideal S1x1x512 .f32) (acc : Vec Ideal S1x80x512 .f32) (hm : Run x0 x1 x2 h i m acc) (d : Fin 80) (c : Fin 512) :
    accC m (scoreP (qT x0 h) (keyT x1 (tl i) h)) acc (valT x2 (tl i) h) (ix3 0 d c) = sumN (cauS x0 x1 h i c) (valS x2 h d) (topN (cauS x0 x1 h i c) (i + 1)) (i + 1) := by
  obtain ⟨h1, h2⟩ := hm c
  have eS : ∀ t, t < i → rawS x0 x1 h c t = cauS x0 x1 h i c t := fun t ht => funext fun r => by
    unfold cauS
    rw [if_neg ht.ne]
  have eL : (fun r : Fin 512 => if r.val ≤ c.val then scoreP (F := Ideal) (qT x0 h) (keyT x1 (tl i) h) (ix3 0 r c) else ⊥) = cauS x0 x1 h i c i := funext fun r => by
    unfold cauS
    rw [if_pos rfl, scoreP_apply]
    rfl
  have e : max (m (ix3 0 0 c)) (k0_pay166 (F := Ideal) (scoreP (qT x0 h) (keyT x1 (tl i) h)) (ix2 0 c)) = topN (cauS x0 x1 h i c) (i + 1) := by
    rw [h1, maskmax_apply, eL, topN_congr i eS]; rfl
  have hT : ∀ t r, cauS x0 x1 h i c t r ≠ ⊤ := by
    intro t r
    unfold cauS
    split_ifs
    · exact (hR c i r).2
    · exact bot_ne_top
    · exact (hR c t r).2
  have hB : cauS x0 x1 h i c i 0 ≠ ⊥ := by
    unfold cauS
    rw [if_pos rfl, if_pos (show (0 : Fin 512).val ≤ c.val from Nat.zero_le _)]
    exact (hR c i 0).1
  rw [accC_apply, e, h1, h2 d, topN_congr i eS, sumN_congr _ _ i eS]
  have eL' : ∀ r : Fin 512, k0_pay162 (F := Ideal) (scoreP (qT x0 h) (keyT x1 (tl i) h)) (ix2 r c) = cauS x0 x1 h i c i r := fun r => (mask_apply _ r c).trans (congrFun eL r)
  simp only [eL']
  exact sum_step (valS x2 h d) hT i (topN_ne_bot (Nat.lt_succ_self i) 0 hB)

end Cert.Proof.KernelIdeal

end
-- ==== Proof.FoxBlocks.lean ====
/- The input blocks of a grid point of the forgetting attention, read off the arguments. -/
module

public import proofs.«01_k».proof.Proof.FoxValue
public import Idealize.ShloMosaic.Lib.Claim
public import Idealize.ShloMosaic.Lib.Pipeline.ValueKit

@[expose] public section

set_option maxRecDepth 16384

noncomputable section

namespace Cert.Proof.KernelIdeal
open Cert.KernelIdeal Cert.KernelIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD) (t : Fin cfg0.N)

/-- The sequence a grid point works on. -/
def bOf : Fin 8 := ⟨t.val / 16, by have := lt_of_lt_of_eq t.isLt (show cfg0.N = 128 from N_0); omega⟩

/-- The query tile a grid point works on. -/
def iOf : Fin 16 := ⟨t.val % 16, Nat.mod_lt _ (by decide)⟩

theorem V_v0 : V m c main_v0 = shapeCast S8x8192x512 (m ((c : Thread nD τ).loc main_arg0)) shapeCasts_S65536x512_S8x8192x512 := by
  simp only [V, hostOps0]
  after_results_simp <;> rfl

theorem V_v1 : V m c main_v1 = shapeCast S8x8192x512 (m ((c : Thread nD τ).loc main_arg1)) shapeCasts_S65536x512_S8x8192x512 := by
  simp only [V, hostOps0]
  after_results_simp <;> rfl

theorem idx_q : ∀ t : Fin grid0.N, win0_0.index t (0 : Fin 3) = t.val / 16 ∧ win0_0.index t (1 : Fin 3) = t.val % 16 ∧ win0_0.index t (2 : Fin 3) = 0 := by decide +kernel
theorem idx_k : ∀ t : Fin grid0.N, win0_1.index t (0 : Fin 3) = t.val / 16 ∧ win0_1.index t (1 : Fin 3) = 0 ∧ win0_1.index t (2 : Fin 3) = 0 := by decide +kernel
theorem idx_v : ∀ t : Fin grid0.N, win0_2.index t (0 : Fin 5) = t.val / 16 ∧ win0_2.index t (1 : Fin 5) = 0 ∧ win0_2.index t (2 : Fin 5) = 0 ∧ win0_2.index t (3 : Fin 5) = 0 ∧ win0_2.index t (4 : Fin 5) = 0 := by decide +kernel
theorem idx_o : ∀ t : Fin grid0.N, win0_3.index t (0 : Fin 3) = t.val / 16 ∧ win0_3.index t (1 : Fin 3) = t.val % 16 ∧ win0_3.index t (2 : Fin 3) = 0 := by decide +kernel
theorem idx_i : ∀ t : Fin grid0.N, ((grid0.coords t) 1).val = t.val % 16 := by decide +kernel

theorem blk_q (p q : Fin 512) : (iblk m c 0 t : Vec Ideal S1x512x512 .bf16) (ix3 0 p q) = m ((c : Thread nD τ).loc main_arg0) (ix2 ⟨(bOf t).val * 8192 + (512 * (iOf t).val + p.val), by omega⟩ q) := by
  blk_ext! [iblk, idx_q t, bOf, iOf, V_v0]

theorem blk_k (p : Fin 8192) (q : Fin 512) : (iblk m c 1 t : Vec Ideal S1x8192x512 .bf16) (ix3 0 p q) = m ((c : Thread nD τ).loc main_arg1) (ix2 ⟨(bOf t).val * 8192 + p.val, by omega⟩ q) := by
  blk_ext! [iblk, idx_k t, bOf, iOf, V_v1]

theorem blk_v (h : Fin 4) (u : Fin 16) (d : Fin 80) (r : Fin 512) : (iblk m c 2 t : Vec Ideal S1x4x16x80x512 .bf16) (ix5 0 h u d r) = m ((c : Thread nD τ).loc main_arg2) (ix5 (bOf t) h u d r) := by
  blk_ext! [iblk, idx_v t, bOf, iOf]

end Cert.Proof.KernelIdeal

end
-- ==== Proof.FoxRef.lean ====
/- The reference of the forgetting attention in stages, read at an index over the extended reals. -/
module

public import proofs.«01_k».proof.Proof.Gen.ReferenceIdeal.Run
public import Idealize.ShloMosaic.Lib.Tactic
public import Idealize.ShloMosaic.Lib.Pointwise

@[expose] public section

set_option maxRecDepth 16384

noncomputable section

namespace Cert.Proof.FoxRef
open Cert.ReferenceIdeal Cert.ReferenceIdeal.Gen Cert.ReferenceIdeal.Value
open Idealize.ShloMosaic Idealize.ShloMosaic.TcCoe Idealize.ShloMosaic.Tactic
open Idealize.SL Idealize.SL.Sem

/-- The scores of every key against every query, the keys after a query left out. -/
def rS (a0 a1 : FVec Ideal S65536x512 .bf16) : FVec Ideal S8x4x8192x8192 .f32 :=
  select (broadcastInDim S8x4x8192x8192 ![2, 3] bcast_S8192x8192_S8x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral dot_S8x4x8192x128_S8x4x8192x128_S8x4x8192x8192_3_3_2_2_01_01 none
      (transpose S8x4x8192x128 [0, 2, 1, 3] (shapeCast S8x8192x4x128 (extf .f32 a0 bitsLt_bf16_f32) shapeCasts_S65536x512_S8x8192x4x128) transposes_S8x8192x4x128_S8x4x8192x128_0_2_1_3)
      (transpose S8x4x8192x128 [0, 2, 1, 3] (shapeCast S8x8192x4x128 (extf .f32 a1 bitsLt_bf16_f32) shapeCasts_S65536x512_S8x8192x4x128) transposes_S8x8192x4x128_S8x4x8192x128_0_2_1_3))
    (broadcastInDim S8x4x8192x8192 ![] bcast_S_S8x4x8192x8192 (constant S_ .f32 0xFF800000#32))

/-- The powers of two of the scores about each query's greatest. -/
def rE (S : FVec Ideal S8x4x8192x8192 .f32) : FVec Ideal S8x4x8192x8192 .f32 :=
  Host.powf (broadcastInDim S8x4x8192x8192 ![] bcast_S_S8x4x8192x8192 (constant S_ .f32 0x40000000#32))
    (subf S (broadcastInDim S8x4x8192x8192 ![0, 1, 2, 3] bcast_S8x4x8192x1_S8x4x8192x8192_0_1_2_3 (broadcastInDim S8x4x8192x1 ![0, 1, 2] bcast_S8x4x8192_S8x4x8192x1_0_1_2 (Host.reduce FloatOps.maximumf S (constant S_ .f32 0xFF800000#32) reducesTo_S8x4x8192x8192_S8x4x8192_d3 h_S_))))

/-- The weights. -/
def rP (E : FVec Ideal S8x4x8192x8192 .f32) : FVec Ideal S8x4x8192x8192 .f32 :=
  Host.divf E (broadcastInDim S8x4x8192x8192 ![0, 1, 2, 3] bcast_S8x4x8192x1_S8x4x8192x8192_0_1_2_3 (broadcastInDim S8x4x8192x1 ![0, 1, 2] bcast_S8x4x8192_S8x4x8192x1_0_1_2 (Host.reduceAdd E (constant S_ .f32 0x00000000#32) reducesTo_S8x4x8192x8192_S8x4x8192_d3 h_S_)))

/-- The weighted values, the heads side by side. -/
def rY (P : FVec Ideal S8x4x8192x8192 .f32) (a2 : FVec Ideal S8x4x16x80x512 .bf16) : FVec Ideal S8x8192x256 .bf16 :=
  truncf .bf16 (shapeCast S8x8192x256 (transpose S8x8192x4x64 [0, 2, 1, 3] (Host.dotGeneral dot_S8x4x8192x8192_S8x4x8192x64_S8x4x8192x64_3_2_2_3_01_01 none (extf .f32 (truncf .bf16 P bitsLt_bf16_f32) bitsLt_bf16_f32)
    (shapeCast S8x4x8192x64 (transpose S8x4x16x512x64 [0, 1, 2, 4, 3] (extf .f32 (extractStridedSlice S8x4x16x64x512 ![0, 0, 0, 0, 0] a2 slices_S8x4x16x80x512_S8x4x16x64x512_0_0_0_0_0) bitsLt_bf16_f32) transposes_S8x4x16x64x512_S8x4x16x512x64_0_1_2_4_3) shapeCasts_S8x4x16x512x64_S8x4x8192x64)) transposes_S8x4x8192x64_S8x8192x4x64_0_2_1_3) shapeCasts_S8x8192x4x64_S8x8192x256) bitsLt_bf16_f32

/-- The reference's result in stages. -/
theorem res_stages (m : (ℓ : Loc nD τ sig) → Buf (Elt Ideal) ℓ) (c : Dev nD) :
    res_out0 (F := Ideal) m c = rY (rP (rE (rS (m ((c.tc : Thread nD τ).loc main_arg0)) (m ((c.tc : Thread nD τ).loc main_arg1))))) (m ((c.tc : Thread nD τ).loc main_arg2)) := rfl

/-- Two positions of a sequence compared as words are compared as numbers. -/
theorem select_le {α : Type} (k p : Fin 8192) (a b : α) :
    Scalar.select (IntOp.cmpi CmpIPredicate.sle (BitVec.ofNat 32 k.val) (BitVec.ofNat 32 p.val)) a b = if k.val ≤ p.val then a else b := by
  have hr := k.isLt
  have hc := p.isLt
  have e : (BitVec.ofNat 32 k.val).sle (BitVec.ofNat 32 p.val) = decide (k.val ≤ p.val) := by
    rw [BitVec.sle_eq_decide, BitVec.toInt_eq_toNat_of_lt (by rw [BitVec.toNat_ofNat]; omega), BitVec.toInt_eq_toNat_of_lt (by rw [BitVec.toNat_ofNat]; omega), BitVec.toNat_ofNat, BitVec.toNat_ofNat, Nat.mod_eq_of_lt (by omega), Nat.mod_eq_of_lt (by omega)]
    exact decide_eq_decide.mpr (by omega)
  by_cases h : k.val ≤ p.val
  · simp [Scalar.select, IntOp.cmpi, e, h]
  · simp [Scalar.select, IntOp.cmpi, e, h]

theorem neg_inf : Ideal.ofBits .f32 0xFF800000#32 = ⊥ := by simp [Ideal.ofBits, Ideal.ieee]

theorem two : Ideal.ofBits .f32 0x40000000#32 = ((2 : ℝ) : EReal) := by
  simp [Ideal.ofBits, Ideal.ieee, -EReal.coe_mul]
  norm_num

theorem pow_two (x : EReal) : Ideal.pow ((2 : ℝ) : EReal) x = Ideal.exp2 x := by
  induction x with
  | bot => rw [Ideal.pow_coe_bot, if_neg (by norm_num), if_pos (by norm_num)]; rfl
  | top => rw [Ideal.pow_coe_top, if_neg (by norm_num), if_pos (by norm_num)]; rfl
  | coe r => rfl

theorem rS_apply (a0 a1 : FVec Ideal S65536x512 .bf16) (b : Fin 8) (h : Fin 4) (p k : Fin 8192) :
    rS a0 a1 (ix4 b h p k) = if k.val ≤ p.val then ∑ d : Fin 128, a0 (ix2 ⟨b.val * 8192 + p.val, by omega⟩ ⟨h.val * 128 + d.val, by omega⟩) * a1 (ix2 ⟨b.val * 8192 + k.val, by omega⟩ ⟨h.val * 128 + d.val, by omega⟩) else ⊥ := by
  unfold rS
  pointwise []
  rw [select_le, neg_inf]

theorem rE_apply (S : FVec Ideal S8x4x8192x8192 .f32) (b : Fin 8) (h : Fin 4) (p k : Fin 8192) :
    rE S (ix4 b h p k) = Ideal.exp2 (S (ix4 b h p k) - Finset.univ.fold max ⊥ fun k' : Fin 8192 => S (ix4 b h p k')) := by
  unfold rE
  pointwise []
  rw [two, pow_two, neg_inf]

theorem rP_apply (E : FVec Ideal S8x4x8192x8192 .f32) (b : Fin 8) (h : Fin 4) (p k : Fin 8192) :
    rP E (ix4 b h p k) = Ideal.div (E (ix4 b h p k)) (∑ k' : Fin 8192, E (ix4 b h p k')) := by
  unfold rP
  pointwise []

theorem rY_apply (P : FVec Ideal S8x4x8192x8192 .f32) (a2 : FVec Ideal S8x4x16x80x512 .bf16) (b : Fin 8) (h : Fin 4) (p : Fin 8192) (d : Fin 64) :
    rY P a2 (ix3 b p ⟨64 * h.val + d.val, by omega⟩) = ∑ k : Fin 8192, P (ix4 b h p k) * a2 (ix5 b h ⟨k.val / 512, by omega⟩ ⟨d.val, by omega⟩ ⟨k.val % 512, by omega⟩) := by
  unfold rY
  pointwise []

end Cert.Proof.FoxRef

end
-- ==== Proof.FoxFinal.lean ====
/- The forgetting attention's kernel against its reference, over the extended reals. -/
module

public import proofs.«01_k».proof.Proof.FoxBlocks
public import proofs.«01_k».proof.Proof.FoxIdealFrame
public import proofs.«01_k».proof.Proof.FoxRef
public import proofs.«01_k».proof.Proof.Gen.Pre_finite_and_ones_row
public import Idealize.ShloMosaic.Lib.Claim
public import proofs.«01_k».proof.Defs

@[expose] public section

set_option maxRecDepth 16384

noncomputable section

namespace Cert.Proof.KernelIdeal
open Cert.KernelIdeal Cert.KernelIdeal.Gen
open Idealize.ShloMosaic Idealize.ShloMosaic.TcCoe Idealize.ShloMosaic.Tactic
open Idealize.SL Idealize.SL.Sem
open Idealize.ShloMosaic.Pipeline (Dat)
open Cert.Proof.FoxMath

/-! ## The precondition read -/

/-- A conjunction of bits that is one has every bit one. -/
theorem all_one {ι : Type} (s : Finset ι) (f : ι → BitVec 1) (h : s.fold IntOp.andi 1#1 f = 1#1) : ∀ i ∈ s, f i = 1#1 := by
  classical
  have key : ∀ x y : BitVec 1, IntOp.andi x y = 1#1 → x = 1#1 ∧ y = 1#1 := by decide
  induction s using Finset.induction_on with
  | empty => intro i hi; exact absurd hi (Finset.notMem_empty i)
  | insert j s hj ih =>
    rw [Finset.fold_insert hj] at h
    obtain ⟨h1, h2⟩ := key _ _ h
    intro i hi
    rcases Finset.mem_insert.mp hi with rfl | hi
    · exact h1
    · exact ih h2 i hi

theorem all_one' {ι : Type} [Fintype ι] (f : ι → BitVec 1) (h : Finset.univ.fold IntOp.andi 1#1 f = 1#1) : ∀ i, f i = 1#1 :=
  fun i => all_one _ f h i (Finset.mem_univ i)

theorem pos_inf : Ideal.ofBits .f32 0x7F800000#32 = ⊤ := by simp [Ideal.ofBits, Ideal.ieee]

theorem real_of_abs {x : EReal} (h : BitVec.ofBool (decide (FloatOps.absf (F := Ideal) (φ := .f32) x < Ideal.ofBits .f32 0x7F800000#32)) = 1#1) : x ≠ ⊥ ∧ x ≠ ⊤ := by
  have h' : FloatOps.absf (F := Ideal) (φ := .f32) x < ⊤ := by
    rw [pos_inf] at h
    by_contra hn
    rw [decide_eq_false hn] at h
    exact absurd h (by decide)
  have h2 : max x (-x) < ⊤ := h'
  constructor
  · rintro rfl
    exact absurd h2 (by simp)
  · rintro rfl
    exact absurd h2 (by simp)

/-- Every entry is a real number. -/
def AllReal (a : FVec Ideal S65536x512 .bf16) : Prop := ∀ i j, a (ix2 i j) ≠ ⊥ ∧ a (ix2 i j) ≠ ⊤

/-- The row after the heads' values is all ones. -/
def OnesRow (a : FVec Ideal S8x4x16x80x512 .bf16) : Prop := ∀ (b : Fin 8) (g : Fin 4) (t : Fin 16) (r : Fin 512), a (ix5 b g t 64 r) = 1

/-- What the precondition says: the queries and keys are real numbers, and the row of the values after the heads' is all ones. -/
theorem pre_read [Cert.Pre_finite_and_ones_row.Facts] (a0 a1 : FVec Ideal S65536x512 .bf16) (a2 : FVec Ideal S8x4x16x80x512 .bf16)
    (h : Cert.Pre_finite_and_ones_row.fn (F := Ideal) a0 a1 a2 = fun _ => 1#1) :
    AllReal a0 ∧ AllReal a1 ∧ OnesRow a2 := by
  have h0 := congrFun h ix0
  revert h0
  unfold Cert.Pre_finite_and_ones_row.fn
  pointwise []
  intro h0
  have key : ∀ x y : BitVec 1, IntOp.andi x y = 1#1 → x = 1#1 ∧ y = 1#1 := by decide
  obtain ⟨h01, h2⟩ := key _ _ h0
  obtain ⟨h0, h1⟩ := key _ _ h01
  have e0 := all_one' _ h0
  have e1 := all_one' _ h1
  clear h0 h1 h01
  refine ⟨fun i j => ?_, fun i j => ?_, fun b g t r => ?_⟩
  · have e := e0 (i, j)
    dsimp only at e
    exact real_of_abs e
  · have e := e1 (i, j)
    dsimp only at e
    exact real_of_abs e
  have e : BitVec.ofBool (decide (a2 (ix5 b g t 64 r) = 1)) = 1#1 :=
    all_one _ _ h2 (ix4 b g t r) (Finset.mem_filter.mpr ⟨Finset.mem_univ _, funext fun a => a.elim0⟩)
  by_contra hn
  rw [decide_eq_false hn] at e
  exact absurd e (by decide)

/-! ## A point's block -/

section Args
variable (m : (ℓ : Loc nD τ sig) → Buf (Elt Ideal) ℓ) (c : Dev nD)

/-- The queries. -/
def argQ : FVec Ideal S65536x512 .bf16 := m ((c : Thread nD τ).loc main_arg0)

/-- The keys. -/
def argK : FVec Ideal S65536x512 .bf16 := m ((c : Thread nD τ).loc main_arg1)

/-- The values. -/
def argV : FVec Ideal S8x4x16x80x512 .bf16 := m ((c : Thread nD τ).loc main_arg2)

end Args

section Point
variable (m : (ℓ : Loc nD τ sig) → Buf (Elt Ideal) ℓ) (c : Dev nD) (t : Fin cfg0.N)

/-- A head's sums at the end of a point. -/
theorem out_pt (hR : ∀ h, Real1 (iblk m c 0 t) (iblk m c 1 t) h) (h : Fin 4) (d : Fin 64) (p : Fin 512) :
    outsAt m c t (ix3 0 p ⟨64 * h.val + d.val, by omega⟩)
      = Ideal.div (sumN (cauS (iblk m c 0 t) (iblk m c 1 t) h (iOf t).val p) (valS (iblk m c 2 t) h ⟨d.val, by omega⟩) (topN (cauS (iblk m c 0 t) (iblk m c 1 t) h (iOf t).val p) ((iOf t).val + 1)) ((iOf t).val + 1))
          (sumN (cauS (iblk m c 0 t) (iblk m c 1 t) h (iOf t).val p) (valS (iblk m c 2 t) h 64) (topN (cauS (iblk m c 0 t) (iblk m c 1 t) h (iOf t).val p) ((iOf t).val + 1)) ((iOf t).val + 1)) := by
  have hi : ((grid0.coords t) 1).val = (iOf t).val := idx_i t
  by_cases h2 : t.val % 2 = 0
  · rw [outsAt_A m c t h2, outA_eq, finP_apply]
    have ev : 2 * ((iOf t).val / 2) = (iOf t).val := by
      show 2 * (t.val % 16 / 2) = t.val % 16; omega
    have key := run_trips (iblk m c 0 t) (iblk m c 1 t) (iblk m c 2 t) h (hR h) ((iOf t).val / 2)
    unfold stL
    rw [hi]
    revert key
    generalize stateH (qT (iblk m c 0 t) h) (iblk m c 1 t) (iblk m c 2 t) h (st0 (F := Ideal) (iblk m c 0 t) (iblk m c 1 t) h) ((iOf t).val / 2) = st
    rw [ev]
    rintro ⟨k1, k2, k3⟩
    rw [k2, run_last _ _ _ h (hR h) _ _ _ k1, run_last _ _ _ h (hR h) _ _ _ k1]
  · have h2' : t.val % 2 = 1 := by omega
    rw [outsAt_B m c t h2', outB_eq, finP_apply]
    have ev : 2 * ((iOf t).val / 2) = (iOf t).val - 1 := by
      show 2 * (t.val % 16 / 2) = t.val % 16 - 1; omega
    have ev' : (iOf t).val - 1 + 1 = (iOf t).val := by
      show t.val % 16 - 1 + 1 = t.val % 16; omega
    have key := run_trips (iblk m c 0 t) (iblk m c 1 t) (iblk m c 2 t) h (hR h) ((iOf t).val / 2)
    unfold stL
    rw [hi]
    revert key
    generalize stateH (qT (iblk m c 0 t) h) (iblk m c 1 t) (iblk m c 2 t) h (st0 (F := Ideal) (iblk m c 0 t) (iblk m c 1 t) h) ((iOf t).val / 2) = st
    rw [ev]
    rintro ⟨k1, k2, k3⟩
    rw [k2, k3]
    have s1 := run_step _ _ _ h (hR h) _ _ _ k1
    rw [ev'] at s1
    rw [run_last _ _ _ h (hR h) _ _ _ s1, run_last _ _ _ h (hR h) _ _ _ s1]

/-- A block of the output array. -/
theorem blk_o (G : FVec Ideal S8x8192x256 .bf16) (p : Fin 512) (q : Fin 256) :
    (((cfg0.win 3).blk t).view.read (Elt Ideal) G : Vec Ideal S1x512x256 .bf16) (ix3 0 p q) = G (ix3 (bOf t) ⟨512 * (iOf t).val + p.val, by omega⟩ q) := by
  blk_ext! [idx_o t, bOf, iOf]

variable (hq : AllReal (argQ m c)) (hk : AllReal (argK m c)) (ho : OnesRow (argV m c))

/-- A point's raw score at a tile and a row of it. -/
theorem raw_pt (h : Fin 4) (p : Fin 512) (u : ℕ) (r : Fin 512) :
    rawS (iblk m c 0 t) (iblk m c 1 t) h p u r
      = ∑ d : Fin 128, argK m c (ix2 ⟨(bOf t).val * 8192 + (512 * (tl u).val + r.val), by omega⟩ ⟨128 * h.val + d.val, by omega⟩)
          * argQ m c (ix2 ⟨(bOf t).val * 8192 + (512 * (iOf t).val + p.val), by omega⟩ ⟨128 * h.val + d.val, by omega⟩) := by
  unfold rawS
  refine Finset.sum_congr rfl fun d _ => ?_
  rw [keyT_apply, qT_apply, blk_k, blk_q]
  rfl

include hq hk in
/-- A point's scores are real numbers. -/
theorem real_pt (h : Fin 4) : Real1 (iblk m c 0 t) (iblk m c 1 t) h := by
  intro p u r
  rw [raw_pt]
  exact sum_real _ _ fun d => mul_real (hk _ _) (hq _ _)

/-- The reference's scores of a query are its point's. -/
theorem score_pt (h : Fin 4) (p : Fin 512) (k : Fin 8192) :
    FoxRef.rS (argQ m c) (argK m c) (ix4 (bOf t) h ⟨512 * (iOf t).val + p.val, by omega⟩ k)
      = if k.val / 512 ≤ (iOf t).val then cauS (iblk m c 0 t) (iblk m c 1 t) h (iOf t).val p (k.val / 512) ⟨k.val % 512, mod_lt _⟩ else ⊥ := by
  have hkk := k.isLt
  have hp := p.isLt
  have hraw : rawS (iblk m c 0 t) (iblk m c 1 t) h p (k.val / 512) ⟨k.val % 512, mod_lt _⟩
      = ∑ d : Fin 128, argQ m c (ix2 ⟨(bOf t).val * 8192 + (512 * (iOf t).val + p.val), by omega⟩ ⟨h.val * 128 + d.val, by omega⟩)
          * argK m c (ix2 ⟨(bOf t).val * 8192 + k.val, by omega⟩ ⟨h.val * 128 + d.val, by omega⟩) := by
    rw [raw_pt]
    refine Finset.sum_congr rfl fun d _ => ?_
    rw [mul_comm]
    have e1 : (⟨128 * h.val + d.val, by omega⟩ : Fin 512) = ⟨h.val * 128 + d.val, by omega⟩ := Fin.ext (by show 128 * h.val + d.val = h.val * 128 + d.val; omega)
    have e2 : (⟨(bOf t).val * 8192 + (512 * (tl (k.val / 512)).val + k.val % 512), by omega⟩ : Fin 65536) = ⟨(bOf t).val * 8192 + k.val, by omega⟩ :=
      Fin.ext (by show (bOf t).val * 8192 + (512 * (k.val / 512 % 16) + k.val % 512) = (bOf t).val * 8192 + k.val; omega)
    rw [e1, e2]
  rw [FoxRef.rS_apply]
  unfold cauS
  by_cases h1 : k.val / 512 ≤ (iOf t).val
  · rw [if_pos h1]
    by_cases h2 : k.val / 512 = (iOf t).val
    · rw [if_pos h2]
      by_cases h3 : k.val % 512 ≤ p.val
      · rw [if_pos (show (⟨k.val % 512, mod_lt _⟩ : Fin 512).val ≤ p.val from h3), if_pos (show k.val ≤ 512 * (iOf t).val + p.val by omega)]
        rw [h2] at hraw
        exact hraw.symm
      · rw [if_neg (show ¬ (⟨k.val % 512, mod_lt _⟩ : Fin 512).val ≤ p.val from h3), if_neg (show ¬ k.val ≤ 512 * (iOf t).val + p.val by omega)]
    · rw [if_neg h2, hraw, if_pos (show k.val ≤ 512 * (iOf t).val + p.val by omega)]
  · rw [if_neg h1, if_neg (show ¬ k.val ≤ 512 * (iOf t).val + p.val by omega)]

include hq hk ho in
/-- A point's block is the reference's rows. -/
theorem ref_pt (h : Fin 4) (d : Fin 64) (p : Fin 512) :
    outsAt m c t (ix3 0 p ⟨64 * h.val + d.val, by omega⟩)
      = FoxRef.rY (FoxRef.rP (FoxRef.rE (FoxRef.rS (argQ m c) (argK m c)))) (argV m c)
          (ix3 (bOf t) ⟨512 * (iOf t).val + p.val, by omega⟩ ⟨64 * h.val + d.val, by omega⟩) := by
  have hR := fun h => real_pt m c t hq hk h
  rw [out_pt m c t hR, FoxRef.rY_apply]
  simp only [FoxRef.rP_apply, FoxRef.rE_apply]
  have hV : ∀ k : Fin 8192, argV m c (ix5 (bOf t) h ⟨k.val / 512, by omega⟩ ⟨d.val, by omega⟩ ⟨k.val % 512, by omega⟩)
      = valS (iblk m c 2 t) h ⟨d.val, by omega⟩ (k.val / 512) ⟨k.val % 512, mod_lt _⟩ := by
    intro k
    have hkk := k.isLt
    unfold valS
    rw [valT_apply, blk_v]
    show _ = argV m c _
    refine congrArg (fun u => argV m c (ix5 (bOf t) h u _ _)) (Fin.ext ?_)
    show k.val / 512 = k.val / 512 % 16
    omega
  have hO : valS (iblk m c 2 t) h 64 = fun _ _ => 1 := by
    funext u r
    unfold valS
    rw [valT_apply, blk_v]
    exact ho _ _ _ _
  have hT : ∀ u r, cauS (iblk m c 0 t) (iblk m c 1 t) h (iOf t).val p u r ≠ ⊤ := by
    intro u r
    unfold cauS
    split_ifs
    · exact (hR h p _ r).2
    · exact bot_ne_top
    · exact (hR h p u r).2
  have hB : cauS (iblk m c 0 t) (iblk m c 1 t) h (iOf t).val p (iOf t).val 0 ≠ ⊥ := by
    unfold cauS
    rw [if_pos rfl, if_pos (show (0 : Fin 512).val ≤ p.val from Nat.zero_le _)]
    exact (hR h p _ 0).1
  rw [hO, ← softmax_eq (score_pt m c t h p) (iOf t).isLt hT hB]
  exact Finset.sum_congr rfl fun k _ => congrArg₂ (fun a b => a * b) rfl (hV k).symm

end Point

/-! ## The whole array -/

section Whole
variable (m : (ℓ : Loc nD τ sig) → Buf (Elt Ideal) ℓ) (c : Dev nD)

theorem flush_3 : ∀ t : Fin cfg0.N, (cfg0.win 3).flush t = true :=
  (by decide +kernel : ∀ t : Fin grid0.N, win0_3.flush t = true)

/-- What the kernel's run leaves is the reference's result of its arguments. -/
theorem final_eq (hq : AllReal (argQ m c)) (hk : AllReal (argK m c)) (ho : OnesRow (argV m c)) :
    ((dats m 0 c).arrAt 3 cfg0.N : FVec Ideal S8x8192x256 .bf16)
      = FoxRef.rY (FoxRef.rP (FoxRef.rE (FoxRef.rS (argQ m c) (argK m c)))) (argV m c) := by
  funext i
  idx_vars i
  have h0 := i0.isLt
  have h1 := i1.isLt
  have h2 := i2.isLt
  have hN : cfg0.N = 128 := N_0
  have hn : 16 * i0.val + i1.val / 512 < cfg0.N := by omega
  have key := ref_pt m c ⟨_, hn⟩ hq hk ho ⟨i2.val / 64, by omega⟩ ⟨i2.val % 64, by omega⟩ ⟨i1.val % 512, by omega⟩
  have blk := blk_o ⟨_, hn⟩ ((dats m 0 c).arrAt 3 cfg0.N) ⟨i1.val % 512, by omega⟩ i2
  rw [blocks3 m c ⟨_, hn⟩ (flush_3 _), flushed3] at blk
  have eb : bOf (⟨16 * i0.val + i1.val / 512, hn⟩ : Fin cfg0.N) = i0 := Fin.ext (by show (16 * i0.val + i1.val / 512) / 16 = i0.val; omega)
  have ei : (⟨512 * (iOf (⟨16 * i0.val + i1.val / 512, hn⟩ : Fin cfg0.N)).val + i1.val % 512, by omega⟩ : Fin 8192) = i1 :=
    Fin.ext (by show 512 * ((16 * i0.val + i1.val / 512) % 16) + i1.val % 512 = i1.val; omega)
  have eq : (⟨64 * (i2.val / 64) + i2.val % 64, by omega⟩ : Fin 256) = i2 := Fin.ext (by show 64 * (i2.val / 64) + i2.val % 64 = i2.val; omega)
  rw [eb, ei] at blk
  dsimp only at key
  rw [eb, ei, eq] at key
  exact blk.symm.trans key

end Whole

/-- The kernel's result equals the reference's, over the extended reals, on every memory the precondition admits. -/
theorem algebraic : Cert.algebraic_KernelIdeal_ReferenceIdeal_pre_finite_and_ones_row := by
  intro m g m' g' hpre hargs
  refine ⟨fun c => (dats m 0 c).arrAt 3 cfg0.N, ?_, ?_⟩
  · exact run_blocks m g
  · refine (θ_run ReferenceIdeal.defs _ _).mono (fun r h c => ?_) (ReferenceIdeal.Value.run (F := Ideal) m' g')
    obtain ⟨hr, hrest⟩ := h c
    refine ⟨hr.trans ?_, hrest⟩
    obtain ⟨h0, h1, h2⟩ := hargs c
    obtain ⟨hq, hk, ho⟩ := pre_read _ _ _ (hpre c)
    refine (FoxRef.res_stages m' c).trans ?_
    rw [h0, h1, h2]
    exact (final_eq m c hq hk ho).symm

end Cert.Proof.KernelIdeal

end
-- ==== Proof.OutFfnStage.lean ====
/- What one grid point of the output and feed-forward kernel leaves: the chunks of the activation, the carried rows and the output block as named stages of the point's input blocks. -/
module

public import proofs.«01_k».proof.Proof.Gen.Kernel2Ideal.Value
public import Idealize.ShloMosaic.Lib.Tactic
public import Idealize.ShloMosaic.Lib.Pipeline.ValueKit.Basic
public import Idealize.ShloMosaic.Lib.Pipeline.ValueKit.Tiles

@[expose] public section

set_option maxRecDepth 16384

noncomputable section

namespace Cert.Proof.OutFfn
open Cert.Kernel2Ideal Cert.Kernel2Ideal.Gen
open Idealize.ShloMosaic Idealize.ShloMosaic.TcCoe Idealize.ShloMosaic.Tactic
open Idealize.SL Idealize.SL.Sem
open Idealize.ShloMosaic.Pipeline (Dat)

variable {F : FTy → Type} [FloatOps F]

/-- The residual stream after the output projection, on the block's rows. -/
def x1S (x0 : Vec F S1024x1024 .f32) (x1 : Vec F S1024x256 .bf16) (x2 : Vec F S1024x256 .bf16) (x3 : Vec F S1024x512 .bf16) (x4 : Vec F S1x256x1024 .bf16) (x5 : Vec F S1x256x1024 .bf16) (x6 : Vec F S1x512x1024 .bf16) : FVec F S1024x1024 .f32 :=
  k0_pay3 x0 x1 x4 x2 x5 x3 x6

/-- The normalized rows the feed-forward reads. -/
def hS (x0 : Vec F S1024x1024 .f32) (x1 : Vec F S1024x256 .bf16) (x2 : Vec F S1024x256 .bf16) (x3 : Vec F S1024x512 .bf16) (x4 : Vec F S1x256x1024 .bf16) (x5 : Vec F S1x256x1024 .bf16) (x6 : Vec F S1x512x1024 .bf16) (x7 : Vec F S1x1x1024 .f32) : FVec F S1024x1024 .bf16 :=
  k0_pay6 (k0_pay3 x0 x1 x4 x2 x5 x3 x6) (k0_pay4 x7) (k0_pay5 x0 x1 x4 x2 x5 x3 x6) (Scalar.ofBits .f32 0x358637BD#32)

/-- One chunk of the gate. -/
def gateS (h : FVec F S1024x1024 .bf16) (w : Vec F S1x1024x256 .bf16) : FVec F S1024x256 .f32 := k0_pay14 h w

/-- One chunk of the activation: the gate's causal convolution over the tile, with the two rows before it off `tl`. -/
def actS (h : FVec F S1024x1024 .bf16) (wg wv : Vec F S1x1024x256 .bf16) (tl : Vec F S8x256 .f32) (cw : Vec F S1x3x256 .f32) (cb : Vec F S1x1x256 .f32) : FVec F S1024x256 .bf16 :=
  k0_pay19 (gateS h wg) (k0_pay15 h wv) (k0_pay17 cw) (k0_pay18 (iota .tc S1024x1 32 [0] iota_S1024x1_d0_w32) (gateS h wg) tl cw cb)

/-- The rows one chunk of the gate hands to the next tile. -/
def tailS (h : FVec F S1024x1024 .bf16) (wg : Vec F S1x1024x256 .bf16) : FVec F S8x256 .f32 := k0_pay16 (gateS h wg)

/-- The activation's chunks, last stored first. -/
def actL (h : FVec F S1024x1024 .bf16) (x8 x9 : Vec F S1x1024x2816 .bf16) (T : Vec F S8x2816 .f32) (x10 : Vec F S1x3x2816 .f32) (x11 : Vec F S1x1x2816 .f32) : List (View.Piece (Elt F) S1024x2816 .bf16) :=
  [⟨Rect.unit (s := S1024x2816) ![0, 2560] ![1024, 256] inb_S1024x2816_S1024x256_0_2560, actS h (View.ld x8 (Rect.unit (s := S1x1024x2816) ![0, 0, 2560] ![1, 1024, 256] inb_S1x1024x2816_S1x1024x256_0_0_2560)) (View.ld x9 (Rect.unit (s := S1x1024x2816) ![0, 0, 2560] ![1, 1024, 256] inb_S1x1024x2816_S1x1024x256_0_0_2560)) (View.ld T (Rect.unit (s := S8x2816) ![0, 2560] ![8, 256] inb_S8x2816_S8x256_0_2560)) (View.ld x10 (Rect.unit (s := S1x3x2816) ![0, 0, 2560] ![1, 3, 256] inb_S1x3x2816_S1x3x256_0_0_2560)) (View.ld x11 (Rect.unit (s := S1x1x2816) ![0, 0, 2560] ![1, 1, 256] inb_S1x1x2816_S1x1x256_0_0_2560))⟩,
   ⟨Rect.unit (s := S1024x2816) ![0, 2304] ![1024, 256] inb_S1024x2816_S1024x256_0_2304, actS h (View.ld x8 (Rect.unit (s := S1x1024x2816) ![0, 0, 2304] ![1, 1024, 256] inb_S1x1024x2816_S1x1024x256_0_0_2304)) (View.ld x9 (Rect.unit (s := S1x1024x2816) ![0, 0, 2304] ![1, 1024, 256] inb_S1x1024x2816_S1x1024x256_0_0_2304)) (View.ld T (Rect.unit (s := S8x2816) ![0, 2304] ![8, 256] inb_S8x2816_S8x256_0_2304)) (View.ld x10 (Rect.unit (s := S1x3x2816) ![0, 0, 2304] ![1, 3, 256] inb_S1x3x2816_S1x3x256_0_0_2304)) (View.ld x11 (Rect.unit (s := S1x1x2816) ![0, 0, 2304] ![1, 1, 256] inb_S1x1x2816_S1x1x256_0_0_2304))⟩,
   ⟨Rect.unit (s := S1024x2816) ![0, 2048] ![1024, 256] inb_S1024x2816_S1024x256_0_2048, actS h (View.ld x8 (Rect.unit (s := S1x1024x2816) ![0, 0, 2048] ![1, 1024, 256] inb_S1x1024x2816_S1x1024x256_0_0_2048)) (View.ld x9 (Rect.unit (s := S1x1024x2816) ![0, 0, 2048] ![1, 1024, 256] inb_S1x1024x2816_S1x1024x256_0_0_2048)) (View.ld T (Rect.unit (s := S8x2816) ![0, 2048] ![8, 256] inb_S8x2816_S8x256_0_2048)) (View.ld x10 (Rect.unit (s := S1x3x2816) ![0, 0, 2048] ![1, 3, 256] inb_S1x3x2816_S1x3x256_0_0_2048)) (View.ld x11 (Rect.unit (s := S1x1x2816) ![0, 0, 2048] ![1, 1, 256] inb_S1x1x2816_S1x1x256_0_0_2048))⟩,
   ⟨Rect.unit (s := S1024x2816) ![0, 1792] ![1024, 256] inb_S1024x2816_S1024x256_0_1792, actS h (View.ld x8 (Rect.unit (s := S1x1024x2816) ![0, 0, 1792] ![1, 1024, 256] inb_S1x1024x2816_S1x1024x256_0_0_1792)) (View.ld x9 (Rect.unit (s := S1x1024x2816) ![0, 0, 1792] ![1, 1024, 256] inb_S1x1024x2816_S1x1024x256_0_0_1792)) (View.ld T (Rect.unit (s := S8x2816) ![0, 1792] ![8, 256] inb_S8x2816_S8x256_0_1792)) (View.ld x10 (Rect.unit (s := S1x3x2816) ![0, 0, 1792] ![1, 3, 256] inb_S1x3x2816_S1x3x256_0_0_1792)) (View.ld x11 (Rect.unit (s := S1x1x2816) ![0, 0, 1792] ![1, 1, 256] inb_S1x1x2816_S1x1x256_0_0_1792))⟩,
   ⟨Rect.unit (s := S1024x2816) ![0, 1536] ![1024, 256] inb_S1024x2816_S1024x256_0_1536, actS h (View.ld x8 (Rect.unit (s := S1x1024x2816) ![0, 0, 1536] ![1, 1024, 256] inb_S1x1024x2816_S1x1024x256_0_0_1536)) (View.ld x9 (Rect.unit (s := S1x1024x2816) ![0, 0, 1536] ![1, 1024, 256] inb_S1x1024x2816_S1x1024x256_0_0_1536)) (View.ld T (Rect.unit (s := S8x2816) ![0, 1536] ![8, 256] inb_S8x2816_S8x256_0_1536)) (View.ld x10 (Rect.unit (s := S1x3x2816) ![0, 0, 1536] ![1, 3, 256] inb_S1x3x2816_S1x3x256_0_0_1536)) (View.ld x11 (Rect.unit (s := S1x1x2816) ![0, 0, 1536] ![1, 1, 256] inb_S1x1x2816_S1x1x256_0_0_1536))⟩,
   ⟨Rect.unit (s := S1024x2816) ![0, 1280] ![1024, 256] inb_S1024x2816_S1024x256_0_1280, actS h (View.ld x8 (Rect.unit (s := S1x1024x2816) ![0, 0, 1280] ![1, 1024, 256] inb_S1x1024x2816_S1x1024x256_0_0_1280)) (View.ld x9 (Rect.unit (s := S1x1024x2816) ![0, 0, 1280] ![1, 1024, 256] inb_S1x1024x2816_S1x1024x256_0_0_1280)) (View.ld T (Rect.unit (s := S8x2816) ![0, 1280] ![8, 256] inb_S8x2816_S8x256_0_1280)) (View.ld x10 (Rect.unit (s := S1x3x2816) ![0, 0, 1280] ![1, 3, 256] inb_S1x3x2816_S1x3x256_0_0_1280)) (View.ld x11 (Rect.unit (s := S1x1x2816) ![0, 0, 1280] ![1, 1, 256] inb_S1x1x2816_S1x1x256_0_0_1280))⟩,
   ⟨Rect.unit (s := S1024x2816) ![0, 1024] ![1024, 256] inb_S1024x2816_S1024x256_0_1024, actS h (View.ld x8 (Rect.unit (s := S1x1024x2816) ![0, 0, 1024] ![1, 1024, 256] inb_S1x1024x2816_S1x1024x256_0_0_1024)) (View.ld x9 (Rect.unit (s := S1x1024x2816) ![0, 0, 1024] ![1, 1024, 256] inb_S1x1024x2816_S1x1024x256_0_0_1024)) (View.ld T (Rect.unit (s := S8x2816) ![0, 1024] ![8, 256] inb_S8x2816_S8x256_0_1024)) (View.ld x10 (Rect.unit (s := S1x3x2816) ![0, 0, 1024] ![1, 3, 256] inb_S1x3x2816_S1x3x256_0_0_1024)) (View.ld x11 (Rect.unit (s := S1x1x2816) ![0, 0, 1024] ![1, 1, 256] inb_S1x1x2816_S1x1x256_0_0_1024))⟩,
   ⟨Rect.unit (s := S1024x2816) ![0, 768] ![1024, 256] inb_S1024x2816_S1024x256_0_768, actS h (View.ld x8 (Rect.unit (s := S1x1024x2816) ![0, 0, 768] ![1, 1024, 256] inb_S1x1024x2816_S1x1024x256_0_0_768)) (View.ld x9 (Rect.unit (s := S1x1024x2816) ![0, 0, 768] ![1, 1024, 256] inb_S1x1024x2816_S1x1024x256_0_0_768)) (View.ld T (Rect.unit (s := S8x2816) ![0, 768] ![8, 256] inb_S8x2816_S8x256_0_768)) (View.ld x10 (Rect.unit (s := S1x3x2816) ![0, 0, 768] ![1, 3, 256] inb_S1x3x2816_S1x3x256_0_0_768)) (View.ld x11 (Rect.unit (s := S1x1x2816) ![0, 0, 768] ![1, 1, 256] inb_S1x1x2816_S1x1x256_0_0_768))⟩,
   ⟨Rect.unit (s := S1024x2816) ![0, 512] ![1024, 256] inb_S1024x2816_S1024x256_0_512, actS h (View.ld x8 (Rect.unit (s := S1x1024x2816) ![0, 0, 512] ![1, 1024, 256] inb_S1x1024x2816_S1x1024x256_0_0_512)) (View.ld x9 (Rect.unit (s := S1x1024x2816) ![0, 0, 512] ![1, 1024, 256] inb_S1x1024x2816_S1x1024x256_0_0_512)) (View.ld T (Rect.unit (s := S8x2816) ![0, 512] ![8, 256] inb_S8x2816_S8x256_0_512)) (View.ld x10 (Rect.unit (s := S1x3x2816) ![0, 0, 512] ![1, 3, 256] inb_S1x3x2816_S1x3x256_0_0_512)) (View.ld x11 (Rect.unit (s := S1x1x2816) ![0, 0, 512] ![1, 1, 256] inb_S1x1x2816_S1x1x256_0_0_512))⟩,
   ⟨Rect.unit (s := S1024x2816) ![0, 256] ![1024, 256] inb_S1024x2816_S1024x256_0_256, actS h (View.ld x8 (Rect.unit (s := S1x1024x2816) ![0, 0, 256] ![1, 1024, 256] inb_S1x1024x2816_S1x1024x256_0_0_256)) (View.ld x9 (Rect.unit (s := S1x1024x2816) ![0, 0, 256] ![1, 1024, 256] inb_S1x1024x2816_S1x1024x256_0_0_256)) (View.ld T (Rect.unit (s := S8x2816) ![0, 256] ![8, 256] inb_S8x2816_S8x256_0_256)) (View.ld x10 (Rect.unit (s := S1x3x2816) ![0, 0, 256] ![1, 3, 256] inb_S1x3x2816_S1x3x256_0_0_256)) (View.ld x11 (Rect.unit (s := S1x1x2816) ![0, 0, 256] ![1, 1, 256] inb_S1x1x2816_S1x1x256_0_0_256))⟩,
   ⟨Rect.unit (s := S1024x2816) ![0, 0] ![1024, 256] inb_S1024x2816_S1024x256_0_0, actS h (View.ld x8 (Rect.unit (s := S1x1024x2816) ![0, 0, 0] ![1, 1024, 256] inb_S1x1024x2816_S1x1024x256_0_0_0)) (View.ld x9 (Rect.unit (s := S1x1024x2816) ![0, 0, 0] ![1, 1024, 256] inb_S1x1024x2816_S1x1024x256_0_0_0)) (View.ld T (Rect.unit (s := S8x2816) ![0, 0] ![8, 256] inb_S8x2816_S8x256_0_0)) (View.ld x10 (Rect.unit (s := S1x3x2816) ![0, 0, 0] ![1, 3, 256] inb_S1x3x2816_S1x3x256_0_0_0)) (View.ld x11 (Rect.unit (s := S1x1x2816) ![0, 0, 0] ![1, 1, 256] inb_S1x1x2816_S1x1x256_0_0_0))⟩]

/-- The carried rows' chunks, last stored first. -/
def tailL (h : FVec F S1024x1024 .bf16) (x8 : Vec F S1x1024x2816 .bf16) (L : List (View.Piece (Elt F) S8x2816 .f32)) : List (View.Piece (Elt F) S8x2816 .f32) :=
  ⟨Rect.unit (s := S8x2816) ![0, 2560] ![8, 256] inb_S8x2816_S8x256_0_2560, tailS h (View.ld x8 (Rect.unit (s := S1x1024x2816) ![0, 0, 2560] ![1, 1024, 256] inb_S1x1024x2816_S1x1024x256_0_0_2560))⟩ ::
   ⟨Rect.unit (s := S8x2816) ![0, 2304] ![8, 256] inb_S8x2816_S8x256_0_2304, tailS h (View.ld x8 (Rect.unit (s := S1x1024x2816) ![0, 0, 2304] ![1, 1024, 256] inb_S1x1024x2816_S1x1024x256_0_0_2304))⟩ ::
   ⟨Rect.unit (s := S8x2816) ![0, 2048] ![8, 256] inb_S8x2816_S8x256_0_2048, tailS h (View.ld x8 (Rect.unit (s := S1x1024x2816) ![0, 0, 2048] ![1, 1024, 256] inb_S1x1024x2816_S1x1024x256_0_0_2048))⟩ ::
   ⟨Rect.unit (s := S8x2816) ![0, 1792] ![8, 256] inb_S8x2816_S8x256_0_1792, tailS h (View.ld x8 (Rect.unit (s := S1x1024x2816) ![0, 0, 1792] ![1, 1024, 256] inb_S1x1024x2816_S1x1024x256_0_0_1792))⟩ ::
   ⟨Rect.unit (s := S8x2816) ![0, 1536] ![8, 256] inb_S8x2816_S8x256_0_1536, tailS h (View.ld x8 (Rect.unit (s := S1x1024x2816) ![0, 0, 1536] ![1, 1024, 256] inb_S1x1024x2816_S1x1024x256_0_0_1536))⟩ ::
   ⟨Rect.unit (s := S8x2816) ![0, 1280] ![8, 256] inb_S8x2816_S8x256_0_1280, tailS h (View.ld x8 (Rect.unit (s := S1x1024x2816) ![0, 0, 1280] ![1, 1024, 256] inb_S1x1024x2816_S1x1024x256_0_0_1280))⟩ ::
   ⟨Rect.unit (s := S8x2816) ![0, 1024] ![8, 256] inb_S8x2816_S8x256_0_1024, tailS h (View.ld x8 (Rect.unit (s := S1x1024x2816) ![0, 0, 1024] ![1, 1024, 256] inb_S1x1024x2816_S1x1024x256_0_0_1024))⟩ ::
   ⟨Rect.unit (s := S8x2816) ![0, 768] ![8, 256] inb_S8x2816_S8x256_0_768, tailS h (View.ld x8 (Rect.unit (s := S1x1024x2816) ![0, 0, 768] ![1, 1024, 256] inb_S1x1024x2816_S1x1024x256_0_0_768))⟩ ::
   ⟨Rect.unit (s := S8x2816) ![0, 512] ![8, 256] inb_S8x2816_S8x256_0_512, tailS h (View.ld x8 (Rect.unit (s := S1x1024x2816) ![0, 0, 512] ![1, 1024, 256] inb_S1x1024x2816_S1x1024x256_0_0_512))⟩ ::
   ⟨Rect.unit (s := S8x2816) ![0, 256] ![8, 256] inb_S8x2816_S8x256_0_256, tailS h (View.ld x8 (Rect.unit (s := S1x1024x2816) ![0, 0, 256] ![1, 1024, 256] inb_S1x1024x2816_S1x1024x256_0_0_256))⟩ ::
   ⟨Rect.unit (s := S8x2816) ![0, 0] ![8, 256] inb_S8x2816_S8x256_0_0, tailS h (View.ld x8 (Rect.unit (s := S1x1024x2816) ![0, 0, 0] ![1, 1024, 256] inb_S1x1024x2816_S1x1024x256_0_0_0))⟩ :: L

/-- The output block. -/
def outS (x : FVec F S1024x1024 .f32) (a : Vec F S1024x2816 .bf16) (x12 : Vec F S1x2816x1024 .bf16) : FVec F S1024x1024 .f32 := k0_pay1 x a x12

/-- A load of one chunk of columns skips a store of an earlier chunk. -/
theorem readCov_skip {sig : RefSig} {κ : Kind} {sp : Space} (v : View sig κ sp S8x2816 .f32) {o o' : ℕ} (x : Vec F S8x256 .f32) (L : List (View.Piece (Elt F) S8x2816 .f32))
    (inb : ∀ a, (![0, o] : Fin 2 → ℕ) a + S8x256.size a ≤ S8x2816.size a) (inb' : ∀ a, (![0, o'] : Fin 2 → ℕ) a + S8x256.size a ≤ S8x2816.size a) (h : o + 256 ≤ o') :
    v.readCov ((⟨Rect.unit (s := S8x2816) ![0, o] ![8, 256] inb, x⟩ : View.Piece (Elt F) S8x2816 .f32) :: L) (Rect.unit (s := S8x2816) ![0, o'] ![8, 256] inb').toLoadRect
      = v.readCov L (Rect.unit (s := S8x2816) ![0, o'] ![8, 256] inb').toLoadRect := by
  rw [View.readCov_eq_canon', View.readCov_eq_canon']
  funext j
  refine View.canon_cons_of_not_mem _ _ ?_
  rw [Rect.mem_set_unit]
  intro hm
  have h1 : o' + 1 * (j 1).val < o + 256 := (hm 1).2
  omega

/-- A load of one chunk of columns over the one store of the whole array. -/
theorem readCov_all {sig : RefSig} {κ : Kind} {sp : Space} (v : View sig κ sp S8x2816 .f32) {o' : ℕ} (x : Vec F S8x2816 .f32)
    (inb : ∀ a, (![0, 0] : Fin 2 → ℕ) a + S8x2816.size a ≤ S8x2816.size a) (inb' : ∀ a, (![0, o'] : Fin 2 → ℕ) a + S8x256.size a ≤ S8x2816.size a) :
    v.readCov [(⟨Rect.unit ![0, 0] ![8, 2816] inb, x⟩ : View.Piece (Elt F) S8x2816 .f32)] (Rect.unit (s := S8x2816) ![0, o'] ![8, 256] inb').toLoadRect
      = View.ld x (Rect.unit (s := S8x2816) ![0, o'] ![8, 256] inb') := by
  rw [View.readCov_eq_canon', View.canon_cons_unit_lit _ _ _ (by decide)]

/-- A load of the whole activation scratch is what its stores leave. -/
theorem readCov_act {sig : RefSig} {κ : Kind} {sp : Space} (v : View sig κ sp S1024x2816 .bf16) (L : List (View.Piece (Elt F) S1024x2816 .bf16))
    (inb : ∀ a, (![0, 0] : Fin 2 → ℕ) a + S1024x2816.size a ≤ S1024x2816.size a) :
    v.readCov L (Rect.unit (s := S1024x2816) ![0, 0] ![1024, 2816] inb).toLoadRect = View.canon L :=
  (View.readCov_eq_canon' v L _).trans (View.ld_unit_lit inb (View.canon L) (by decide))

end Cert.Proof.OutFfn

end
-- ==== Proof.OutFfnPoint.lean ====
/- The stages of the output and feed-forward kernel read at an index, over the extended reals. -/
module

public import proofs.«01_k».proof.Proof.OutFfnStage
public import Idealize.ShloMosaic.Lib.Pointwise

@[expose] public section

set_option maxRecDepth 16384

noncomputable section

namespace Cert.Proof.OutFfn
open Cert.Kernel2Ideal Cert.Kernel2Ideal.Gen
open Idealize.ShloMosaic Idealize.ShloMosaic.TcCoe Idealize.ShloMosaic.Tactic
open Idealize.SL Idealize.SL.Sem
open Idealize.ShloMosaic.Pipeline (Dat)

/-- The residual stream after the output projection, at an index. -/
theorem x1S_apply (x0 : Vec Ideal S1024x1024 .f32) (x1 : Vec Ideal S1024x256 .bf16) (x2 : Vec Ideal S1024x256 .bf16) (x3 : Vec Ideal S1024x512 .bf16) (x4 : Vec Ideal S1x256x1024 .bf16) (x5 : Vec Ideal S1x256x1024 .bf16) (x6 : Vec Ideal S1x512x1024 .bf16) (p q : Fin 1024) :
    x1S (F := Ideal) x0 x1 x2 x3 x4 x5 x6 (ix2 p q)
      = x0 (ix2 p q) + (∑ k : Fin 256, x1 (ix2 p k) * x4 (ix3 0 k q)) + (∑ k : Fin 256, x2 (ix2 p k) * x5 (ix3 0 k q)) + ∑ k : Fin 512, x3 (ix2 p k) * x6 (ix3 0 k q) := by
  unfold x1S
  pointwise [k0_pay3]

/-- The normalized rows, at an index. -/
theorem hS_apply (x0 : Vec Ideal S1024x1024 .f32) (x1 : Vec Ideal S1024x256 .bf16) (x2 : Vec Ideal S1024x256 .bf16) (x3 : Vec Ideal S1024x512 .bf16) (x4 : Vec Ideal S1x256x1024 .bf16) (x5 : Vec Ideal S1x256x1024 .bf16) (x6 : Vec Ideal S1x512x1024 .bf16) (x7 : Vec Ideal S1x1x1024 .f32) (p q : Fin 1024) :
    hS (F := Ideal) x0 x1 x2 x3 x4 x5 x6 x7 (ix2 p q)
      = x1S (F := Ideal) x0 x1 x2 x3 x4 x5 x6 (ix2 p q) * Ideal.rsqrt (Ideal.div (∑ k : Fin 1024, x1S (F := Ideal) x0 x1 x2 x3 x4 x5 x6 (ix2 p k) * x1S (F := Ideal) x0 x1 x2 x3 x4 x5 x6 (ix2 p k)) (Ideal.ofBits .f32 0x44800000#32) + Ideal.ofBits .f32 0x358637BD#32) * x7 (ix3 0 0 q) := by
  unfold hS x1S
  unfold k0_pay5
  generalize k0_pay3 x0 x1 x4 x2 x5 x3 x6 = X
  pointwise [k0_pay6, k0_pay4]

/-- A chunk of the gate (or of the value), at an index. -/
theorem gateS_apply (h : FVec Ideal S1024x1024 .bf16) (w : Vec Ideal S1x1024x256 .bf16) (p : Fin 1024) (q : Fin 256) :
    gateS (F := Ideal) h w (ix2 p q) = ∑ k : Fin 1024, h (ix2 p k) * w (ix3 0 k q) := by
  unfold gateS
  pointwise [k0_pay14]

/-- The carried rows of a chunk, at an index. -/
theorem tailS_apply (h : FVec Ideal S1024x1024 .bf16) (w : Vec Ideal S1x1024x256 .bf16) (p : Fin 8) (q : Fin 256) :
    tailS (F := Ideal) h w (ix2 p q) = gateS (F := Ideal) h w (ix2 ⟨1016 + p.val, by omega⟩ q) := by
  unfold tailS
  generalize gateS h w = g
  pointwise [k0_pay16]

/-- The output block, at an index. -/
theorem outS_apply (x : FVec Ideal S1024x1024 .f32) (a : Vec Ideal S1024x2816 .bf16) (x12 : Vec Ideal S1x2816x1024 .bf16) (p q : Fin 1024) :
    outS (F := Ideal) x a x12 (ix2 p q) = x (ix2 p q) + ∑ k : Fin 2816, a (ix2 p k) * x12 (ix3 0 k q) := by
  unfold outS
  pointwise [k0_pay1]

/-- Two positions of a tile compared as words are compared as numbers. -/
theorem select_row {α : Type} (p n : ℕ) (hp : p < 1024) (hn : n < 1024) (a b : α) :
    Scalar.select (IntOp.cmpi CmpIPredicate.eq (BitVec.ofNat 32 p) (BitVec.ofNat 32 n)) a b = if p = n then a else b := by
  have e : (BitVec.ofNat 32 p = BitVec.ofNat 32 n) ↔ p = n := by
    constructor
    · intro h
      have h' := congrArg BitVec.toNat h
      simp only [BitVec.toNat_ofNat] at h'
      omega
    · rintro rfl; rfl
  by_cases h : p = n
  · subst h; simp [Scalar.select, IntOp.cmpi]
  · have h' : (BitVec.ofNat 32 p == BitVec.ofNat 32 n) = false := beq_false_of_ne fun x => h (e.mp x)
    simp [Scalar.select, IntOp.cmpi, h, h']

/-- The convolution of one column of the gate at a row: the gate there, at the two rows before, and the column's weights. -/
def convF (g0 g1 g2 w0 w1 w2 cb : EReal) : EReal := cb + g0 * w0 + g1 * w1 + g2 * w2

/-- The activation of one convolved gate with its value. -/
def gluF (v u : EReal) : EReal := v * Ideal.div 1 (1 + Ideal.exp (-v)) * u

/-- The gate `d` rows before row `p`, the rows before the tile off the carried ones. -/
def backF (g : Fin 1024 → EReal) (tl : Fin 8 → EReal) (d : Fin 3) (p : Fin 1024) : EReal :=
  if h : p.val < d.val then tl ⟨8 + p.val - d.val, by omega⟩ else g ⟨p.val - d.val, by omega⟩

/-- A chunk of the activation, at an index. -/
theorem actS_apply (h : FVec Ideal S1024x1024 .bf16) (wg wv : Vec Ideal S1x1024x256 .bf16) (tl : Vec Ideal S8x256 .f32) (cw : Vec Ideal S1x3x256 .f32) (cb : Vec Ideal S1x1x256 .f32) (p : Fin 1024) (q : Fin 256) :
    actS (F := Ideal) h wg wv tl cw cb (ix2 p q)
      = gluF (convF (backF (fun r => gateS (F := Ideal) h wg (ix2 r q)) (fun r => tl (ix2 r q)) 2 p) (backF (fun r => gateS (F := Ideal) h wg (ix2 r q)) (fun r => tl (ix2 r q)) 1 p) (gateS (F := Ideal) h wg (ix2 p q))
          (cw (ix3 0 0 q)) (cw (ix3 0 1 q)) (cw (ix3 0 2 q)) (cb (ix3 0 0 q))) (gateS (F := Ideal) h wv (ix2 p q)) := by
  rw [gateS_apply h wv]
  unfold actS
  generalize gateS h wg = g at *
  pointwise [k0_pay15, k0_pay17, k0_pay18, k0_pay19]
  simp only [show (0#32) = BitVec.ofNat 32 0 from rfl, show (1#32) = BitVec.ofNat 32 1 from rfl, select_row _ 0 p.isLt (by decide), select_row _ 1 p.isLt (by decide)]
  have e1 : (if p.val = 0 then tl (ix2 7 q) else g (ix2 ⟨(p.val + 1024 - 1) % 1024, by omega⟩ q)) = backF (fun r => g (ix2 r q)) (fun r => tl (ix2 r q)) 1 p := by
    unfold backF
    by_cases h0 : p.val = 0
    · rw [if_pos h0, dif_pos (by simp [h0])]; congr 2; apply Fin.ext; simp [h0]
    · rw [if_neg h0, dif_neg (by simp [h0])]; congr 2; apply Fin.ext; simp; omega
  have e0 : (if p.val = 0 then tl (ix2 6 q) else if p.val = 1 then tl (ix2 7 q) else g (ix2 ⟨(p.val + 1024 - 2) % 1024, by omega⟩ q)) = backF (fun r => g (ix2 r q)) (fun r => tl (ix2 r q)) 2 p := by
    unfold backF
    by_cases h0 : p.val = 0
    · rw [if_pos h0, dif_pos (by simp [h0])]; congr 2; apply Fin.ext; simp [h0]
    · by_cases h1 : p.val = 1
      · rw [if_neg h0, if_pos h1, dif_pos (by simp [h1])]; congr 2; apply Fin.ext; simp [h1]
      · rw [if_neg h0, if_neg h1, dif_neg (by simp; omega)]; congr 2; apply Fin.ext; simp; omega
  rw [e0, e1, zero_sub]
  rfl

/-- A load of a chunk of columns, at an index. -/
theorem ld3_apply {e : EltTy} {m : ℕ} (x : Vec Ideal ⟨3, ![1, m, 2816]⟩ e) {o : ℕ} (inb : ∀ a, (![0, 0, o] : Fin 3 → ℕ) a + (![1, m, 256] : Fin 3 → ℕ) a ≤ (⟨3, ![1, m, 2816]⟩ : Shape).size a)
    (k : Fin m) (q : Fin 256) (q' : Fin 2816) (hq : o + q.val = q'.val) :
    View.ld x (Rect.unit (s := ⟨3, ![1, m, 2816]⟩) ![0, 0, o] ![1, m, 256] inb) (ix3 0 k q) = x (ix3 0 k q') := by
  refine View.ld_unit_apply_of x _ _ inb _ _ ?_
  intro a
  match a with
  | ⟨0, _⟩ => rfl
  | ⟨1, _⟩ => exact (Nat.zero_add _).symm
  | ⟨2, _⟩ => exact hq.symm

/-- A load of a chunk of columns of the carried rows, at an index. -/
theorem ld2_apply {e : EltTy} {m : ℕ} (x : Vec Ideal ⟨2, ![m, 2816]⟩ e) {o : ℕ} (inb : ∀ a, (![0, o] : Fin 2 → ℕ) a + (![m, 256] : Fin 2 → ℕ) a ≤ (⟨2, ![m, 2816]⟩ : Shape).size a)
    (k : Fin m) (q : Fin 256) (q' : Fin 2816) (hq : o + q.val = q'.val) :
    View.ld x (Rect.unit (s := ⟨2, ![m, 2816]⟩) ![0, o] ![m, 256] inb) (ix2 k q) = x (ix2 k q') := by
  refine View.ld_unit_apply_of x _ _ inb _ _ ?_
  intro a
  match a with
  | ⟨0, _⟩ => exact (Nat.zero_add _).symm
  | ⟨1, _⟩ => exact hq.symm

/-- What stores of chunks of columns leave at an index: the newest chunk's there, if the index is under it. -/
theorem canon_chunk {e : EltTy} {m o : ℕ} (inb : ∀ a, (![0, o] : Fin 2 → ℕ) a + (![m, 256] : Fin 2 → ℕ) a ≤ (⟨2, ![m, 2816]⟩ : Shape).size a) (w : Vec Ideal ⟨2, ![m, 256]⟩ e)
    (L : List (View.Piece (Elt Ideal) ⟨2, ![m, 2816]⟩ e)) (p : Fin m) (q : Fin 2816) (v : Elt Ideal e)
    (hw : ∀ q' : Fin 256, o + q'.val = q.val → w (ix2 p q') = v)
    (hL : q.val < o ∨ o + 256 ≤ q.val → View.canon L (ix2 p q) = v) :
    View.canon ((⟨Rect.unit (s := ⟨2, ![m, 2816]⟩) ![0, o] ![m, 256] inb, w⟩ : View.Piece (Elt Ideal) ⟨2, ![m, 2816]⟩ e) :: L) (ix2 p q) = v := by
  by_cases hq : q.val < o ∨ o + 256 ≤ q.val
  · rw [View.canon_cons_of_not_mem _ _ ?_]
    · exact hL hq
    · rw [Rect.mem_set_unit]
      intro hm
      have h1 : o ≤ q.val ∧ q.val < o + 256 := hm 1
      omega
  · have e' : ix2 p q = (Rect.unit (s := ⟨2, ![m, 2816]⟩) ![0, o] ![m, 256] inb).emb (ix2 p ⟨q.val - o, by omega⟩) := by
      funext a
      apply Fin.ext
      match a with
      | ⟨0, _⟩ => exact (show p.val = 0 + 1 * p.val by omega)
      | ⟨1, _⟩ => exact (show q.val = o + 1 * (q.val - o) by omega)
    rw [e', View.canon_cons_emb]
    exact hw _ (by show o + (q.val - o) = q.val; omega)

/-- A column of the gate (or of the value) over the whole width. -/
def gateF (h : FVec Ideal S1024x1024 .bf16) (x8 : Vec Ideal S1x1024x2816 .bf16) (p : Fin 1024) (q : Fin 2816) : EReal := ∑ k : Fin 1024, h (ix2 p k) * x8 (ix3 0 k q)

/-- The activation over the whole width. -/
def actF (h : FVec Ideal S1024x1024 .bf16) (x8 x9 : Vec Ideal S1x1024x2816 .bf16) (T : Vec Ideal S8x2816 .f32) (x10 : Vec Ideal S1x3x2816 .f32) (x11 : Vec Ideal S1x1x2816 .f32) (p : Fin 1024) (q : Fin 2816) : EReal :=
  gluF (convF (backF (fun r => gateF h x8 r q) (fun r => T (ix2 r q)) 2 p) (backF (fun r => gateF h x8 r q) (fun r => T (ix2 r q)) 1 p) (gateF h x8 p q)
    (x10 (ix3 0 0 q)) (x10 (ix3 0 1 q)) (x10 (ix3 0 2 q)) (x11 (ix3 0 0 q))) (gateF h x9 p q)

/-- A chunk of the gate, over the whole width. -/
theorem gateS_ld (h : FVec Ideal S1024x1024 .bf16) (x8 : Vec Ideal S1x1024x2816 .bf16) {o : ℕ} (inb : ∀ a, (![0, 0, o] : Fin 3 → ℕ) a + (![1, 1024, 256] : Fin 3 → ℕ) a ≤ S1x1024x2816.size a)
    (p : Fin 1024) (q' : Fin 256) (q : Fin 2816) (hq : o + q'.val = q.val) :
    gateS (F := Ideal) h (View.ld x8 (Rect.unit (s := S1x1024x2816) ![0, 0, o] ![1, 1024, 256] inb)) (ix2 p q') = gateF h x8 p q := by
  rw [gateS_apply]
  unfold gateF
  refine Finset.sum_congr rfl fun k _ => ?_
  rw [ld3_apply x8 inb k q' q hq]

/-- A chunk of the activation, over the whole width. -/
theorem actS_ld (h : FVec Ideal S1024x1024 .bf16) (x8 x9 : Vec Ideal S1x1024x2816 .bf16) (T : Vec Ideal S8x2816 .f32) (x10 : Vec Ideal S1x3x2816 .f32) (x11 : Vec Ideal S1x1x2816 .f32) {o : ℕ}
    (i8 : ∀ a, (![0, 0, o] : Fin 3 → ℕ) a + (![1, 1024, 256] : Fin 3 → ℕ) a ≤ S1x1024x2816.size a) (iT : ∀ a, (![0, o] : Fin 2 → ℕ) a + (![8, 256] : Fin 2 → ℕ) a ≤ S8x2816.size a)
    (i10 : ∀ a, (![0, 0, o] : Fin 3 → ℕ) a + (![1, 3, 256] : Fin 3 → ℕ) a ≤ S1x3x2816.size a) (i11 : ∀ a, (![0, 0, o] : Fin 3 → ℕ) a + (![1, 1, 256] : Fin 3 → ℕ) a ≤ S1x1x2816.size a)
    (p : Fin 1024) (q' : Fin 256) (q : Fin 2816) (hq : o + q'.val = q.val) :
    actS (F := Ideal) h (View.ld x8 (Rect.unit (s := S1x1024x2816) ![0, 0, o] ![1, 1024, 256] i8)) (View.ld x9 (Rect.unit (s := S1x1024x2816) ![0, 0, o] ![1, 1024, 256] i8)) (View.ld T (Rect.unit (s := S8x2816) ![0, o] ![8, 256] iT))
        (View.ld x10 (Rect.unit (s := S1x3x2816) ![0, 0, o] ![1, 3, 256] i10)) (View.ld x11 (Rect.unit (s := S1x1x2816) ![0, 0, o] ![1, 1, 256] i11)) (ix2 p q')
      = actF h x8 x9 T x10 x11 p q := by
  rw [actS_apply]
  unfold actF
  have eg : ∀ r, gateS (F := Ideal) h (View.ld x8 (Rect.unit (s := S1x1024x2816) ![0, 0, o] ![1, 1024, 256] i8)) (ix2 r q') = gateF h x8 r q := fun r => gateS_ld h x8 i8 r q' q hq
  have et : ∀ r, View.ld T (Rect.unit (s := S8x2816) ![0, o] ![8, 256] iT) (ix2 r q') = T (ix2 r q) := fun r => ld2_apply T iT r q' q hq
  have e10 : ∀ r, View.ld x10 (Rect.unit (s := S1x3x2816) ![0, 0, o] ![1, 3, 256] i10) (ix3 0 r q') = x10 (ix3 0 r q) := fun r => ld3_apply x10 i10 r q' q hq
  have e11 : View.ld x11 (Rect.unit (s := S1x1x2816) ![0, 0, o] ![1, 1, 256] i11) (ix3 0 0 q') = x11 (ix3 0 0 q) := ld3_apply x11 i11 0 q' q hq
  simp only [eg, et, e10, e11]
  rw [gateS_ld h x9 i8 p q' q hq]

set_option maxHeartbeats 1000000 in
/-- The whole activation, at an index. -/
theorem actL_apply (h : FVec Ideal S1024x1024 .bf16) (x8 x9 : Vec Ideal S1x1024x2816 .bf16) (T : Vec Ideal S8x2816 .f32) (x10 : Vec Ideal S1x3x2816 .f32) (x11 : Vec Ideal S1x1x2816 .f32) (p : Fin 1024) (q : Fin 2816) :
    View.canon (actL (F := Ideal) h x8 x9 T x10 x11) (ix2 p q) = actF h x8 x9 T x10 x11 p q := by
  have hq2 := q.isLt
  unfold actL
  refine canon_chunk _ _ _ p q _ (fun q' hq => actS_ld h x8 x9 T x10 x11 _ _ _ _ p q' q hq) fun n0 => ?_
  refine canon_chunk _ _ _ p q _ (fun q' hq => actS_ld h x8 x9 T x10 x11 _ _ _ _ p q' q hq) fun n1 => ?_
  refine canon_chunk _ _ _ p q _ (fun q' hq => actS_ld h x8 x9 T x10 x11 _ _ _ _ p q' q hq) fun n2 => ?_
  refine canon_chunk _ _ _ p q _ (fun q' hq => actS_ld h x8 x9 T x10 x11 _ _ _ _ p q' q hq) fun n3 => ?_
  refine canon_chunk _ _ _ p q _ (fun q' hq => actS_ld h x8 x9 T x10 x11 _ _ _ _ p q' q hq) fun n4 => ?_
  refine canon_chunk _ _ _ p q _ (fun q' hq => actS_ld h x8 x9 T x10 x11 _ _ _ _ p q' q hq) fun n5 => ?_
  refine canon_chunk _ _ _ p q _ (fun q' hq => actS_ld h x8 x9 T x10 x11 _ _ _ _ p q' q hq) fun n6 => ?_
  refine canon_chunk _ _ _ p q _ (fun q' hq => actS_ld h x8 x9 T x10 x11 _ _ _ _ p q' q hq) fun n7 => ?_
  refine canon_chunk _ _ _ p q _ (fun q' hq => actS_ld h x8 x9 T x10 x11 _ _ _ _ p q' q hq) fun n8 => ?_
  refine canon_chunk _ _ _ p q _ (fun q' hq => actS_ld h x8 x9 T x10 x11 _ _ _ _ p q' q hq) fun n9 => ?_
  refine canon_chunk _ _ _ p q _ (fun q' hq => actS_ld h x8 x9 T x10 x11 _ _ _ _ p q' q hq) fun n10 => ?_
  exfalso; omega

/-- The carried rows, at an index. -/
theorem tailL_apply (h : FVec Ideal S1024x1024 .bf16) (x8 : Vec Ideal S1x1024x2816 .bf16) (L : List (View.Piece (Elt Ideal) S8x2816 .f32)) (p : Fin 8) (q : Fin 2816) :
    View.canon (tailL (F := Ideal) h x8 L) (ix2 p q) = gateF h x8 ⟨1016 + p.val, by omega⟩ q := by
  have hq2 := q.isLt
  unfold tailL
  refine canon_chunk _ _ _ p q _ (fun q' hq => (tailS_apply h _ p q').trans (gateS_ld h x8 _ _ q' q hq)) fun n0 => ?_
  refine canon_chunk _ _ _ p q _ (fun q' hq => (tailS_apply h _ p q').trans (gateS_ld h x8 _ _ q' q hq)) fun n1 => ?_
  refine canon_chunk _ _ _ p q _ (fun q' hq => (tailS_apply h _ p q').trans (gateS_ld h x8 _ _ q' q hq)) fun n2 => ?_
  refine canon_chunk _ _ _ p q _ (fun q' hq => (tailS_apply h _ p q').trans (gateS_ld h x8 _ _ q' q hq)) fun n3 => ?_
  refine canon_chunk _ _ _ p q _ (fun q' hq => (tailS_apply h _ p q').trans (gateS_ld h x8 _ _ q' q hq)) fun n4 => ?_
  refine canon_chunk _ _ _ p q _ (fun q' hq => (tailS_apply h _ p q').trans (gateS_ld h x8 _ _ q' q hq)) fun n5 => ?_
  refine canon_chunk _ _ _ p q _ (fun q' hq => (tailS_apply h _ p q').trans (gateS_ld h x8 _ _ q' q hq)) fun n6 => ?_
  refine canon_chunk _ _ _ p q _ (fun q' hq => (tailS_apply h _ p q').trans (gateS_ld h x8 _ _ q' q hq)) fun n7 => ?_
  refine canon_chunk _ _ _ p q _ (fun q' hq => (tailS_apply h _ p q').trans (gateS_ld h x8 _ _ q' q hq)) fun n8 => ?_
  refine canon_chunk _ _ _ p q _ (fun q' hq => (tailS_apply h _ p q').trans (gateS_ld h x8 _ _ q' q hq)) fun n9 => ?_
  refine canon_chunk _ _ _ p q _ (fun q' hq => (tailS_apply h _ p q').trans (gateS_ld h x8 _ _ q' q hq)) fun n10 => ?_
  exfalso; omega

end Cert.Proof.OutFfn

end
-- ==== Proof.OutFfnBlocks.lean ====
/- The input blocks of a grid point of the output and feed-forward kernel, read off the arguments. -/
module

public import proofs.«01_k».proof.Proof.OutFfnPoint
public import Idealize.ShloMosaic.Lib.Claim
public import Idealize.ShloMosaic.Lib.Pipeline.ValueKit

@[expose] public section

set_option maxRecDepth 16384

noncomputable section

namespace Cert.Proof.OutFfn
open Cert.Kernel2Ideal Cert.Kernel2Ideal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD) (t : Fin cfg0.N)

/-- The sequence a grid point works on. -/
def bOf : Fin 8 := ⟨t.val / 8, by have := lt_of_lt_of_eq t.isLt (show cfg0.N = 64 from N_0); omega⟩

/-- The position in the sequence of a row of a grid point's tile. -/
def tOf (p : Fin 1024) : Fin 8192 := ⟨1024 * (t.val % 8) + p.val, by omega⟩

theorem idxR : ∀ t : Fin grid0.N, win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 0 ∧ win0_3.index t (0 : Fin 2) = t.val ∧ win0_3.index t (1 : Fin 2) = 0 := by decide +kernel
theorem idxW : ∀ t : Fin grid0.N, win0_4.index t (0 : Fin 3) = 3 ∧ win0_4.index t (1 : Fin 3) = 0 ∧ win0_4.index t (2 : Fin 3) = 0 ∧ win0_5.index t (0 : Fin 3) = 3 ∧ win0_5.index t (1 : Fin 3) = 0 ∧ win0_5.index t (2 : Fin 3) = 0 ∧ win0_6.index t (0 : Fin 3) = 3 ∧ win0_6.index t (1 : Fin 3) = 0 ∧ win0_6.index t (2 : Fin 3) = 0 ∧ win0_7.index t (0 : Fin 3) = 3 ∧ win0_7.index t (1 : Fin 3) = 0 ∧ win0_7.index t (2 : Fin 3) = 0 ∧ win0_8.index t (0 : Fin 3) = 3 ∧ win0_8.index t (1 : Fin 3) = 0 ∧ win0_8.index t (2 : Fin 3) = 0 ∧ win0_9.index t (0 : Fin 3) = 3 ∧ win0_9.index t (1 : Fin 3) = 0 ∧ win0_9.index t (2 : Fin 3) = 0 ∧ win0_10.index t (0 : Fin 3) = 3 ∧ win0_10.index t (1 : Fin 3) = 0 ∧ win0_10.index t (2 : Fin 3) = 0 ∧ win0_11.index t (0 : Fin 3) = 3 ∧ win0_11.index t (1 : Fin 3) = 0 ∧ win0_11.index t (2 : Fin 3) = 0 ∧ win0_12.index t (0 : Fin 3) = 3 ∧ win0_12.index t (1 : Fin 3) = 0 ∧ win0_12.index t (2 : Fin 3) = 0 := by decide +kernel

theorem blk0 (p : Fin 1024) (q : Fin 1024) : (iblk m c 0 t : Vec Ideal S1024x1024 .f32 ) (ix2 p q) = m ((c : Thread nD τ).loc main_arg0) (ix3 (bOf t) (tOf t p) q) := by
  blk_ext! [iblk, idxR t, idxW t, bOf, tOf]

theorem blk1 (p : Fin 1024) (q : Fin 256) : (iblk m c 1 t : Vec Ideal S1024x256 .bf16 ) (ix2 p q) = m ((c : Thread nD τ).loc main_arg1) (ix3 (bOf t) (tOf t p) q) := by
  blk_ext! [iblk, idxR t, idxW t, bOf, tOf]

theorem blk2 (p : Fin 1024) (q : Fin 256) : (iblk m c 2 t : Vec Ideal S1024x256 .bf16 ) (ix2 p q) = m ((c : Thread nD τ).loc main_arg2) (ix3 (bOf t) (tOf t p) q) := by
  blk_ext! [iblk, idxR t, idxW t, bOf, tOf]

theorem blk3 (p : Fin 1024) (q : Fin 512) : (iblk m c 3 t : Vec Ideal S1024x512 .bf16 ) (ix2 p q) = m ((c : Thread nD τ).loc main_arg3) (ix2 ⟨8192 * (bOf t).val + (tOf t p).val, by omega⟩ q) := by
  blk_ext! [iblk, idxR t, idxW t, bOf, tOf]

theorem blk4 (k : Fin 256) (q : Fin 1024) : (iblk m c 4 t : Vec Ideal S1x256x1024 .bf16 ) (ix3 0 k q) = m ((c : Thread nD τ).loc main_arg4) (ix3 3 ⟨k.val, by omega⟩ q) := by
  blk_ext! [iblk, idxR t, idxW t, bOf, tOf]

theorem blk5 (k : Fin 256) (q : Fin 1024) : (iblk m c 5 t : Vec Ideal S1x256x1024 .bf16 ) (ix3 0 k q) = m ((c : Thread nD τ).loc main_arg4) (ix3 3 ⟨256 + k.val, by omega⟩ q) := by
  blk_ext! [iblk, idxR t, idxW t, bOf, tOf]

theorem blk6 (k : Fin 512) (q : Fin 1024) : (iblk m c 6 t : Vec Ideal S1x512x1024 .bf16 ) (ix3 0 k q) = m ((c : Thread nD τ).loc main_arg4) (ix3 3 ⟨512 + k.val, by omega⟩ q) := by
  blk_ext! [iblk, idxR t, idxW t, bOf, tOf]

theorem blk7 (q : Fin 1024) : (iblk m c 7 t : Vec Ideal S1x1x1024 .f32 ) (ix3 0 0 q) = m ((c : Thread nD τ).loc main_arg5) (ix2 3 q) := by
  blk_ext! [iblk, idxR t, idxW t, bOf, tOf]

theorem blk8 (k : Fin 1024) (q : Fin 2816) : (iblk m c 8 t : Vec Ideal S1x1024x2816 .bf16 ) (ix3 0 k q) = m ((c : Thread nD τ).loc main_arg6) (ix3 3 k ⟨q.val, by omega⟩) := by
  blk_ext! [iblk, idxR t, idxW t, bOf, tOf]

theorem blk9 (k : Fin 1024) (q : Fin 2816) : (iblk m c 9 t : Vec Ideal S1x1024x2816 .bf16 ) (ix3 0 k q) = m ((c : Thread nD τ).loc main_arg6) (ix3 3 k ⟨2816 + q.val, by omega⟩) := by
  blk_ext! [iblk, idxR t, idxW t, bOf, tOf]

theorem blk10 (k : Fin 3) (q : Fin 2816) : (iblk m c 10 t : Vec Ideal S1x3x2816 .f32 ) (ix3 0 k q) = m ((c : Thread nD τ).loc main_arg7) (ix3 3 k q) := by
  blk_ext! [iblk, idxR t, idxW t, bOf, tOf]

theorem blk11 (q : Fin 2816) : (iblk m c 11 t : Vec Ideal S1x1x2816 .f32 ) (ix3 0 0 q) = m ((c : Thread nD τ).loc main_arg8) (ix2 3 q) := by
  blk_ext! [iblk, idxR t, idxW t, bOf, tOf]

theorem blk12 (k : Fin 2816) (q : Fin 1024) : (iblk m c 12 t : Vec Ideal S1x2816x1024 .bf16 ) (ix3 0 k q) = m ((c : Thread nD τ).loc main_arg9) (ix3 3 k q) := by
  blk_ext! [iblk, idxR t, idxW t, bOf, tOf]

end Cert.Proof.OutFfn

end
-- ==== Proof.OutFfnA.lean ====
/- A sequence-opening grid point of the output and feed-forward kernel, in stages. -/
module

public import proofs.«01_k».proof.Proof.OutFfnStage
public import Idealize.ShloMosaic.Lib.Tactic

@[expose] public section

set_option maxRecDepth 16384

noncomputable section

namespace Cert.Proof.OutFfn
open Cert.Kernel2Ideal Cert.Kernel2Ideal.Gen
open Idealize.ShloMosaic Idealize.ShloMosaic.TcCoe Idealize.ShloMosaic.Tactic
open Idealize.SL Idealize.SL.Sem
open Idealize.ShloMosaic.Pipeline (Dat)

variable {F : FTy → Type} [FloatOps F]

set_option maxHeartbeats 4000000 in
/-- The output block a sequence-opening point leaves, in stages. -/
theorem outA_eq  (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x512 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x512x1024 .bf16) (harg8 : arg8.IsWhole) (arg9 : Memref sig .tc .vmem S1x1x1024 .f32) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x2816x1024 .bf16) (harg14 : arg14.IsWhole) (arg15 : Memref sig .tc .vmem S1024x1024 .f32) (harg15 : arg15.IsWhole) (arg16 : Memref sig .tc .vmem S8x2816 .f32) (harg16 : arg16.IsWhole) (arg17 : Memref sig .tc .vmem S1024x2816 .bf16) (harg17 : arg17.IsWhole) (hc0 : cond0_0 i) (x0 : Vec F S1024x1024 .f32) (x1 : Vec F S1024x256 .bf16) (x2 : Vec F S1024x256 .bf16) (x3 : Vec F S1024x512 .bf16) (x4 : Vec F S1x256x1024 .bf16) (x5 : Vec F S1x256x1024 .bf16) (x6 : Vec F S1x512x1024 .bf16) (x7 : Vec F S1x1x1024 .f32) (x8 : Vec F S1x1024x2816 .bf16) (x9 : Vec F S1x1024x2816 .bf16) (x10 : Vec F S1x3x2816 .f32) (x11 : Vec F S1x1x2816 .f32) (x12 : Vec F S1x2816x1024 .bf16) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = outS (x1S x0 x1 x2 x3 x4 x5 x6) (View.canon (actL (hS x0 x1 x2 x3 x4 x5 x6 x7) x8 x9 k0_pay2 x10 x11)) x12 := by
  unfold out0_A_13
  refine (View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12)).trans ?_
  unfold kernelRun0_A
  dsimp only
  sl_unfold_words
  simp only [View.readAt_eq_ld, Memref.IsWhole.read_unread]
  simp (disch := decide) only [readCov_skip, readCov_all, View.ld_unit_lit, View.canon_cons_unit_lit, readCov_act]
  unfold outS x1S actL hS
  refine congrArg (fun L => k0_pay1 _ (View.canon L) _) ?_
  obtain ⟨T, hT⟩ : ∃ T : Vec F S8x2816 .f32, T = k0_pay2 := ⟨_, rfl⟩
  rw [← hT]
  generalize hX : k0_pay3 x0 x1 x4 x2 x5 x3 x6 = X
  generalize k0_pay4 x7 = g
  generalize k0_pay5 x0 x1 x4 x2 x5 x3 x6 = q
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  · rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    rfl

set_option maxHeartbeats 4000000 in
/-- The carried rows a sequence-opening point leaves, in stages. -/
theorem soutA_eq  (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x512 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x512x1024 .bf16) (harg8 : arg8.IsWhole) (arg9 : Memref sig .tc .vmem S1x1x1024 .f32) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x2816x1024 .bf16) (harg14 : arg14.IsWhole) (arg15 : Memref sig .tc .vmem S1024x1024 .f32) (harg15 : arg15.IsWhole) (arg16 : Memref sig .tc .vmem S8x2816 .f32) (harg16 : arg16.IsWhole) (arg17 : Memref sig .tc .vmem S1024x2816 .bf16) (harg17 : arg17.IsWhole) (hc0 : cond0_0 i) (x0 : Vec F S1024x1024 .f32) (x1 : Vec F S1024x256 .bf16) (x2 : Vec F S1024x256 .bf16) (x3 : Vec F S1024x512 .bf16) (x4 : Vec F S1x256x1024 .bf16) (x5 : Vec F S1x256x1024 .bf16) (x6 : Vec F S1x512x1024 .bf16) (x7 : Vec F S1x1x1024 .f32) (x8 : Vec F S1x1024x2816 .bf16) (x9 : Vec F S1x1024x2816 .bf16) (x10 : Vec F S1x3x2816 .f32) (x11 : Vec F S1x1x2816 .f32) (x12 : Vec F S1x2816x1024 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 = View.canon (tailL (hS x0 x1 x2 x3 x4 x5 x6 x7) x8 [⟨Rect.unit (s := S8x2816) ![0, 0] ![8, 2816] inb_S8x2816_S8x2816_0_0, k0_pay2⟩]) := by
  unfold sout0_A_0
  refine (View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12)).trans ?_
  unfold kernelRun0_A
  dsimp only
  sl_unfold_words
  simp only [View.readAt_eq_ld, Memref.IsWhole.read_unread]
  simp (disch := decide) only [readCov_skip, readCov_all, View.ld_unit_lit, View.canon_cons_unit_lit, readCov_act]
  unfold tailL hS
  refine congrArg View.canon ?_
  generalize hX : k0_pay3 x0 x1 x4 x2 x5 x3 x6 = X
  generalize k0_pay4 x7 = g
  generalize k0_pay5 x0 x1 x4 x2 x5 x3 x6 = q
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  · rfl
  · rfl
  · rfl
  · rfl
  · rfl
  · rfl
  · rfl
  · rfl
  · rfl
  · rfl
  · rfl
  · rfl

end Cert.Proof.OutFfn

end
-- ==== Proof.OutFfnB.lean ====
/- A later grid point of the output and feed-forward kernel, in stages. -/
module

public import proofs.«01_k».proof.Proof.OutFfnStage
public import Idealize.ShloMosaic.Lib.Tactic

@[expose] public section

set_option maxRecDepth 16384

noncomputable section

namespace Cert.Proof.OutFfn
open Cert.Kernel2Ideal Cert.Kernel2Ideal.Gen
open Idealize.ShloMosaic Idealize.ShloMosaic.TcCoe Idealize.ShloMosaic.Tactic
open Idealize.SL Idealize.SL.Sem
open Idealize.ShloMosaic.Pipeline (Dat)

variable {F : FTy → Type} [FloatOps F]

set_option maxHeartbeats 4000000 in
/-- The output block a later point leaves, in stages. -/
theorem outB_eq  (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x512 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x512x1024 .bf16) (harg8 : arg8.IsWhole) (arg9 : Memref sig .tc .vmem S1x1x1024 .f32) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x2816x1024 .bf16) (harg14 : arg14.IsWhole) (arg15 : Memref sig .tc .vmem S1024x1024 .f32) (harg15 : arg15.IsWhole) (arg16 : Memref sig .tc .vmem S8x2816 .f32) (harg16 : arg16.IsWhole) (arg17 : Memref sig .tc .vmem S1024x2816 .bf16) (harg17 : arg17.IsWhole) (hc0 : ¬cond0_0 i) (x0 : Vec F S1024x1024 .f32) (x1 : Vec F S1024x256 .bf16) (x2 : Vec F S1024x256 .bf16) (x3 : Vec F S1024x512 .bf16) (x4 : Vec F S1x256x1024 .bf16) (x5 : Vec F S1x256x1024 .bf16) (x6 : Vec F S1x512x1024 .bf16) (x7 : Vec F S1x1x1024 .f32) (x8 : Vec F S1x1024x2816 .bf16) (x9 : Vec F S1x1024x2816 .bf16) (x10 : Vec F S1x3x2816 .f32) (x11 : Vec F S1x1x2816 .f32) (x12 : Vec F S1x2816x1024 .bf16) (xs0 : Vec F S8x2816 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 = outS (x1S x0 x1 x2 x3 x4 x5 x6) (View.canon (actL (hS x0 x1 x2 x3 x4 x5 x6 x7) x8 x9 xs0 x10 x11)) x12 := by
  unfold out0_B_13
  refine (View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0)).trans ?_
  unfold kernelRun0_B
  dsimp only
  sl_unfold_words
  simp only [View.readAt_eq_ld, Memref.IsWhole.read_unread]
  simp (disch := decide) only [readCov_skip, readCov_all, View.ld_unit_lit, View.canon_cons_unit_lit, readCov_act]
  unfold outS x1S actL hS
  refine congrArg (fun L => k0_pay1 _ (View.canon L) _) ?_
  obtain ⟨T, hT⟩ : ∃ T : Vec F S8x2816 .f32, T = xs0 := ⟨_, rfl⟩
  rw [← hT]
  generalize hX : k0_pay3 x0 x1 x4 x2 x5 x3 x6 = X
  generalize k0_pay4 x7 = g
  generalize k0_pay5 x0 x1 x4 x2 x5 x3 x6 = q
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  · rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    generalize hh : k0_pay6 X g q _ = h
    rfl
  · generalize View.ld x8 _ = wg; generalize View.ld x9 _ = wv; generalize View.ld T _ = tl; generalize View.ld x10 _ = cw; generalize View.ld x11 _ = cb
    rfl

set_option maxHeartbeats 4000000 in
/-- The carried rows a later point leaves, in stages. -/
theorem soutB_eq  (c : Dev nD) (i : grid0.Coords) (arg2 : Memref sig .tc .vmem S1024x1024 .f32) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x512 .bf16) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x512x1024 .bf16) (harg8 : arg8.IsWhole) (arg9 : Memref sig .tc .vmem S1x1x1024 .f32) (harg9 : arg9.IsWhole) (arg10 : Memref sig .tc .vmem S1x1024x2816 .bf16) (harg10 : arg10.IsWhole) (arg11 : Memref sig .tc .vmem S1x1024x2816 .bf16) (harg11 : arg11.IsWhole) (arg12 : Memref sig .tc .vmem S1x3x2816 .f32) (harg12 : arg12.IsWhole) (arg13 : Memref sig .tc .vmem S1x1x2816 .f32) (harg13 : arg13.IsWhole) (arg14 : Memref sig .tc .vmem S1x2816x1024 .bf16) (harg14 : arg14.IsWhole) (arg15 : Memref sig .tc .vmem S1024x1024 .f32) (harg15 : arg15.IsWhole) (arg16 : Memref sig .tc .vmem S8x2816 .f32) (harg16 : arg16.IsWhole) (arg17 : Memref sig .tc .vmem S1024x2816 .bf16) (harg17 : arg17.IsWhole) (hc0 : ¬cond0_0 i) (x0 : Vec F S1024x1024 .f32) (x1 : Vec F S1024x256 .bf16) (x2 : Vec F S1024x256 .bf16) (x3 : Vec F S1024x512 .bf16) (x4 : Vec F S1x256x1024 .bf16) (x5 : Vec F S1x256x1024 .bf16) (x6 : Vec F S1x512x1024 .bf16) (x7 : Vec F S1x1x1024 .f32) (x8 : Vec F S1x1024x2816 .bf16) (x9 : Vec F S1x1024x2816 .bf16) (x10 : Vec F S1x3x2816 .f32) (x11 : Vec F S1x1x2816 .f32) (x12 : Vec F S1x2816x1024 .bf16) (xs0 : Vec F S8x2816 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0 = View.canon (tailL (hS x0 x1 x2 x3 x4 x5 x6 x7) x8 []) := by
  unfold sout0_B_0
  refine (View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0)).trans ?_
  unfold kernelRun0_B
  dsimp only
  sl_unfold_words
  simp only [View.readAt_eq_ld, Memref.IsWhole.read_unread]
  simp (disch := decide) only [readCov_skip, readCov_all, View.ld_unit_lit, View.canon_cons_unit_lit, readCov_act]
  unfold tailL hS
  refine congrArg View.canon ?_
  generalize hX : k0_pay3 x0 x1 x4 x2 x5 x3 x6 = X
  generalize k0_pay4 x7 = g
  generalize k0_pay5 x0 x1 x4 x2 x5 x3 x6 = q
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  refine congrArg₂ List.cons (congrArg (Sigma.mk _) ?_) ?_
  rotate_left
  · rfl
  · rfl
  · rfl
  · rfl
  · rfl
  · rfl
  · rfl
  · rfl
  · rfl
  · rfl
  · rfl
  · rfl

end Cert.Proof.OutFfn

end
-- ==== Proof.OutFfnRef.lean ====
/- The reference of the output and feed-forward call in stages, read at an index over the extended reals. -/
module

public import proofs.«01_k».proof.Proof.Gen.Reference2Ideal.Run
public import Idealize.ShloMosaic.Lib.Tactic
public import Idealize.ShloMosaic.Lib.Pointwise

@[expose] public section

set_option maxRecDepth 16384

noncomputable section

namespace Cert.Proof.OutFfnRef
open Cert.Reference2Ideal Cert.Reference2Ideal.Gen Cert.Reference2Ideal.Value
open Idealize.ShloMosaic Idealize.ShloMosaic.TcCoe Idealize.ShloMosaic.Tactic
open Idealize.SL Idealize.SL.Sem

/-- The residual stream after the output projection. -/
def rX1 (a0 : FVec Ideal S8x8192x1024 .f32) (a1 a2 : FVec Ideal S8x8192x256 .bf16) (a3 : FVec Ideal S65536x512 .bf16) (a4 : FVec Ideal S4x1024x1024 .f32) : FVec Ideal S8x8192x1024 .f32 :=
  addf a0 (Host.dotGeneral dot_S8x8192x1024_S1024x1024_S8x8192x1024_2_0_01_1_n_n none (extf .f32 (fn_main_v1 (F := Ideal) a1 a2 (shapeCast S8x8192x512 a3 shapeCasts_S65536x512_S8x8192x512)) bitsLt_bf16_f32)
    (shapeCast S1024x1024 (extractStridedSlice S1x1024x1024 ![3, 0, 0] a4 slices_S4x1024x1024_S1x1024x1024_3_0_0) shapeCasts_S1x1024x1024_S1024x1024))

/-- The normalized rows. -/
def rH (X : FVec Ideal S8x8192x1024 .f32) (a5 : FVec Ideal S4x1024 .f32) : FVec Ideal S8x8192x1024 .f32 :=
  mulf (mulf X (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 (shapeCast S1024 (extractStridedSlice S1x1024 ![3, 0] a5 slices_S4x1024_S1x1024_3_0) shapeCasts_S1x1024_S1024)))

/-- The gate and the value, side by side. -/
def rUp (H : FVec Ideal S8x8192x1024 .f32) (a6 : FVec Ideal S4x1024x5632 .f32) : FVec Ideal S8x8192x5632 .f32 :=
  Host.dotGeneral dot_S8x8192x1024_S1024x5632_S8x8192x5632_2_0_01_1_n_n none H (shapeCast S1024x5632 (extractStridedSlice S1x1024x5632 ![3, 0, 0] a6 slices_S4x1024x5632_S1x1024x5632_3_0_0) shapeCasts_S1x1024x5632_S1024x5632)

/-- The gate with two rows of zeros before each sequence. -/
def rPad (U : FVec Ideal S8x8192x5632 .f32) : FVec Ideal S8x8194x2816 .f32 :=
  pad S8x8194x2816 ![0, 2, 0] ![0, 0, 0] ![0, 0, 0] (extractStridedSlice S8x8192x2816 ![0, 0, 0] U slices_S8x8192x5632_S8x8192x2816_0_0_0) (sitofp (F := Ideal) .f32 (constantI S_ 32 0#32)) pads_S8x8192x2816_S8x8194x2816_000_200_000 h_S_

/-- One row of the convolution's weights, over every position. -/
def rTap (w : FVec Ideal S1x2816 .f32) : FVec Ideal S8x8192x2816 .f32 :=
  broadcastInDim S8x8192x2816 ![0, 1, 2] bcast_S1x1x2816_S8x8192x2816_0_1_2 (broadcastInDim S1x1x2816 ![2] bcast_S2816_S1x1x2816_2 (shapeCast S2816 w shapeCasts_S1x2816_S2816))

/-- The causal convolution of the gate. -/
def rConv (U : FVec Ideal S8x8192x5632 .f32) (a7 : FVec Ideal S4x3x2816 .f32) (a8 : FVec Ideal S4x2816 .f32) : FVec Ideal S8x8192x2816 .f32 :=
  addf (addf (addf (rTap (extractStridedSlice S1x2816 ![3, 0] a8 slices_S4x2816_S1x2816_3_0))
    (mulf (extractStridedSlice S8x8192x2816 ![0, 0, 0] (rPad U) slices_S8x8194x2816_S8x8192x2816_0_0_0) (rTap (extractStridedSlice S1x2816 ![0, 0] (shapeCast S3x2816 (extractStridedSlice S1x3x2816 ![3, 0, 0] a7 slices_S4x3x2816_S1x3x2816_3_0_0) shapeCasts_S1x3x2816_S3x2816) slices_S3x2816_S1x2816_0_0))))
    (mulf (extractStridedSlice S8x8192x2816 ![0, 1, 0] (rPad U) slices_S8x8194x2816_S8x8192x2816_0_1_0) (rTap (extractStridedSlice S1x2816 ![1, 0] (shapeCast S3x2816 (extractStridedSlice S1x3x2816 ![3, 0, 0] a7 slices_S4x3x2816_S1x3x2816_3_0_0) shapeCasts_S1x3x2816_S3x2816) slices_S3x2816_S1x2816_1_0))))
    (mulf (extractStridedSlice S8x8192x2816 ![0, 2, 0] (rPad U) slices_S8x8194x2816_S8x8192x2816_0_2_0) (rTap (extractStridedSlice S1x2816 ![2, 0] (shapeCast S3x2816 (extractStridedSlice S1x3x2816 ![3, 0, 0] a7 slices_S4x3x2816_S1x3x2816_3_0_0) shapeCasts_S1x3x2816_S3x2816) slices_S3x2816_S1x2816_2_0)))

/-- The activation. -/
def rAct (C : FVec Ideal S8x8192x2816 .f32) (U : FVec Ideal S8x8192x5632 .f32) : FVec Ideal S8x8192x2816 .f32 :=
  mulf (mulf C (Host.divf (broadcastInDim S8x8192x2816 ![] bcast_S_S8x8192x2816 (constant S_ .f32 0x3F800000#32)) (addf (broadcastInDim S8x8192x2816 ![] bcast_S_S8x8192x2816 (constant S_ .f32 0x3F800000#32)) (Host.exp (Host.negf C)))))
    (extractStridedSlice S8x8192x2816 ![0, 0, 2816] U slices_S8x8192x5632_S8x8192x2816_0_0_2816)

/-- The output. -/
def rOut (X : FVec Ideal S8x8192x1024 .f32) (A : FVec Ideal S8x8192x2816 .f32) (a9 : FVec Ideal S4x2816x1024 .f32) : FVec Ideal S65536x1024 .f32 :=
  shapeCast S65536x1024 (addf X (Host.dotGeneral dot_S8x8192x2816_S2816x1024_S8x8192x1024_2_0_01_1_n_n none A (shapeCast S2816x1024 (extractStridedSlice S1x2816x1024 ![3, 0, 0] a9 slices_S4x2816x1024_S1x2816x1024_3_0_0) shapeCasts_S1x2816x1024_S2816x1024))) shapeCasts_S8x8192x1024_S65536x1024

/-- What the reference returns, in stages. -/
theorem res_stages (m : (ℓ : Loc nD τ sig) → Buf (Elt Ideal) ℓ) (c : Dev nD)
    (X : FVec Ideal S8x8192x1024 .f32) (hX : X = rX1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (U : FVec Ideal S8x8192x5632 .f32) (hU : U = rUp (rH X (m ((c.tc : Thread nD τ).loc main_arg5))) (m ((c.tc : Thread nD τ).loc main_arg6))) :
    res_main_v61 (F := Ideal) m c = rOut X (rAct (rConv U (m ((c.tc : Thread nD τ).loc main_arg7)) (m ((c.tc : Thread nD τ).loc main_arg8))) U) (m ((c.tc : Thread nD τ).loc main_arg9)) := by
  subst hU hX
  unfold res_main_v61
  rfl

/-- A sum over the concatenated columns, piece by piece. -/
theorem sum_three (f : Fin 1024 → EReal) : ∑ x, f x = (∑ k : Fin 256, f ⟨k.val, by omega⟩) + (∑ k : Fin 256, f ⟨256 + k.val, by omega⟩) + ∑ k : Fin 512, f ⟨512 + k.val, by omega⟩ := by
  have h := Fin.sum_univ_add (a := 512) (b := 512) f
  have h' := Fin.sum_univ_add (a := 256) (b := 256) (fun k => f (Fin.castAdd 512 k))
  rw [h, h']
  rfl

/-- The residual stream after the output projection, at an index. -/
theorem rX1_apply (a0 : FVec Ideal S8x8192x1024 .f32) (a1 a2 : FVec Ideal S8x8192x256 .bf16) (a3 : FVec Ideal S65536x512 .bf16) (a4 : FVec Ideal S4x1024x1024 .f32) (b : Fin 8) (t : Fin 8192) (q : Fin 1024) :
    rX1 a0 a1 a2 a3 a4 (ix3 b t q) = a0 (ix3 b t q) + (∑ k : Fin 256, a1 (ix3 b t k) * a4 (ix3 3 ⟨k.val, by omega⟩ q)) + (∑ k : Fin 256, a2 (ix3 b t k) * a4 (ix3 3 ⟨256 + k.val, by omega⟩ q)) + ∑ k : Fin 512, a3 (ix2 ⟨8192 * b.val + t.val, by omega⟩ k) * a4 (ix3 3 ⟨512 + k.val, by omega⟩ q) := by
  pointwise [rX1, fn_main_v1]
  rw [sum_three, ← add_assoc, ← add_assoc]
  refine congrArg₂ (· + ·) (congrArg₂ (· + ·) (congrArg (_ + ·) ?_) ?_) ?_
  · refine Finset.sum_congr rfl fun k _ => ?_
    have hk := k.isLt
    rw [dif_pos hk]
  · refine Finset.sum_congr rfl fun k _ => ?_
    have hk := k.isLt
    rw [dif_neg (show ¬ 256 + k.val < 256 by omega), dif_pos (show 256 + k.val - 256 < 256 by omega)]
    simp only [Nat.add_sub_cancel_left]
  · refine Finset.sum_congr rfl fun k _ => ?_
    have hk := k.isLt
    rw [dif_neg (show ¬ 512 + k.val < 256 by omega), dif_neg (show ¬ 512 + k.val - 256 < 256 by omega)]
    refine congrArg (· * _) (congrArg a3 (congrArg₂ ix2 (Fin.ext ?_) (Fin.ext ?_)))
    · show b.val * 8192 + t.val = 8192 * b.val + t.val; omega
    · show 512 + k.val - 256 - 256 = k.val; omega

/-- The normalized rows, at an index. -/
theorem rH_apply (X : FVec Ideal S8x8192x1024 .f32) (a5 : FVec Ideal S4x1024 .f32) (b : Fin 8) (t : Fin 8192) (q : Fin 1024) :
    rH X a5 (ix3 b t q) = X (ix3 b t q) * Ideal.rsqrt (Ideal.div (∑ k : Fin 1024, X (ix3 b t k) * X (ix3 b t k)) (Ideal.ofBits .f32 0x44800000#32) + Ideal.ofBits .f32 0x358637BD#32) * a5 (ix2 3 q) := by
  pointwise [rH]

/-- The gate and the value, at an index. -/
theorem rUp_apply (H : FVec Ideal S8x8192x1024 .f32) (a6 : FVec Ideal S4x1024x5632 .f32) (b : Fin 8) (t : Fin 8192) (q : Fin 5632) :
    rUp H a6 (ix3 b t q) = ∑ k : Fin 1024, H (ix3 b t k) * a6 (ix3 3 k q) := by
  pointwise [rUp]

/-- The padded gate, at an index. -/
theorem rPad_apply (U : FVec Ideal S8x8192x5632 .f32) (b : Fin 8) (t : Fin 8194) (q : Fin 2816) :
    rPad U (ix3 b t q) = if ht : t.val < 2 then 0 else U (ix3 b ⟨t.val - 2, by omega⟩ ⟨q.val, by omega⟩) := by
  pointwise [rPad]
  have ht' := t.isLt
  by_cases ht : t.val < 2
  · rw [dif_pos ht, dif_neg (by omega)]
    show (((0#32 : BitVec 32).toInt : ℝ) : EReal) = 0
    norm_num
  · rw [dif_neg ht, dif_pos (by omega)]

/-- The convolution, at an index. -/
theorem rConv_apply (U : FVec Ideal S8x8192x5632 .f32) (a7 : FVec Ideal S4x3x2816 .f32) (a8 : FVec Ideal S4x2816 .f32) (b : Fin 8) (t : Fin 8192) (q : Fin 2816) :
    rConv U a7 a8 (ix3 b t q) = a8 (ix2 3 q) + rPad U (ix3 b ⟨t.val, by omega⟩ q) * a7 (ix3 3 0 q) + rPad U (ix3 b ⟨1 + t.val, by omega⟩ q) * a7 (ix3 3 1 q) + rPad U (ix3 b ⟨2 + t.val, by omega⟩ q) * a7 (ix3 3 2 q) := by
  unfold rConv
  generalize rPad U = P
  pointwise [rTap]

/-- The activation, at an index. -/
theorem rAct_apply (C : FVec Ideal S8x8192x2816 .f32) (U : FVec Ideal S8x8192x5632 .f32) (b : Fin 8) (t : Fin 8192) (q : Fin 2816) :
    rAct C U (ix3 b t q) = C (ix3 b t q) * Ideal.div 1 (1 + Ideal.exp (-C (ix3 b t q))) * U (ix3 b t ⟨2816 + q.val, by omega⟩) := by
  pointwise [rAct]

/-- The output, at an index. -/
theorem rOut_apply (X : FVec Ideal S8x8192x1024 .f32) (A : FVec Ideal S8x8192x2816 .f32) (a9 : FVec Ideal S4x2816x1024 .f32) (r : Fin 65536) (q : Fin 1024) :
    rOut X A a9 (ix2 r q) = X (ix3 ⟨r.val / 8192, by omega⟩ ⟨r.val % 8192, by omega⟩ q) + ∑ k : Fin 2816, A (ix3 ⟨r.val / 8192, by omega⟩ ⟨r.val % 8192, by omega⟩ k) * a9 (ix3 3 k q) := by
  pointwise [rOut]

end Cert.Proof.OutFfnRef

end
-- ==== Proof.OutFfnFinal.lean ====
/- The output and feed-forward kernel against its reference, over the extended reals. -/
module

public import proofs.«01_k».proof.Proof.OutFfnBlocks
public import proofs.«01_k».proof.Proof.OutFfnA
public import proofs.«01_k».proof.Proof.OutFfnB
public import proofs.«01_k».proof.Proof.OutFfnRef
public import Idealize.ShloMosaic.Lib.Claim
public import proofs.«01_k».proof.Defs

@[expose] public section

set_option maxRecDepth 16384

noncomputable section

namespace Cert.Proof.OutFfn
open Cert.Kernel2Ideal Cert.Kernel2Ideal.Gen
open Idealize.ShloMosaic Idealize.ShloMosaic.TcCoe Idealize.ShloMosaic.Tactic
open Idealize.SL Idealize.SL.Sem
open Idealize.ShloMosaic.Pipeline (Dat)

open Cert.Kernel2Ideal.Value
variable (m : (ℓ : Loc nD τ sig) → Buf (Elt Ideal) ℓ) (c : Dev nD) (t : Fin cfg0.N)

/-- The reference's residual stream of the kernel's arguments. -/
def KX : FVec Ideal Reference2Ideal.S8x8192x1024 .f32 := OutFfnRef.rX1 (m ((c : Thread nD τ).loc main_arg0)) (m ((c : Thread nD τ).loc main_arg1)) (m ((c : Thread nD τ).loc main_arg2)) (m ((c : Thread nD τ).loc main_arg3)) (m ((c : Thread nD τ).loc main_arg4))

/-- The reference's gate and value of the kernel's arguments. -/
def KU : FVec Ideal Reference2Ideal.S8x8192x5632 .f32 := OutFfnRef.rUp (OutFfnRef.rH (KX m c) (m ((c : Thread nD τ).loc main_arg5))) (m ((c : Thread nD τ).loc main_arg6))

/-- The reference's activation of the kernel's arguments. -/
def KA : FVec Ideal Reference2Ideal.S8x8192x2816 .f32 := OutFfnRef.rAct (OutFfnRef.rConv (KU m c) (m ((c : Thread nD τ).loc main_arg7)) (m ((c : Thread nD τ).loc main_arg8))) (KU m c)

/-- The residual stream of a point's rows is the reference's. -/
theorem x1_pt (p q : Fin 1024) : x1S (F := Ideal) (iblk m c 0 t) (iblk m c 1 t) (iblk m c 2 t) (iblk m c 3 t) (iblk m c 4 t) (iblk m c 5 t) (iblk m c 6 t) (ix2 p q) = KX m c (ix3 (bOf t) (tOf t p) q) := by
  unfold KX
  rw [x1S_apply, OutFfnRef.rX1_apply]
  simp only [blk0, blk1, blk2, blk3, blk4, blk5, blk6]

/-- The normalized rows of a point are the reference's. -/
theorem h_pt (p q : Fin 1024) : hS (F := Ideal) (iblk m c 0 t) (iblk m c 1 t) (iblk m c 2 t) (iblk m c 3 t) (iblk m c 4 t) (iblk m c 5 t) (iblk m c 6 t) (iblk m c 7 t) (ix2 p q) = OutFfnRef.rH (KX m c) (m ((c : Thread nD τ).loc main_arg5)) (ix3 (bOf t) (tOf t p) q) := by
  rw [hS_apply, OutFfnRef.rH_apply]
  simp only [x1_pt, blk7]

/-- The gate of a point's rows is the reference's. -/
theorem gate_pt (p : Fin 1024) (q : Fin 2816) : gateF (hS (F := Ideal) (iblk m c 0 t) (iblk m c 1 t) (iblk m c 2 t) (iblk m c 3 t) (iblk m c 4 t) (iblk m c 5 t) (iblk m c 6 t) (iblk m c 7 t)) (iblk m c 8 t) p q = KU m c (ix3 (bOf t) (tOf t p) ⟨q.val, by omega⟩) := by
  unfold gateF KU
  rw [OutFfnRef.rUp_apply]
  simp only [h_pt, blk8]

/-- The value of a point's rows is the reference's. -/
theorem val_pt (p : Fin 1024) (q : Fin 2816) : gateF (hS (F := Ideal) (iblk m c 0 t) (iblk m c 1 t) (iblk m c 2 t) (iblk m c 3 t) (iblk m c 4 t) (iblk m c 5 t) (iblk m c 6 t) (iblk m c 7 t)) (iblk m c 9 t) p q = KU m c (ix3 (bOf t) (tOf t p) ⟨2816 + q.val, by omega⟩) := by
  unfold gateF KU
  rw [OutFfnRef.rUp_apply]
  simp only [h_pt, blk9]

/-- The rows a point hands on are the last rows of its gate. -/
theorem tail_pt (r : Fin 8) (q : Fin 2816) : (outsAt0 m c t.val t.isLt).2 (ix2 r q) = KU m c (ix3 (bOf t) (tOf t ⟨1016 + r.val, by omega⟩) ⟨q.val, by omega⟩) := by
  by_cases h0 : t.val % 8 = 0
  · rw [outsAt0_A m c t h0]
    dsimp only
    rw [soutA_eq, tailL_apply, gate_pt]
  · rw [outsAt0_B m c t h0]
    dsimp only
    rw [soutB_eq, tailL_apply, gate_pt]

/-- What the carried rows must hold when a point starts: zeros at a sequence's first tile, the gate's rows before the tile elsewhere. -/
def TailOK (T : Vec Ideal S8x2816 .f32) : Prop :=
  ∀ (r : Fin 8) (q : Fin 2816), T (ix2 r q) = if h : t.val % 8 = 0 then 0 else KU m c (ix3 (bOf t) ⟨1024 * (t.val % 8) + r.val - 8, by omega⟩ ⟨q.val, by omega⟩)

theorem tailOK_A (h0 : t.val % 8 = 0) : TailOK m c t (k0_pay2 (F := Ideal)) := by
  intro r q
  rw [dif_pos h0]
  pointwise [k0_pay2]

theorem tailOK_B (h0 : ¬ t.val % 8 = 0) (hp : t.val - 1 < cfg0.N) : TailOK m c t (outsAt0 m c (t.val - 1) hp).2 := by
  intro r q
  rw [dif_neg h0, tail_pt m c ⟨t.val - 1, hp⟩ r q]
  have hr := r.isLt
  refine congrArg (KU m c) ?_
  refine congrArg₂ (fun a b => ix3 a b _) (Fin.ext ?_) (Fin.ext ?_)
  · show (t.val - 1) / 8 = t.val / 8; omega
  · show 1024 * ((t.val - 1) % 8) + (1016 + r.val) = 1024 * (t.val % 8) + r.val - 8; omega

/-- The gate some rows before a row of the tile is the padded gate's. -/
theorem back_pt (T : Vec Ideal S8x2816 .f32) (hT : TailOK m c t T) (d : Fin 3) (p : Fin 1024) (q : Fin 2816) :
    backF (fun r => gateF (hS (F := Ideal) (iblk m c 0 t) (iblk m c 1 t) (iblk m c 2 t) (iblk m c 3 t) (iblk m c 4 t) (iblk m c 5 t) (iblk m c 6 t) (iblk m c 7 t)) (iblk m c 8 t) r q) (fun r => T (ix2 r q)) d p
      = OutFfnRef.rPad (KU m c) (ix3 (bOf t) ⟨2 - d.val + (tOf t p).val, by omega⟩ q) := by
  rw [OutFfnRef.rPad_apply]
  have hd := d.isLt
  have hp := p.isLt
  unfold backF
  by_cases h : p.val < d.val
  · rw [dif_pos h]
    refine (hT _ q).trans ?_
    by_cases h0 : t.val % 8 = 0
    · rw [dif_pos h0, dif_pos (by show 2 - d.val + (1024 * (t.val % 8) + p.val) < 2; omega)]
    · rw [dif_neg h0, dif_neg (by show ¬ 2 - d.val + (1024 * (t.val % 8) + p.val) < 2; omega)]
      refine congrArg (fun x => KU m c (ix3 (bOf t) x _)) (Fin.ext ?_)
      show 1024 * (t.val % 8) + (8 + p.val - d.val) - 8 = 2 - d.val + (1024 * (t.val % 8) + p.val) - 2
      omega
  · rw [dif_neg h]
    refine (gate_pt m c t _ q).trans ?_
    rw [dif_neg (by show ¬ 2 - d.val + (1024 * (t.val % 8) + p.val) < 2; omega)]
    refine congrArg (fun x => KU m c (ix3 (bOf t) x _)) (Fin.ext ?_)
    show 1024 * (t.val % 8) + (p.val - d.val) = 2 - d.val + (1024 * (t.val % 8) + p.val) - 2
    omega

/-- The activation of a point's rows is the reference's. -/
theorem act_pt (T : Vec Ideal S8x2816 .f32) (hT : TailOK m c t T) (p : Fin 1024) (q : Fin 2816) :
    actF (hS (F := Ideal) (iblk m c 0 t) (iblk m c 1 t) (iblk m c 2 t) (iblk m c 3 t) (iblk m c 4 t) (iblk m c 5 t) (iblk m c 6 t) (iblk m c 7 t)) (iblk m c 8 t) (iblk m c 9 t) T (iblk m c 10 t) (iblk m c 11 t) p q = KA m c (ix3 (bOf t) (tOf t p) q) := by
  have e2 : gateF (hS (F := Ideal) (iblk m c 0 t) (iblk m c 1 t) (iblk m c 2 t) (iblk m c 3 t) (iblk m c 4 t) (iblk m c 5 t) (iblk m c 6 t) (iblk m c 7 t)) (iblk m c 8 t) p q = OutFfnRef.rPad (KU m c) (ix3 (bOf t) ⟨2 + (tOf t p).val, by omega⟩ q) :=
    (show _ = backF (fun r => gateF (hS (F := Ideal) (iblk m c 0 t) (iblk m c 1 t) (iblk m c 2 t) (iblk m c 3 t) (iblk m c 4 t) (iblk m c 5 t) (iblk m c 6 t) (iblk m c 7 t)) (iblk m c 8 t) r q) (fun r => T (ix2 r q)) 0 p by unfold backF; rw [dif_neg (by simp)]; rfl).trans (back_pt m c t T hT 0 p q)
  unfold actF KA
  rw [OutFfnRef.rAct_apply, OutFfnRef.rConv_apply, back_pt m c t T hT, back_pt m c t T hT, e2, val_pt, blk10, blk10, blk10, blk11]
  unfold gluF convF
  have e0 : (⟨2 - (2 : Fin 3).val + (tOf t p).val, by omega⟩ : Fin 8194) = ⟨(tOf t p).val, by omega⟩ := Fin.ext (Nat.zero_add _)
  rw [e0]
  rfl

/-- The output block of a point is the reference's rows. -/
theorem out_pt (p q : Fin 1024) : (outsAt0 m c t.val t.isLt).1 (ix2 p q) = KX m c (ix3 (bOf t) (tOf t p) q) + ∑ k : Fin 2816, KA m c (ix3 (bOf t) (tOf t p) k) * (m ((c : Thread nD τ).loc main_arg9)) (ix3 3 k q) := by
  by_cases h0 : t.val % 8 = 0
  · rw [outsAt0_A m c t h0]
    dsimp only
    rw [outA_eq, outS_apply, x1_pt]
    simp only [actL_apply, act_pt m c t _ (tailOK_A m c t h0), blk12]
  · rw [outsAt0_B m c t h0]
    dsimp only
    rw [outB_eq, outS_apply, x1_pt]
    simp only [actL_apply, act_pt m c t _ (tailOK_B m c t h0 _), blk12]

/-- What the kernel's run leaves is the reference's result of its arguments. -/
theorem final_eq : (G13 m c : FVec Ideal S65536x1024 .f32) = OutFfnRef.rOut (KX m c) (KA m c) (m ((c : Thread nD τ).loc main_arg9)) := by
  funext i
  idx_vars i
  rw [OutFfnRef.rOut_apply]
  have hr := i0.isLt
  have hN : cfg0.N = 64 := N_0
  have hn : i0.val / 1024 < cfg0.N := by omega
  have e : pt13Of (ix2 i0 i1) = i0.val / 1024 := by
    have hq := i1.isLt
    show 1 * (i0.val / 1024 - 0) + 1 * (i1.val / 1024 - 0) = i0.val / 1024
    omega
  have key : ∀ (n : ℕ) (h : n < cfg0.N), n = i0.val / 1024 → (outsAt0 m c n h).1 (loc13Of (ix2 i0 i1)) = KX m c (ix3 ⟨i0.val / 8192, by omega⟩ ⟨i0.val % 8192, by omega⟩ i1) + ∑ k : Fin 2816, KA m c (ix3 ⟨i0.val / 8192, by omega⟩ ⟨i0.val % 8192, by omega⟩ k) * (m ((c : Thread nD τ).loc main_arg9)) (ix3 3 k i1) := by
    rintro n h rfl
    have hl : loc13Of (ix2 i0 i1) = ix2 ⟨i0.val % 1024, by omega⟩ i1 := by
      have hq := i1.isLt
      funext a
      apply Fin.ext
      match a with
      | ⟨0, _⟩ => rfl
      | ⟨1, _⟩ => exact Nat.mod_eq_of_lt hq
    rw [hl]
    refine (out_pt m c ⟨_, h⟩ _ _).trans ?_
    have eb : bOf (⟨i0.val / 1024, h⟩ : Fin cfg0.N) = ⟨i0.val / 8192, by omega⟩ := Fin.ext (by show i0.val / 1024 / 8 = i0.val / 8192; omega)
    have et : tOf (⟨i0.val / 1024, h⟩ : Fin cfg0.N) ⟨i0.val % 1024, by omega⟩ = ⟨i0.val % 8192, by omega⟩ := Fin.ext (by show 1024 * (i0.val / 1024 % 8) + i0.val % 1024 = i0.val % 8192; omega)
    rw [eb, et]
  unfold G13
  rw [dif_pos (by rw [e]; exact hn), ← outsAt0_sweep m c _ (by rw [e]; exact hn)]
  exact key _ _ e

/-- The kernel's result equals the reference's, over the extended reals, on every memory. -/
theorem algebraic : Cert.algebraic_Kernel2Ideal_Reference2Ideal := by
  intro m g m' g' hpre hargs
  refine ⟨fun c => G13 m c, ?_, ?_⟩
  · exact run m g
  · refine (θ_run Reference2Ideal.defs _ _).mono (fun r h c => ?_) (Reference2Ideal.Value.run (F := Ideal) m' g')
    obtain ⟨hr, hrest⟩ := h c
    refine ⟨hr.trans ?_, hrest⟩
    obtain ⟨h0, h1, h2, h3, h4, h5, h6, h7, h8, h9⟩ := hargs c
    rw [OutFfnRef.res_stages m' c _ rfl _ rfl]
    rw [h0, h1, h2, h3, h4, h5, h6, h7, h8, h9]
    exact (final_eq m c).symm

end Cert.Proof.OutFfn

end
-- ==== Proof.InProjStage.lean ====
/- What a grid point of the input-projection kernel writes, in stages. -/
module

public import proofs.«01_k».proof.Proof.Gen.Kernel3Ideal.Frame
public import Idealize.ShloMosaic.Lib.Tactic
public import Idealize.ShloMosaic.Lib.Pipeline.ValueKit.Basic
public import Idealize.ShloMosaic.Lib.Pipeline.ValueKit.Tiles

@[expose] public section

set_option maxRecDepth 16384

noncomputable section

namespace Cert.Proof.InProj
open Cert.Kernel3Ideal Cert.Kernel3Ideal.Gen
open Idealize.ShloMosaic Idealize.ShloMosaic.TcCoe Idealize.ShloMosaic.Tactic
open Idealize.SL Idealize.SL.Sem
open Idealize.ShloMosaic.Pipeline (Dat)

variable {F : FTy → Type} [FloatOps F]

/-- The rows below a value tile: a row of ones and fifteen of zeros. -/
def tailA : FVec F S1x1x1x16x256 .bf16 := k0_pay15

/-- The same below a wide value tile. -/
def tailB : FVec F S1x1x1x16x512 .bf16 := k0_pay31

theorem slicesA (hd : Fin 4) (j : Fin 2) : S512x512.Slices ![64 * hd.val, 256 * j.val] S64x256 := by revert hd j; decide

theorem slicesB (hd : Fin 4) : S512x512.Slices ![256 + 64 * hd.val, 0] S64x512 := by revert hd; decide

theorem inbA (hd : Fin 4) (j : Fin 2) : ∀ a, (![0, hd.val, j.val, 0, 0] : Fin 5 → ℕ) a + (![1, 1, 1, 64, 256] : Fin 5 → ℕ) a ≤ S1x4x2x80x256.size a := by revert hd j; decide

theorem inbAt (hd : Fin 4) (j : Fin 2) : ∀ a, (![0, hd.val, j.val, 64, 0] : Fin 5 → ℕ) a + (![1, 1, 1, 16, 256] : Fin 5 → ℕ) a ≤ S1x4x2x80x256.size a := by revert hd j; decide

theorem inbB (hd : Fin 4) : ∀ a, (![0, hd.val, 0, 0, 0] : Fin 5 → ℕ) a + (![1, 1, 1, 64, 512] : Fin 5 → ℕ) a ≤ S1x4x1x80x512.size a := by revert hd; decide

theorem inbBt (hd : Fin 4) : ∀ a, (![0, hd.val, 0, 64, 0] : Fin 5 → ℕ) a + (![1, 1, 1, 16, 512] : Fin 5 → ℕ) a ≤ S1x4x1x80x512.size a := by revert hd; decide

/-- The two stores of one head and one half of the rows, in front of the earlier ones. -/
def slotA (vt : FVec F S512x512 .bf16) (hd : Fin 4) (j : Fin 2) (L : List (View.Piece (Elt F) S1x4x2x80x256 .bf16)) : List (View.Piece (Elt F) S1x4x2x80x256 .bf16) :=
  ⟨Rect.unit (s := S1x4x2x80x256) ![0, hd.val, j.val, 64, 0] ![1, 1, 1, 16, 256] (inbAt hd j), tailA⟩ ::
  ⟨Rect.unit (s := S1x4x2x80x256) ![0, hd.val, j.val, 0, 0] ![1, 1, 1, 64, 256] (inbA hd j), shapeCast S1x1x1x64x256 (extractStridedSlice S64x256 ![64 * hd.val, 256 * j.val] vt (slicesA hd j)) shapeCasts_S64x256_S1x1x1x64x256⟩ :: L

/-- The two stores of one full head, in front of the earlier ones. -/
def slotB (vt : FVec F S512x512 .bf16) (hd : Fin 4) (L : List (View.Piece (Elt F) S1x4x1x80x512 .bf16)) : List (View.Piece (Elt F) S1x4x1x80x512 .bf16) :=
  ⟨Rect.unit (s := S1x4x1x80x512) ![0, hd.val, 0, 64, 0] ![1, 1, 1, 16, 512] (inbBt hd), tailB⟩ ::
  ⟨Rect.unit (s := S1x4x1x80x512) ![0, hd.val, 0, 0, 0] ![1, 1, 1, 64, 512] (inbB hd), shapeCast S1x1x1x64x512 (extractStridedSlice S64x512 ![256 + 64 * hd.val, 0] vt (slicesB hd)) shapeCasts_S64x512_S1x1x1x64x512⟩ :: L

/-- The stores of the banded heads' values. -/
def vatL (vt : FVec F S512x512 .bf16) : List (View.Piece (Elt F) S1x4x2x80x256 .bf16) :=
  slotA vt 3 1 <| slotA vt 3 0 <| slotA vt 2 1 <| slotA vt 2 0 <| slotA vt 1 1 <| slotA vt 1 0 <| slotA vt 0 1 <| slotA vt 0 0 []

/-- The stores of the full heads' values. -/
def vbtL (vt : FVec F S512x512 .bf16) : List (View.Piece (Elt F) S1x4x1x80x512 .bf16) :=
  slotB vt 3 <| slotB vt 2 <| slotB vt 1 <| slotB vt 0 []

variable (m : (ℓ : Loc nD τ sig) → Buf (Elt F) ℓ) (c : Dev nD) (t : Fin cfg0.N)

/-- The normalized rows of a grid point. -/
def hS : FVec F S512x1024 .bf16 := k0_pay4 (iblk m c 0 t) (iblk m c 1 t)

/-- The values of a grid point, transposed. -/
def vtS : FVec F S512x512 .bf16 := k0_pay10 (hS m c t) (iblk m c 4 t)

/-- The queries and keys of a grid point before their normalization. -/
def zS : FVec F S512x1024 .f32 := k0_pay5 (iblk m c 0 t) (iblk m c 1 t) (iblk m c 2 t)

/-- The sums of squares over each head of a grid point. -/
def ssS : FVec F S512x1024 .f32 := k0_pay6 (iblk m c 0 t) (iblk m c 1 t) (iblk m c 2 t) (iblk m c 7 t)

set_option maxHeartbeats 4000000 in
/-- What a grid point leaves of the queries. -/
theorem qa_at : (outsAt0 m c t.val t.isLt).1 = k0_pay8 (zS m c t) (ssS m c t) (Scalar.ofBits .f32 0x3C800000#32) (iblk m c 3 t) := by
  by_cases h0 : t.val % 16 = 0
  · rw [outsAt0_A m c t h0]
    dsimp only
    unfold out0_A_9
    refine (View.read_writes_eq_canon _ _ _ (fun y => cover0_A_9 (y := y) ..)).trans ?_
    unfold kernelRun0_A
    dsimp only
    sl_unfold_words
    simp only [View.readAt_eq_ld, Memref.IsWhole.read_unread]
    simp (disch := decide) only [View.ld_unit_lit, View.canon_cons_unit_lit]
    rfl
  · rw [outsAt0_B m c t h0]
    dsimp only
    unfold out0_B_9
    refine (View.read_writes_eq_canon _ _ _ (fun y => cover0_B_9 (y := y) ..)).trans ?_
    unfold kernelRun0_B
    dsimp only
    sl_unfold_words
    simp only [View.readAt_eq_ld, Memref.IsWhole.read_unread]
    simp (disch := decide) only [View.ld_unit_lit, View.canon_cons_unit_lit]
    rfl

set_option maxHeartbeats 4000000 in
/-- What a grid point leaves of the keys. -/
theorem ka_at : (outsAt0 m c t.val t.isLt).2.1 = k0_pay9 (zS m c t) (ssS m c t) (Scalar.ofBits .f32 0x3C800000#32) (iblk m c 3 t) := by
  by_cases h0 : t.val % 16 = 0
  · rw [outsAt0_A m c t h0]
    dsimp only
    unfold out0_A_10
    refine (View.read_writes_eq_canon _ _ _ (fun y => cover0_A_10 (y := y) ..)).trans ?_
    unfold kernelRun0_A
    dsimp only
    sl_unfold_words
    simp only [View.readAt_eq_ld, Memref.IsWhole.read_unread]
    simp (disch := decide) only [View.ld_unit_lit, View.canon_cons_unit_lit]
    rfl
  · rw [outsAt0_B m c t h0]
    dsimp only
    unfold out0_B_10
    refine (View.read_writes_eq_canon _ _ _ (fun y => cover0_B_10 (y := y) ..)).trans ?_
    unfold kernelRun0_B
    dsimp only
    sl_unfold_words
    simp only [View.readAt_eq_ld, Memref.IsWhole.read_unread]
    simp (disch := decide) only [View.ld_unit_lit, View.canon_cons_unit_lit]
    rfl

set_option maxHeartbeats 4000000 in
/-- What a grid point leaves of the banded heads' values. -/
theorem vat_at : (outsAt0 m c t.val t.isLt).2.2.1 = View.canon (vatL (vtS m c t)) := by
  by_cases h0 : t.val % 16 = 0
  · rw [outsAt0_A m c t h0]
    dsimp only
    unfold out0_A_11
    refine (View.read_writes_eq_canon _ _ _ (fun y => cover0_A_11 (y := y) ..)).trans ?_
    unfold kernelRun0_A
    dsimp only
    sl_unfold_words
    simp only [View.readAt_eq_ld, Memref.IsWhole.read_unread]
    simp (disch := decide) only [View.ld_unit_lit, View.canon_cons_unit_lit]
    rfl
  · rw [outsAt0_B m c t h0]
    dsimp only
    unfold out0_B_11
    refine (View.read_writes_eq_canon _ _ _ (fun y => cover0_B_11 (y := y) ..)).trans ?_
    unfold kernelRun0_B
    dsimp only
    sl_unfold_words
    simp only [View.readAt_eq_ld, Memref.IsWhole.read_unread]
    simp (disch := decide) only [View.ld_unit_lit, View.canon_cons_unit_lit]
    rfl

set_option maxHeartbeats 4000000 in
/-- What a grid point leaves of the full heads' values. -/
theorem vbt_at : (outsAt0 m c t.val t.isLt).2.2.2.2.2.1 = View.canon (vbtL (vtS m c t)) := by
  by_cases h0 : t.val % 16 = 0
  · rw [outsAt0_A m c t h0]
    dsimp only
    unfold out0_A_14
    refine (View.read_writes_eq_canon _ _ _ (fun y => cover0_A_14 (y := y) ..)).trans ?_
    unfold kernelRun0_A
    dsimp only
    sl_unfold_words
    simp only [View.readAt_eq_ld, Memref.IsWhole.read_unread]
    simp (disch := decide) only [View.ld_unit_lit, View.canon_cons_unit_lit]
    rfl
  · rw [outsAt0_B m c t h0]
    dsimp only
    unfold out0_B_14
    refine (View.read_writes_eq_canon _ _ _ (fun y => cover0_B_14 (y := y) ..)).trans ?_
    unfold kernelRun0_B
    dsimp only
    sl_unfold_words
    simp only [View.readAt_eq_ld, Memref.IsWhole.read_unread]
    simp (disch := decide) only [View.ld_unit_lit, View.canon_cons_unit_lit]
    rfl

set_option maxHeartbeats 4000000 in
/-- What a grid point leaves of the recurrent heads' columns. -/
theorem pc_at : (outsAt0 m c t.val t.isLt).2.2.2.2.2.2.1 = k0_pay41 (hS m c t) (iblk m c 6 t) := by
  by_cases h0 : t.val % 16 = 0
  · rw [outsAt0_A m c t h0]
    dsimp only
    unfold out0_A_15
    refine (View.read_writes_eq_canon _ _ _ (fun y => cover0_A_15 (y := y) ..)).trans ?_
    unfold kernelRun0_A
    dsimp only
    sl_unfold_words
    simp only [View.readAt_eq_ld, Memref.IsWhole.read_unread]
    simp (disch := decide) only [View.ld_unit_lit, View.canon_cons_unit_lit]
    rfl
  · rw [outsAt0_B m c t h0]
    dsimp only
    unfold out0_B_15
    refine (View.read_writes_eq_canon _ _ _ (fun y => cover0_B_15 (y := y) ..)).trans ?_
    unfold kernelRun0_B
    dsimp only
    sl_unfold_words
    simp only [View.readAt_eq_ld, Memref.IsWhole.read_unread]
    simp (disch := decide) only [View.ld_unit_lit, View.canon_cons_unit_lit]
    rfl

end Cert.Proof.InProj

end
-- ==== Proof.InProjPoint.lean ====
/- The stages of the input-projection kernel read at an index, over the extended reals. -/
module

public import proofs.«01_k».proof.Proof.InProjStage
public import Idealize.ShloMosaic.Lib.Pointwise

@[expose] public section

set_option maxRecDepth 16384

noncomputable section

namespace Cert.Proof.InProj
open Cert.Kernel3Ideal Cert.Kernel3Ideal.Gen
open Idealize.ShloMosaic Idealize.ShloMosaic.TcCoe Idealize.ShloMosaic.Tactic
open Idealize.SL Idealize.SL.Sem
open Idealize.ShloMosaic.Pipeline (Dat)

/-- The normalized rows, at an index. -/
theorem pay4_apply (x0 : Vec Ideal S512x1024 .f32) (x1 : Vec Ideal S1x1x1024 .f32) (p : Fin 512) (q : Fin 1024) :
    k0_pay4 (F := Ideal) x0 x1 (ix2 p q) = x0 (ix2 p q) * Ideal.rsqrt (Ideal.div (∑ k : Fin 1024, x0 (ix2 p k) * x0 (ix2 p k)) (Ideal.ofBits .f32 0x44800000#32) + Ideal.ofBits .f32 0x358637BD#32) * x1 (ix3 0 0 q) := by
  pointwise [k0_pay4]

/-- The queries and keys before their normalization, at an index. -/
theorem pay5_apply (x0 : Vec Ideal S512x1024 .f32) (x1 : Vec Ideal S1x1x1024 .f32) (x2 : Vec Ideal S1x1024x1024 .bf16) (p : Fin 512) (q : Fin 1024) :
    k0_pay5 (F := Ideal) x0 x1 x2 (ix2 p q) = ∑ k : Fin 1024, k0_pay4 (F := Ideal) x0 x1 (ix2 p k) * x2 (ix3 0 k q) := by
  unfold k0_pay5
  generalize k0_pay4 x0 x1 = h
  pointwise []

/-- The weighted sums of squares over the first 256 columns, at an index. -/
theorem pay6_apply0 (x0 : Vec Ideal S512x1024 .f32) (x1 : Vec Ideal S1x1x1024 .f32) (x2 : Vec Ideal S1x1024x1024 .bf16) (x7 : Vec Ideal S256x256 .bf16) (p : Fin 512) (q : Fin 256) :
    k0_pay6 (F := Ideal) x0 x1 x2 x7 (ix2 p ⟨q.val, by omega⟩) = ∑ k : Fin 256, k0_pay5 (F := Ideal) x0 x1 x2 (ix2 p ⟨k.val, by omega⟩) * k0_pay5 (F := Ideal) x0 x1 x2 (ix2 p ⟨k.val, by omega⟩) * x7 (ix2 k q) := by
  unfold k0_pay6
  generalize k0_pay5 x0 x1 x2 = z
  pointwise []

/-- The weighted sums of squares over the next 256 columns, at an index. -/
theorem pay6_apply1 (x0 : Vec Ideal S512x1024 .f32) (x1 : Vec Ideal S1x1x1024 .f32) (x2 : Vec Ideal S1x1024x1024 .bf16) (x7 : Vec Ideal S256x256 .bf16) (p : Fin 512) (q : Fin 256) :
    k0_pay6 (F := Ideal) x0 x1 x2 x7 (ix2 p ⟨256 + q.val, by omega⟩) = ∑ k : Fin 256, k0_pay5 (F := Ideal) x0 x1 x2 (ix2 p ⟨256 + k.val, by omega⟩) * k0_pay5 (F := Ideal) x0 x1 x2 (ix2 p ⟨256 + k.val, by omega⟩) * x7 (ix2 k q) := by
  unfold k0_pay6
  generalize k0_pay5 x0 x1 x2 = z
  pointwise []

/-- The queries, at an index. -/
theorem pay8_apply (z ss : FVec Ideal S512x1024 .f32) (w : EReal) (g : Vec Ideal S1x1x1024 .f32) (p : Fin 512) (q : Fin 256) :
    k0_pay8 (F := Ideal) z ss w g (ix2 p q) = z (ix2 p ⟨q.val, by omega⟩) * Ideal.rsqrt (ss (ix2 p ⟨q.val, by omega⟩) * w + Ideal.ofBits .f32 0x358637BD#32) * g (ix3 0 0 ⟨q.val, by omega⟩) := by
  pointwise [k0_pay8, k0_pay7]

/-- The keys, at an index. -/
theorem pay9_apply (z ss : FVec Ideal S512x1024 .f32) (w : EReal) (g : Vec Ideal S1x1x1024 .f32) (p : Fin 512) (q : Fin 256) :
    k0_pay9 (F := Ideal) z ss w g (ix2 p q) = z (ix2 p ⟨256 + q.val, by omega⟩) * Ideal.rsqrt (ss (ix2 p ⟨256 + q.val, by omega⟩) * w + Ideal.ofBits .f32 0x358637BD#32) * g (ix3 0 0 ⟨256 + q.val, by omega⟩) := by
  pointwise [k0_pay9, k0_pay7]

/-- The transposed values, at an index. -/
theorem pay10_apply (h : FVec Ideal S512x1024 .bf16) (w : Vec Ideal S1x512x1024 .bf16) (p q : Fin 512) :
    k0_pay10 (F := Ideal) h w (ix2 p q) = ∑ k : Fin 1024, w (ix3 0 p k) * h (ix2 q k) := by
  pointwise [k0_pay10]

/-- The recurrent heads' columns, at an index. -/
theorem pay41_apply (h : FVec Ideal S512x1024 .bf16) (w : Vec Ideal S1x1024x2048 .bf16) (p : Fin 512) (q : Fin 1920) :
    k0_pay41 (F := Ideal) h w (ix2 p q) = ∑ k : Fin 1024, h (ix2 p k) * w (ix3 0 k ⟨q.val, by omega⟩) := by
  pointwise [k0_pay41, k0_pay40]

/-- The first of sixteen rows compared as a word is compared as a number. -/
theorem row_zero (r : Fin 16) : Scalar.select (IntOp.cmpi .eq (BitVec.ofNat 32 r.val) 0#32) (1 : EReal) 0 = if r.val = 0 then 1 else 0 := by
  have e : IntOp.cmpi .eq (BitVec.ofNat 32 r.val) 0#32 = if r.val = 0 then 1#1 else 0#1 := by revert r; decide
  rw [e]
  split <;> rfl

/-- The rows below a value tile, at an index. -/
theorem tailA_apply (r : Fin 16) (q : Fin 256) : tailA (F := Ideal) (ix5 0 0 0 r q) = if r.val = 0 then 1 else 0 := by
  unfold tailA
  pointwise [k0_pay15]
  exact row_zero r

/-- The rows below a wide value tile, at an index. -/
theorem tailB_apply (r : Fin 16) (q : Fin 512) : tailB (F := Ideal) (ix5 0 0 0 r q) = if r.val = 0 then 1 else 0 := by
  unfold tailB
  pointwise [k0_pay31]
  exact row_zero r

/-- What the two stores of one tile leave at an index: the value rows, the row of ones and the rows of zeros, if the index is in the tile. -/
theorem canon_slot {J W : ℕ} (hd : Fin 4) (j : Fin J) (inb1 : ∀ a, (![0, hd.val, j.val, 64, 0] : Fin 5 → ℕ) a + (![1, 1, 1, 16, W] : Fin 5 → ℕ) a ≤ (⟨5, ![1, 4, J, 80, W]⟩ : Shape).size a)
    (inb2 : ∀ a, (![0, hd.val, j.val, 0, 0] : Fin 5 → ℕ) a + (![1, 1, 1, 64, W] : Fin 5 → ℕ) a ≤ (⟨5, ![1, 4, J, 80, W]⟩ : Shape).size a)
    (tl : Vec Ideal ⟨5, ![1, 1, 1, 16, W]⟩ .bf16) (w : Vec Ideal ⟨5, ![1, 1, 1, 64, W]⟩ .bf16) (L : List (View.Piece (Elt Ideal) ⟨5, ![1, 4, J, 80, W]⟩ .bf16))
    (a : Fin 4) (b : Fin J) (r : Fin 80) (q : Fin W) (v : EReal)
    (ht : ∀ h : 64 ≤ r.val, a = hd → b = j → tl (ix5 0 0 0 ⟨r.val - 64, by omega⟩ q) = v)
    (hw : ∀ h : r.val < 64, a = hd → b = j → w (ix5 0 0 0 ⟨r.val, h⟩ q) = v)
    (hL : ¬(a = hd ∧ b = j) → View.canon L (ix5 0 a b r q) = v) :
    View.canon ((⟨Rect.unit (s := ⟨5, ![1, 4, J, 80, W]⟩) ![0, hd.val, j.val, 64, 0] ![1, 1, 1, 16, W] inb1, tl⟩ : View.Piece (Elt Ideal) ⟨5, ![1, 4, J, 80, W]⟩ .bf16) ::
      (⟨Rect.unit (s := ⟨5, ![1, 4, J, 80, W]⟩) ![0, hd.val, j.val, 0, 0] ![1, 1, 1, 64, W] inb2, w⟩ : View.Piece (Elt Ideal) ⟨5, ![1, 4, J, 80, W]⟩ .bf16) :: L) (ix5 0 a b r q) = v := by
  by_cases hab : a = hd ∧ b = j
  · obtain ⟨rfl, rfl⟩ := hab
    by_cases hr : 64 ≤ r.val
    · have e' : ix5 0 a b r q = (Rect.unit (s := ⟨5, ![1, 4, J, 80, W]⟩) ![0, a.val, b.val, 64, 0] ![1, 1, 1, 16, W] inb1).emb (ix5 0 0 0 ⟨r.val - 64, by omega⟩ q) := by
        funext x
        apply Fin.ext
        match x with
        | ⟨0, _⟩ => rfl
        | ⟨1, _⟩ => exact (show a.val = a.val + 1 * 0 by omega)
        | ⟨2, _⟩ => exact (show b.val = b.val + 1 * 0 by omega)
        | ⟨3, _⟩ => exact (show r.val = 64 + 1 * (r.val - 64) by omega)
        | ⟨4, _⟩ => exact (show q.val = 0 + 1 * q.val by omega)
      rw [e', View.canon_cons_emb]
      exact ht hr rfl rfl
    · have hn : ix5 0 a b r q ∉ (Rect.unit (s := ⟨5, ![1, 4, J, 80, W]⟩) ![0, a.val, b.val, 64, 0] ![1, 1, 1, 16, W] inb1).set := by
        rw [Rect.mem_set_unit]
        intro hm
        have h1 : 64 ≤ r.val := (hm (3 : Fin 5)).1
        omega
      have e' : ix5 0 a b r q = (Rect.unit (s := ⟨5, ![1, 4, J, 80, W]⟩) ![0, a.val, b.val, 0, 0] ![1, 1, 1, 64, W] inb2).emb (ix5 0 0 0 ⟨r.val, by omega⟩ q) := by
        funext x
        apply Fin.ext
        match x with
        | ⟨0, _⟩ => rfl
        | ⟨1, _⟩ => exact (show a.val = a.val + 1 * 0 by omega)
        | ⟨2, _⟩ => exact (show b.val = b.val + 1 * 0 by omega)
        | ⟨3, _⟩ => exact (show r.val = 0 + 1 * r.val by omega)
        | ⟨4, _⟩ => exact (show q.val = 0 + 1 * q.val by omega)
      refine (View.canon_cons_of_not_mem _ _ ?_).trans ?_
      · exact hn
      rw [e', View.canon_cons_emb]
      exact hw (by omega) rfl rfl
  · have hn1 : ix5 0 a b r q ∉ (Rect.unit (s := ⟨5, ![1, 4, J, 80, W]⟩) ![0, hd.val, j.val, 64, 0] ![1, 1, 1, 16, W] inb1).set := by
      rw [Rect.mem_set_unit]
      intro hm
      have h1 : hd.val ≤ a.val ∧ a.val < hd.val + 1 := hm (1 : Fin 5)
      have h2 : j.val ≤ b.val ∧ b.val < j.val + 1 := hm (2 : Fin 5)
      exact hab ⟨Fin.ext (by omega), Fin.ext (by omega)⟩
    have hn2 : ix5 0 a b r q ∉ (Rect.unit (s := ⟨5, ![1, 4, J, 80, W]⟩) ![0, hd.val, j.val, 0, 0] ![1, 1, 1, 64, W] inb2).set := by
      rw [Rect.mem_set_unit]
      intro hm
      have h1 : hd.val ≤ a.val ∧ a.val < hd.val + 1 := hm (1 : Fin 5)
      have h2 : j.val ≤ b.val ∧ b.val < j.val + 1 := hm (2 : Fin 5)
      exact hab ⟨Fin.ext (by omega), Fin.ext (by omega)⟩
    refine (View.canon_cons_of_not_mem _ _ ?_).trans ((View.canon_cons_of_not_mem _ _ ?_).trans (hL hab))
    · exact hn1
    · exact hn2

/-- The value tile of a banded head, at an index. -/
theorem valA_apply (vt : FVec Ideal S512x512 .bf16) (hd : Fin 4) (j : Fin 2) (r : Fin 64) (q : Fin 256) :
    shapeCast S1x1x1x64x256 (extractStridedSlice S64x256 ![64 * hd.val, 256 * j.val] vt (slicesA hd j)) shapeCasts_S64x256_S1x1x1x64x256 (ix5 0 0 0 r q) = vt (ix2 ⟨64 * hd.val + r.val, by omega⟩ ⟨256 * j.val + q.val, by omega⟩) := by
  pointwise []

/-- The value tile of a full head, at an index. -/
theorem valB_apply (vt : FVec Ideal S512x512 .bf16) (hd : Fin 4) (r : Fin 64) (q : Fin 512) :
    shapeCast S1x1x1x64x512 (extractStridedSlice S64x512 ![256 + 64 * hd.val, 0] vt (slicesB hd)) shapeCasts_S64x512_S1x1x1x64x512 (ix5 0 0 0 r q) = vt (ix2 ⟨256 + 64 * hd.val + r.val, by omega⟩ q) := by
  pointwise []

/-- A banded head's tile with its row of ones and its rows of zeros. -/
def tileA (vt : FVec Ideal S512x512 .bf16) (a : Fin 4) (b : Fin 2) (r : Fin 80) (q : Fin 256) : EReal :=
  if h : r.val < 64 then vt (ix2 ⟨64 * a.val + r.val, by omega⟩ ⟨256 * b.val + q.val, by omega⟩) else if r.val = 64 then 1 else 0

/-- A full head's tile with its row of ones and its rows of zeros. -/
def tileB (vt : FVec Ideal S512x512 .bf16) (a : Fin 4) (r : Fin 80) (q : Fin 512) : EReal :=
  if h : r.val < 64 then vt (ix2 ⟨256 + 64 * a.val + r.val, by omega⟩ q) else if r.val = 64 then 1 else 0

/-- What one banded head's stores leave at an index. -/
theorem slotA_apply (vt : FVec Ideal S512x512 .bf16) (hd : Fin 4) (j : Fin 2) (L : List (View.Piece (Elt Ideal) S1x4x2x80x256 .bf16)) (a : Fin 4) (b : Fin 2) (r : Fin 80) (q : Fin 256)
    (hL : ¬(a = hd ∧ b = j) → View.canon L (ix5 0 a b r q) = tileA vt a b r q) :
    View.canon (slotA (F := Ideal) vt hd j L) (ix5 0 a b r q) = tileA vt a b r q := by
  refine canon_slot hd j _ _ _ _ L a b r q _ (fun h ea eb => ?_) (fun h ea eb => ?_) hL
  · rw [tailA_apply]
    unfold tileA
    rw [dif_neg (by omega)]
    exact if_congr (by simp only; omega) rfl rfl
  · subst ea eb
    rw [valA_apply]
    unfold tileA
    rw [dif_pos h]

/-- What one full head's stores leave at an index. -/
theorem slotB_apply (vt : FVec Ideal S512x512 .bf16) (hd : Fin 4) (L : List (View.Piece (Elt Ideal) S1x4x1x80x512 .bf16)) (a : Fin 4) (r : Fin 80) (q : Fin 512)
    (hL : a ≠ hd → View.canon L (ix5 0 a 0 r q) = tileB vt a r q) :
    View.canon (slotB (F := Ideal) vt hd L) (ix5 0 a 0 r q) = tileB vt a r q := by
  refine canon_slot (J := 1) hd 0 _ _ _ _ L a 0 r q _ (fun h ea eb => ?_) (fun h ea eb => ?_) (fun n => hL fun e => n ⟨e, rfl⟩)
  · rw [tailB_apply]
    unfold tileB
    rw [dif_neg (by omega)]
    exact if_congr (by simp only; omega) rfl rfl
  · subst ea
    rw [valB_apply]
    unfold tileB
    rw [dif_pos h]

/-- The banded heads' values, at an index. -/
theorem vatL_apply (vt : FVec Ideal S512x512 .bf16) (a : Fin 4) (b : Fin 2) (r : Fin 80) (q : Fin 256) :
    View.canon (vatL (F := Ideal) vt) (ix5 0 a b r q) = tileA vt a b r q := by
  unfold vatL
  refine slotA_apply vt _ _ _ a b r q fun n0 => ?_
  refine slotA_apply vt _ _ _ a b r q fun n1 => ?_
  refine slotA_apply vt _ _ _ a b r q fun n2 => ?_
  refine slotA_apply vt _ _ _ a b r q fun n3 => ?_
  refine slotA_apply vt _ _ _ a b r q fun n4 => ?_
  refine slotA_apply vt _ _ _ a b r q fun n5 => ?_
  refine slotA_apply vt _ _ _ a b r q fun n6 => ?_
  refine slotA_apply vt _ _ _ a b r q fun n7 => ?_
  exfalso; omega

/-- The full heads' values, at an index. -/
theorem vbtL_apply (vt : FVec Ideal S512x512 .bf16) (a : Fin 4) (r : Fin 80) (q : Fin 512) :
    View.canon (vbtL (F := Ideal) vt) (ix5 0 a 0 r q) = tileB vt a r q := by
  unfold vbtL
  refine slotB_apply vt _ _ a r q fun n0 => ?_
  refine slotB_apply vt _ _ a r q fun n1 => ?_
  refine slotB_apply vt _ _ a r q fun n2 => ?_
  refine slotB_apply vt _ _ a r q fun n3 => ?_
  exfalso; omega

end Cert.Proof.InProj

end
-- ==== Proof.InProjHost.lean ====
/- The buffers the input-projection kernel is started on, read off the arguments. -/
module

public import proofs.«01_k».proof.Proof.InProjPoint
public import Idealize.ShloMosaic.Lib.Claim
public import Idealize.ShloMosaic.Lib.Pipeline.ValueKit

@[expose] public section

set_option maxRecDepth 16384

noncomputable section

namespace Cert.Proof.InProj
open Cert.Kernel3Ideal Cert.Kernel3Ideal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD) (t : Fin cfg0.N)

/-- The sequence a grid point works on. -/
def bOf : Fin 8 := ⟨t.val / 16, by have := lt_of_lt_of_eq t.isLt (show cfg0.N = 128 from N_0); omega⟩

/-- The position in the sequence of a row of a grid point's tile. -/
def tOf (p : Fin 512) : Fin 8192 := ⟨512 * (t.val % 16) + p.val, by omega⟩

/-- The layer inputs. -/
abbrev aX : FVec Ideal S8x8192x1024 .f32 := m ((c : Thread nD τ).loc main_arg0)
/-- The gain of the normalization. -/
abbrev aG : FVec Ideal S4x1024 .f32 := m ((c : Thread nD τ).loc main_arg1)
/-- The projection weights. -/
abbrev aW : FVec Ideal S4x1024x3332 .f32 := m ((c : Thread nD τ).loc main_arg2)
/-- The gain of the queries. -/
abbrev aQ : FVec Ideal S4x64 .f32 := m ((c : Thread nD τ).loc main_arg3)
/-- The gain of the keys. -/
abbrev aK : FVec Ideal S4x64 .f32 := m ((c : Thread nD τ).loc main_arg4)

/-- The quotient by 64 of a position, computed on words the way a division rounding down is computed from one rounding to zero. -/
theorem floor_word (k : Fin 256) :
    Scalar.select
      (IntOp.andi
        (IntOp.cmpi CmpIPredicate.ne
          (if BitVec.ofNat 32 k.val = 0 then (0 : BitVec 32) else if (BitVec.ofNat 32 k.val).msb = true then -1 else 1)
          (if 64#32 = 0 then (0 : BitVec 32) else if (64#32).msb = true then -1 else 1))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = BitVec.ofNat 32 (k.val / 64) := by
  revert k
  decide +kernel

/-- Two quotients compared as words are compared as numbers. -/
theorem same_word (a b : Fin 4) : FloatOps.uitofp (F := Ideal) .f32 (IntOp.cmpi .eq (BitVec.ofNat 32 a.val) (BitVec.ofNat 32 b.val)) = if a.val = b.val then (1 : EReal) else 0 := by
  have e : IntOp.cmpi .eq (BitVec.ofNat 32 a.val) (BitVec.ofNat 32 b.val) = if a.val = b.val then 1#1 else 0#1 := by revert a b; decide
  rw [e]
  split
  · exact (by simp : (((1#1 : BitVec 1).toNat : ℝ) : EReal) = 1)
  · exact (by simp : (((0#1 : BitVec 1).toNat : ℝ) : EReal) = 0)

set_option maxHeartbeats 4000000 in
theorem hv73 (r : Fin 65536) (q : Fin 1024) : (V m c main_v73 : FVec Ideal S65536x1024 .f32) (ix2 r q) = aX m c (ix3 ⟨r.val / 8192, by omega⟩ ⟨r.val % 8192, by omega⟩ q) := by
  unfold V
  simp only [List.flatten_cons, List.flatten_nil, List.cons_append, List.nil_append, StableHlo.after_cons, StableHlo.after_nil]
  after_results_simp
  pointwise []

set_option maxHeartbeats 4000000 in
theorem hv26 (q : Fin 1024) : (V m c main_v26 : FVec Ideal S4x1x1024 .f32) (ix3 3 0 q) = aG m c (ix2 3 q) := by
  unfold V
  simp only [List.flatten_cons, List.flatten_nil, List.cons_append, List.nil_append, StableHlo.after_cons, StableHlo.after_nil]
  after_results_simp
  pointwise []

set_option maxHeartbeats 4000000 in
theorem hv28q (k : Fin 1024) (q : Fin 256) : (V m c main_v28 : FVec Ideal S4x1024x1024 .bf16) (ix3 3 k ⟨q.val, by omega⟩) = aW m c (ix3 3 k ⟨q.val, by omega⟩) := by
  unfold V
  simp only [List.flatten_cons, List.flatten_nil, List.cons_append, List.nil_append, StableHlo.after_cons, StableHlo.after_nil]
  after_results_simp
  pointwise []
  after_results_simp
  pointwise []

set_option maxHeartbeats 4000000 in
theorem hv28k (k : Fin 1024) (q : Fin 256) : (V m c main_v28 : FVec Ideal S4x1024x1024 .bf16) (ix3 3 k ⟨256 + q.val, by omega⟩) = aW m c (ix3 3 k ⟨256 + q.val, by omega⟩) := by
  unfold V
  simp only [List.flatten_cons, List.flatten_nil, List.cons_append, List.nil_append, StableHlo.after_cons, StableHlo.after_nil]
  after_results_simp
  pointwise []
  after_results_simp
  pointwise []

set_option maxHeartbeats 4000000 in
theorem hv50q (q : Fin 256) : (V m c main_v50 : FVec Ideal S4x1x1024 .f32) (ix3 3 0 ⟨q.val, by omega⟩) = aQ m c (ix2 3 ⟨q.val % 64, by omega⟩) * Ideal.ofBits .f32 0x3E38AA3B#32 := by
  unfold V
  simp only [List.flatten_cons, List.flatten_nil, List.cons_append, List.nil_append, StableHlo.after_cons, StableHlo.after_nil]
  after_results_simp
  pointwise []
  after_results_simp
  pointwise []

set_option maxHeartbeats 4000000 in
theorem hv50k (q : Fin 256) : (V m c main_v50 : FVec Ideal S4x1x1024 .f32) (ix3 3 0 ⟨256 + q.val, by omega⟩) = aK m c (ix2 3 ⟨q.val % 64, by omega⟩) := by
  unfold V
  simp only [List.flatten_cons, List.flatten_nil, List.cons_append, List.nil_append, StableHlo.after_cons, StableHlo.after_nil]
  after_results_simp
  pointwise []
  after_results_simp
  pointwise []

set_option maxHeartbeats 4000000 in
theorem hv53a (p : Fin 256) (k : Fin 1024) : (V m c main_v53 : FVec Ideal S4x512x1024 .bf16) (ix3 3 ⟨p.val, by omega⟩ k) = aW m c (ix3 3 k ⟨512 + p.val, by omega⟩) := by
  unfold V
  simp only [List.flatten_cons, List.flatten_nil, List.cons_append, List.nil_append, StableHlo.after_cons, StableHlo.after_nil]
  after_results_simp
  pointwise []
  after_results_simp
  pointwise []

set_option maxHeartbeats 4000000 in
theorem hv53b (p : Fin 256) (k : Fin 1024) : (V m c main_v53 : FVec Ideal S4x512x1024 .bf16) (ix3 3 ⟨256 + p.val, by omega⟩ k) = aW m c (ix3 3 k ⟨1280 + p.val, by omega⟩) := by
  unfold V
  simp only [List.flatten_cons, List.flatten_nil, List.cons_append, List.nil_append, StableHlo.after_cons, StableHlo.after_nil]
  after_results_simp
  pointwise []
  after_results_simp
  pointwise []

set_option maxHeartbeats 4000000 in
theorem hv72 (k : Fin 1024) (q : Fin 1920) : (V m c main_v72 : FVec Ideal S4x1024x2048 .bf16) (ix3 3 k ⟨q.val, by omega⟩) =
    if h1 : q.val < 1600 then aW m c (ix3 3 k ⟨1540 + q.val, by omega⟩)
      else if h2 : 1664 ≤ q.val ∧ q.val < 1728 then aW m c (ix3 3 k ⟨1540 + 1600 + (q.val - 1664), by omega⟩)
      else if h3 : 1792 ≤ q.val then aW m c (ix3 3 k ⟨1540 + 1664 + (q.val - 1792), by omega⟩)
      else (0 : EReal) := by
  unfold V
  simp only [List.flatten_cons, List.flatten_nil, List.cons_append, List.nil_append, StableHlo.after_cons, StableHlo.after_nil]
  after_results_simp
  iterate 4
    try pointwise []
    try after_results_simp
    try simp only [StableHlo.TRef.ofBuf, StableHlo.TRef.toBuf, cast_eq, id_eq]
    have z : FloatOps.sitofp (F := Ideal) .f32 (0#32 : BitVec 32) = (0 : EReal) := (by simp : (((0#32 : BitVec 32).toInt : ℝ) : EReal) = 0)
  have key : ∀ x y : Fin 3332, x.val = y.val → aW m c (ix3 3 k x) = aW m c (ix3 3 k y) := fun x y e => by rw [Fin.ext e]
  repeat' split
  all_goals first
    | rfl
    | exact z
    | omega
    | (refine key _ _ ?_; show (_ : ℕ) + _ = _ + _; omega)

set_option maxHeartbeats 4000000 in
theorem hv9 (k q : Fin 256) : (V m c main_v9 : FVec Ideal S256x256 .bf16) (ix2 k q) = if k.val / 64 = q.val / 64 then (1 : EReal) else 0 := by
  unfold V
  simp only [List.flatten_cons, List.flatten_nil, List.cons_append, List.nil_append, StableHlo.after_cons, StableHlo.after_nil]
  after_results_simp
  simp only [StableHlo.TRef.ofBuf_toBuf]
  simp only [StableHlo.TRef.ofBuf, StableHlo.TRef.toBuf, cast_eq, id_eq]
  pointwise []
  refine (congrArg₂ (fun x y => FloatOps.uitofp (F := Ideal) .f32 (IntOp.cmpi .eq x y)) (floor_word k) (floor_word q)).trans ?_
  exact same_word ⟨k.val / 64, by omega⟩ ⟨q.val / 64, by omega⟩

end Cert.Proof.InProj

end
-- ==== Proof.InProjBlocks.lean ====
/- The input blocks of a grid point of the input-projection kernel, read off the arguments. -/
module

public import proofs.«01_k».proof.Proof.InProjHost
public import Idealize.ShloMosaic.Lib.Claim
public import Idealize.ShloMosaic.Lib.Pipeline.ValueKit

@[expose] public section

set_option maxRecDepth 16384

noncomputable section

namespace Cert.Proof.InProj
open Cert.Kernel3Ideal Cert.Kernel3Ideal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD) (t : Fin cfg0.N)

theorem idx0 : ∀ t : Fin grid0.N, win0_0.index t (0 : Fin 2) = t.val ∧ win0_0.index t (1 : Fin 2) = 0 := by decide +kernel
theorem idx1 : ∀ t : Fin grid0.N, win0_1.index t (0 : Fin 3) = 3 ∧ win0_1.index t (1 : Fin 3) = 0 ∧ win0_1.index t (2 : Fin 3) = 0 := by decide +kernel
theorem idx2 : ∀ t : Fin grid0.N, win0_2.index t (0 : Fin 3) = 3 ∧ win0_2.index t (1 : Fin 3) = 0 ∧ win0_2.index t (2 : Fin 3) = 0 := by decide +kernel
theorem idx3 : ∀ t : Fin grid0.N, win0_3.index t (0 : Fin 3) = 3 ∧ win0_3.index t (1 : Fin 3) = 0 ∧ win0_3.index t (2 : Fin 3) = 0 := by decide +kernel
theorem idx4 : ∀ t : Fin grid0.N, win0_4.index t (0 : Fin 3) = 3 ∧ win0_4.index t (1 : Fin 3) = 0 ∧ win0_4.index t (2 : Fin 3) = 0 := by decide +kernel
theorem idx6 : ∀ t : Fin grid0.N, win0_6.index t (0 : Fin 3) = 3 ∧ win0_6.index t (1 : Fin 3) = 0 ∧ win0_6.index t (2 : Fin 3) = 0 := by decide +kernel
theorem idx7 : ∀ t : Fin grid0.N, win0_7.index t (0 : Fin 2) = 0 ∧ win0_7.index t (1 : Fin 2) = 0 := by decide +kernel

/-- A point's block of the rows. -/
theorem blk0 (p : Fin 512) (q : Fin 1024) : (iblk m c 0 t : Vec Ideal S512x1024 .f32) (ix2 p q) = aX m c (ix3 (bOf t) (tOf t p) q) := by
  have hN := lt_of_lt_of_eq t.isLt (show cfg0.N = 128 from N_0)
  have hp := p.isLt
  refine (show (iblk m c 0 t : Vec Ideal S512x1024 .f32) (ix2 p q) = V m c main_v73 (ix2 ⟨512 * t.val + p.val, by omega⟩ q) from by blk_ext! [iblk, idx0 t]).trans ((hv73 m c _ q).trans ?_)
  refine congrArg₂ (fun a b => aX m c (ix3 a b q)) (Fin.ext ?_) (Fin.ext ?_)
  · show (512 * t.val + p.val) / 8192 = t.val / 16; omega
  · show (512 * t.val + p.val) % 8192 = 512 * (t.val % 16) + p.val; omega

/-- A point's block of the normalization's gain. -/
theorem blk1 (q : Fin 1024) : (iblk m c 1 t : Vec Ideal S1x1x1024 .f32) (ix3 0 0 q) = aG m c (ix2 3 q) :=
  (show (iblk m c 1 t : Vec Ideal S1x1x1024 .f32) (ix3 0 0 q) = V m c main_v26 (ix3 3 0 q) from by blk_ext! [iblk, idx1 t]).trans (hv26 m c q)

/-- The query columns of the weights. -/
theorem blk2q (k : Fin 1024) (q : Fin 256) : (iblk m c 2 t : Vec Ideal S1x1024x1024 .bf16) (ix3 0 k ⟨q.val, by omega⟩) = aW m c (ix3 3 k ⟨q.val, by omega⟩) :=
  (show (iblk m c 2 t : Vec Ideal S1x1024x1024 .bf16) (ix3 0 k ⟨q.val, by omega⟩) = V m c main_v28 (ix3 3 k ⟨q.val, by omega⟩) from by blk_ext! [iblk, idx2 t]).trans (hv28q m c k q)

/-- The key columns of the weights. -/
theorem blk2k (k : Fin 1024) (q : Fin 256) : (iblk m c 2 t : Vec Ideal S1x1024x1024 .bf16) (ix3 0 k ⟨256 + q.val, by omega⟩) = aW m c (ix3 3 k ⟨256 + q.val, by omega⟩) :=
  (show (iblk m c 2 t : Vec Ideal S1x1024x1024 .bf16) (ix3 0 k ⟨256 + q.val, by omega⟩) = V m c main_v28 (ix3 3 k ⟨256 + q.val, by omega⟩) from by blk_ext! [iblk, idx2 t]).trans (hv28k m c k q)

/-- The gain of the queries, with the scale of the scores. -/
theorem blk3q (q : Fin 256) : (iblk m c 3 t : Vec Ideal S1x1x1024 .f32) (ix3 0 0 ⟨q.val, by omega⟩) = aQ m c (ix2 3 ⟨q.val % 64, by omega⟩) * Ideal.ofBits .f32 0x3E38AA3B#32 :=
  (show (iblk m c 3 t : Vec Ideal S1x1x1024 .f32) (ix3 0 0 ⟨q.val, by omega⟩) = V m c main_v50 (ix3 3 0 ⟨q.val, by omega⟩) from by blk_ext! [iblk, idx3 t]).trans (hv50q m c q)

/-- The gain of the keys. -/
theorem blk3k (q : Fin 256) : (iblk m c 3 t : Vec Ideal S1x1x1024 .f32) (ix3 0 0 ⟨256 + q.val, by omega⟩) = aK m c (ix2 3 ⟨q.val % 64, by omega⟩) :=
  (show (iblk m c 3 t : Vec Ideal S1x1x1024 .f32) (ix3 0 0 ⟨256 + q.val, by omega⟩) = V m c main_v50 (ix3 3 0 ⟨256 + q.val, by omega⟩) from by blk_ext! [iblk, idx3 t]).trans (hv50k m c q)

/-- The value columns of the banded heads' weights, turned over. -/
theorem blk4a (p : Fin 256) (k : Fin 1024) : (iblk m c 4 t : Vec Ideal S1x512x1024 .bf16) (ix3 0 ⟨p.val, by omega⟩ k) = aW m c (ix3 3 k ⟨512 + p.val, by omega⟩) :=
  (show (iblk m c 4 t : Vec Ideal S1x512x1024 .bf16) (ix3 0 ⟨p.val, by omega⟩ k) = V m c main_v53 (ix3 3 ⟨p.val, by omega⟩ k) from by blk_ext! [iblk, idx4 t]).trans (hv53a m c p k)

/-- The value columns of the full heads' weights, turned over. -/
theorem blk4b (p : Fin 256) (k : Fin 1024) : (iblk m c 4 t : Vec Ideal S1x512x1024 .bf16) (ix3 0 ⟨256 + p.val, by omega⟩ k) = aW m c (ix3 3 k ⟨1280 + p.val, by omega⟩) :=
  (show (iblk m c 4 t : Vec Ideal S1x512x1024 .bf16) (ix3 0 ⟨256 + p.val, by omega⟩ k) = V m c main_v53 (ix3 3 ⟨256 + p.val, by omega⟩ k) from by blk_ext! [iblk, idx4 t]).trans (hv53b m c p k)

/-- The recurrent heads' columns of the weights, with zero columns between. -/
theorem blk6 (k : Fin 1024) (q : Fin 1920) : (iblk m c 6 t : Vec Ideal S1x1024x2048 .bf16) (ix3 0 k ⟨q.val, by omega⟩) =
    if h1 : q.val < 1600 then aW m c (ix3 3 k ⟨1540 + q.val, by omega⟩)
      else if h2 : 1664 ≤ q.val ∧ q.val < 1728 then aW m c (ix3 3 k ⟨1540 + 1600 + (q.val - 1664), by omega⟩)
      else if h3 : 1792 ≤ q.val then aW m c (ix3 3 k ⟨1540 + 1664 + (q.val - 1792), by omega⟩) else 0 :=
  (show (iblk m c 6 t : Vec Ideal S1x1024x2048 .bf16) (ix3 0 k ⟨q.val, by omega⟩) = V m c main_v72 (ix3 3 k ⟨q.val, by omega⟩) from by blk_ext! [iblk, idx6 t]).trans (hv72 m c k q)

/-- The ones that sum each head's columns. -/
theorem blk7 (k q : Fin 256) : (iblk m c 7 t : Vec Ideal S256x256 .bf16) (ix2 k q) = if k.val / 64 = q.val / 64 then (1 : EReal) else 0 :=
  (show (iblk m c 7 t : Vec Ideal S256x256 .bf16) (ix2 k q) = V m c main_v9 (ix2 k q) from by blk_ext! [iblk, idx7 t]).trans (hv9 m c k q)

end Cert.Proof.InProj

end
-- ==== Proof.InProjRef.lean ====
/- The reference of the input-projection call in stages, read at an index over the extended reals. -/
module

public import proofs.«01_k».proof.Proof.Gen.Reference3Ideal.Run
public import Idealize.ShloMosaic.Lib.Tactic
public import Idealize.ShloMosaic.Lib.Pointwise

@[expose] public section

set_option maxRecDepth 16384

noncomputable section

namespace Cert.Proof.InProjRef
open Cert.Reference3Ideal Cert.Reference3Ideal.Gen Cert.Reference3Ideal.Value
open Idealize.ShloMosaic Idealize.ShloMosaic.TcCoe Idealize.ShloMosaic.Tactic
open Idealize.SL Idealize.SL.Sem

/-- The normalized rows. -/
def rH (X : FVec Ideal S8x8192x1024 .f32) (a1 : FVec Ideal S4x1024 .f32) : FVec Ideal S8x8192x1024 .f32 :=
  mulf (mulf X (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 (shapeCast S1024 (extractStridedSlice S1x1024 ![3, 0] a1 slices_S4x1024_S1x1024_3_0) shapeCasts_S1x1024_S1024)))

/-- The projection, every column. -/
def rP (H : FVec Ideal S8x8192x1024 .f32) (a2 : FVec Ideal S4x1024x3332 .f32) : FVec Ideal S8x8192x3332 .f32 :=
  Host.dotGeneral dot_S8x8192x1024_S1024x3332_S8x8192x3332_2_0_01_1_n_n none H (shapeCast S1024x3332 (extractStridedSlice S1x1024x3332 ![3, 0, 0] a2 slices_S4x1024x3332_S1x1024x3332_3_0_0) shapeCasts_S1x1024x3332_S1024x3332)

/-- Four heads of 64 columns, each normalized by itself and scaled by its gain. -/
def rN (V : FVec Ideal S8x8192x256 .f32) (a : FVec Ideal S4x64 .f32) : FVec Ideal S8x8192x4x64 .f32 :=
  mulf (mulf (shapeCast S8x8192x4x64 V shapeCasts_S8x8192x256_S8x8192x4x64) (broadcastInDim S8x8192x4x64 ![0, 1, 2, 3] bcast_S8x8192x4x1_S8x8192x4x64_0_1_2_3 (Host.rsqrt (addf (Host.divf (broadcastInDim S8x8192x4x1 ![0, 1, 2] bcast_S8x8192x4_S8x8192x4x1_0_1_2 (Host.reduceAdd (mulf (shapeCast S8x8192x4x64 V shapeCasts_S8x8192x256_S8x8192x4x64) (shapeCast S8x8192x4x64 V shapeCasts_S8x8192x256_S8x8192x4x64)) (constant S_ .f32 0x00000000#32) reducesTo_S8x8192x4x64_S8x8192x4_d3 h_S_)) (broadcastInDim S8x8192x4x1 ![] bcast_S_S8x8192x4x1 (constant S_ .f32 0x42800000#32))) (broadcastInDim S8x8192x4x1 ![] bcast_S_S8x8192x4x1 (constant S_ .f32 0x358637BD#32))))))
    (broadcastInDim S8x8192x4x64 ![0, 1, 2, 3] bcast_S1x1x1x64_S8x8192x4x64_0_1_2_3 (broadcastInDim S1x1x1x64 ![3] bcast_S64_S1x1x1x64_3 (shapeCast S64 (extractStridedSlice S1x64 ![3, 0] a slices_S4x64_S1x64_3_0) shapeCasts_S1x64_S64)))

/-- The queries of the banded heads. -/
def rQ (P : FVec Ideal S8x8192x3332 .f32) (a3 : FVec Ideal S4x64 .f32) : FVec Ideal S65536x256 .bf16 :=
  truncf .bf16 (shapeCast S65536x256 (mulf (rN (extractStridedSlice S8x8192x256 ![0, 0, 0] (extractStridedSlice S8x8192x768 ![0, 0, 0] P slices_S8x8192x3332_S8x8192x768_0_0_0) slices_S8x8192x768_S8x8192x256_0_0_0) a3)
    (broadcastInDim S8x8192x4x64 ![] bcast_S_S8x8192x4x64 (constant S_ .f32 0x3E38AA3B#32))) shapeCasts_S8x8192x4x64_S65536x256) bitsLt_bf16_f32

/-- The keys of the banded heads. -/
def rK (P : FVec Ideal S8x8192x3332 .f32) (a4 : FVec Ideal S4x64 .f32) : FVec Ideal S65536x256 .bf16 :=
  truncf .bf16 (shapeCast S65536x256 (rN (extractStridedSlice S8x8192x256 ![0, 0, 256] (extractStridedSlice S8x8192x768 ![0, 0, 0] P slices_S8x8192x3332_S8x8192x768_0_0_0) slices_S8x8192x768_S8x8192x256_0_0_256) a4) shapeCasts_S8x8192x4x64_S65536x256) bitsLt_bf16_f32

/-- The values of the banded heads in tiles, each with its row of ones and its rows of zeros. -/
def rVa (P : FVec Ideal S8x8192x3332 .f32) : FVec Ideal S8x4x32x80x256 .bf16 :=
  truncf .bf16 (concatenate S8x4x32x80x256 3 [⟨S8x4x32x64x256, transpose S8x4x32x64x256 [0, 3, 1, 4, 2] (shapeCast S8x32x256x4x64 (extractStridedSlice S8x8192x256 ![0, 0, 512] (extractStridedSlice S8x8192x768 ![0, 0, 0] P slices_S8x8192x3332_S8x8192x768_0_0_0) slices_S8x8192x768_S8x8192x256_0_0_512) shapeCasts_S8x8192x256_S8x32x256x4x64) transposes_S8x32x256x4x64_S8x4x32x64x256_0_3_1_4_2⟩,
      ⟨S8x4x32x1x256, broadcastInDim S8x4x32x1x256 ![] bcast_S_S8x4x32x1x256 (constant S_ .f32 0x3F800000#32)⟩,
      ⟨S8x4x32x15x256, broadcastInDim S8x4x32x15x256 ![] bcast_S_S8x4x32x15x256 (constant S_ .f32 0x00000000#32)⟩] concatenates_S8x4x32x64x256_S8x4x32x1x256_S8x4x32x15x256_S8x4x32x80x256_d3) bitsLt_bf16_f32

/-- The values of the full heads in tiles, each with its row of ones and its rows of zeros. -/
def rVb (P : FVec Ideal S8x8192x3332 .f32) : FVec Ideal S8x4x16x80x512 .bf16 :=
  truncf .bf16 (concatenate S8x4x16x80x512 3 [⟨S8x4x16x64x512, transpose S8x4x16x64x512 [0, 3, 1, 4, 2] (shapeCast S8x16x512x4x64 (extractStridedSlice S8x8192x256 ![0, 0, 512] (extractStridedSlice S8x8192x772 ![0, 0, 768] P slices_S8x8192x3332_S8x8192x772_0_0_768) slices_S8x8192x772_S8x8192x256_0_0_512) shapeCasts_S8x8192x256_S8x16x512x4x64) transposes_S8x16x512x4x64_S8x4x16x64x512_0_3_1_4_2⟩,
      ⟨S8x4x16x1x512, broadcastInDim S8x4x16x1x512 ![] bcast_S_S8x4x16x1x512 (constant S_ .f32 0x3F800000#32)⟩,
      ⟨S8x4x16x15x512, broadcastInDim S8x4x16x15x512 ![] bcast_S_S8x4x16x15x512 (constant S_ .f32 0x00000000#32)⟩] concatenates_S8x4x16x64x512_S8x4x16x1x512_S8x4x16x15x512_S8x4x16x80x512_d3) bitsLt_bf16_f32

/-- The columns of the recurrent heads, with two gaps of zeros. -/
def rC (P : FVec Ideal S8x8192x3332 .f32) : FVec Ideal S65536x1920 .f32 :=
  shapeCast S65536x1920 (concatenate S8x8192x1920 2 [⟨S8x8192x1600, extractStridedSlice S8x8192x1600 ![0, 0, 0] (extractStridedSlice S8x8192x1792 ![0, 0, 1540] P slices_S8x8192x3332_S8x8192x1792_0_0_1540) slices_S8x8192x1792_S8x8192x1600_0_0_0⟩,
      ⟨S8x8192x64, broadcastInDim S8x8192x64 ![] bcast_S_S8x8192x64 (constant S_ .f32 0x00000000#32)⟩,
      ⟨S8x8192x64, extractStridedSlice S8x8192x64 ![0, 0, 1600] (extractStridedSlice S8x8192x1792 ![0, 0, 1540] P slices_S8x8192x3332_S8x8192x1792_0_0_1540) slices_S8x8192x1792_S8x8192x64_0_0_1600⟩,
      ⟨S8x8192x64, broadcastInDim S8x8192x64 ![] bcast_S_S8x8192x64 (constant S_ .f32 0x00000000#32)⟩,
      ⟨S8x8192x128, extractStridedSlice S8x8192x128 ![0, 0, 1664] (extractStridedSlice S8x8192x1792 ![0, 0, 1540] P slices_S8x8192x3332_S8x8192x1792_0_0_1540) slices_S8x8192x1792_S8x8192x128_0_0_1664⟩] concatenates_S8x8192x1600_S8x8192x64_S8x8192x64_S8x8192x64_S8x8192x128_S8x8192x1920_d2) shapeCasts_S8x8192x1920_S65536x1920

/-- The projection of the arguments as the reference finds them. -/
def projOf (m : (ℓ : Loc nD τ sig) → Buf (Elt Ideal) ℓ) (c : Dev nD) : FVec Ideal S8x8192x3332 .f32 :=
  rP (rH (m ((c.tc : Thread nD τ).loc main_arg0)) (m ((c.tc : Thread nD τ).loc main_arg1))) (m ((c.tc : Thread nD τ).loc main_arg2))

/-- What the reference returns, in stages. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v65) = rQ (projOf m c) (m ((c.tc : Thread nD τ).loc main_arg3))
        ∧ r.2.mem ((c.tc : Thread nD τ).loc main_v67) = rK (projOf m c) (m ((c.tc : Thread nD τ).loc main_arg4))
        ∧ r.2.mem ((c.tc : Thread nD τ).loc main_v75) = rVa (projOf m c)
        ∧ r.2.mem ((c.tc : Thread nD τ).loc main_v83) = rVb (projOf m c)
        ∧ r.2.mem ((c.tc : Thread nD τ).loc main_v84) = rC (projOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run (F := Ideal) m ρ)
  obtain ⟨h0, h1, h2, h3, h4, hr⟩ := h c
  refine ⟨⟨h0.trans ?_, h1.trans ?_, h2.trans ?_, h3.trans ?_, h4.trans ?_⟩, hr⟩
  · unfold res_main_v65; rfl
  · unfold res_main_v67; rfl
  · rfl
  · rfl
  · unfold res_main_v84; rfl

/-- The normalized rows, at an index. -/
theorem rH_apply (X : FVec Ideal S8x8192x1024 .f32) (a1 : FVec Ideal S4x1024 .f32) (b : Fin 8) (t : Fin 8192) (q : Fin 1024) :
    rH X a1 (ix3 b t q) = X (ix3 b t q) * Ideal.rsqrt (Ideal.div (∑ k : Fin 1024, X (ix3 b t k) * X (ix3 b t k)) (Ideal.ofBits .f32 0x44800000#32) + Ideal.ofBits .f32 0x358637BD#32) * a1 (ix2 3 q) := by
  pointwise [rH]

/-- The projection, at an index. -/
theorem rP_apply (H : FVec Ideal S8x8192x1024 .f32) (a2 : FVec Ideal S4x1024x3332 .f32) (b : Fin 8) (t : Fin 8192) (q : Fin 3332) :
    rP H a2 (ix3 b t q) = ∑ k : Fin 1024, H (ix3 b t k) * a2 (ix3 3 k q) := by
  pointwise [rP]

/-- The normalized heads, at an index. -/
theorem rN_apply (V : FVec Ideal S8x8192x256 .f32) (a : FVec Ideal S4x64 .f32) (b : Fin 8) (t : Fin 8192) (h : Fin 4) (q : Fin 64) :
    rN V a (ix4 b t h q) = V (ix3 b t ⟨h.val * 64 + q.val, by omega⟩) * Ideal.rsqrt (Ideal.div (∑ k : Fin 64, V (ix3 b t ⟨h.val * 64 + k.val, by omega⟩) * V (ix3 b t ⟨h.val * 64 + k.val, by omega⟩)) (Ideal.ofBits .f32 0x42800000#32) + Ideal.ofBits .f32 0x358637BD#32) * a (ix2 3 q) := by
  pointwise [rN]

/-- The queries, at an index. -/
theorem rQ_apply (P : FVec Ideal S8x8192x3332 .f32) (a : FVec Ideal S4x64 .f32) (r : Fin 65536) (q : Fin 256) :
    rQ P a (ix2 r q) = P (ix3 ⟨r.val / 8192, by omega⟩ ⟨r.val % 8192, by omega⟩ ⟨q.val, by omega⟩)
      * Ideal.rsqrt (Ideal.div (∑ k : Fin 64, P (ix3 ⟨r.val / 8192, by omega⟩ ⟨r.val % 8192, by omega⟩ ⟨q.val / 64 * 64 + k.val, by omega⟩) * P (ix3 ⟨r.val / 8192, by omega⟩ ⟨r.val % 8192, by omega⟩ ⟨q.val / 64 * 64 + k.val, by omega⟩)) (Ideal.ofBits .f32 0x42800000#32) + Ideal.ofBits .f32 0x358637BD#32)
      * a (ix2 3 ⟨q.val % 64, by omega⟩) * Ideal.ofBits .f32 0x3E38AA3B#32 := by
  pointwise [rQ, rN]

/-- The keys, at an index. -/
theorem rK_apply (P : FVec Ideal S8x8192x3332 .f32) (a : FVec Ideal S4x64 .f32) (r : Fin 65536) (q : Fin 256) :
    rK P a (ix2 r q) = P (ix3 ⟨r.val / 8192, by omega⟩ ⟨r.val % 8192, by omega⟩ ⟨256 + q.val, by omega⟩)
      * Ideal.rsqrt (Ideal.div (∑ k : Fin 64, P (ix3 ⟨r.val / 8192, by omega⟩ ⟨r.val % 8192, by omega⟩ ⟨256 + (q.val / 64 * 64 + k.val), by omega⟩) * P (ix3 ⟨r.val / 8192, by omega⟩ ⟨r.val % 8192, by omega⟩ ⟨256 + (q.val / 64 * 64 + k.val), by omega⟩)) (Ideal.ofBits .f32 0x42800000#32) + Ideal.ofBits .f32 0x358637BD#32)
      * a (ix2 3 ⟨q.val % 64, by omega⟩) := by
  pointwise [rK, rN]

/-- The banded heads' values in tiles, at an index. -/
theorem rVa_apply (P : FVec Ideal S8x8192x3332 .f32) (b : Fin 8) (h : Fin 4) (j : Fin 32) (r : Fin 80) (s : Fin 256) :
    rVa P (ix5 b h j r s) = if hr : r.val < 64 then P (ix3 b ⟨j.val * 256 + s.val, by omega⟩ ⟨512 + (h.val * 64 + r.val), by omega⟩) else if r.val = 64 then 1 else 0 := by
  pointwise [rVa]
  by_cases hr : r.val < 64
  · simp only [hr, dif_pos]
  · rw [dif_neg hr, dif_neg hr]
    split_ifs <;> first | rfl | omega

/-- The full heads' values in tiles, at an index. -/
theorem rVb_apply (P : FVec Ideal S8x8192x3332 .f32) (b : Fin 8) (h : Fin 4) (j : Fin 16) (r : Fin 80) (s : Fin 512) :
    rVb P (ix5 b h j r s) = if hr : r.val < 64 then P (ix3 b ⟨j.val * 512 + s.val, by omega⟩ ⟨1280 + (h.val * 64 + r.val), by omega⟩) else if r.val = 64 then 1 else 0 := by
  pointwise [rVb]
  by_cases hr : r.val < 64
  · simp only [hr, dif_pos]
    exact congrArg (fun i => P (ix3 b _ i)) (Fin.ext (by simp only; omega))
  · rw [dif_neg hr, dif_neg hr]
    split_ifs <;> first | rfl | omega

/-- The recurrent heads' columns, at an index. -/
theorem rC_apply (P : FVec Ideal S8x8192x3332 .f32) (r : Fin 65536) (q : Fin 1920) :
    rC P (ix2 r q) = if h1 : q.val < 1600 then P (ix3 ⟨r.val / 8192, by omega⟩ ⟨r.val % 8192, by omega⟩ ⟨1540 + q.val, by omega⟩)
      else if h2 : 1664 ≤ q.val ∧ q.val < 1728 then P (ix3 ⟨r.val / 8192, by omega⟩ ⟨r.val % 8192, by omega⟩ ⟨1540 + 1600 + (q.val - 1664), by omega⟩)
      else if h3 : 1792 ≤ q.val then P (ix3 ⟨r.val / 8192, by omega⟩ ⟨r.val % 8192, by omega⟩ ⟨1540 + 1664 + (q.val - 1792), by omega⟩)
      else 0 := by
  pointwise [rC]
  have key : ∀ i j : Fin 3332, i.val = j.val → P (ix3 ⟨r.val / 8192, by omega⟩ ⟨r.val % 8192, by omega⟩ i) = P (ix3 ⟨r.val / 8192, by omega⟩ ⟨r.val % 8192, by omega⟩ j) := fun i j h => by rw [Fin.ext h]
  repeat' split
  all_goals first | rfl | omega | (apply key; show (_ : ℕ) + _ = _ + _; omega)

end Cert.Proof.InProjRef

end
-- ==== Proof.InProjFinal.lean ====
/- The input-projection kernel against its reference, over the extended reals. -/
module

public import proofs.«01_k».proof.Proof.InProjBlocks
public import proofs.«01_k».proof.Proof.InProjRef
public import proofs.«01_k».proof.Proof.Gen.Kernel3Ideal.Value
public import proofs.«01_k».proof.Proof.FoxMath
public import Idealize.ShloMosaic.Lib.Claim
public import proofs.«01_k».proof.Defs

@[expose] public section

set_option maxRecDepth 16384

noncomputable section

namespace Cert.Proof.InProj
open Cert.Kernel3Ideal Cert.Kernel3Ideal.Gen
open Idealize.ShloMosaic Idealize.ShloMosaic.TcCoe Idealize.ShloMosaic.Tactic
open Idealize.SL Idealize.SL.Sem
open Idealize.ShloMosaic.Pipeline (Dat)

open Cert.Kernel3Ideal.Value
variable (m : (ℓ : Loc nD τ sig) → Buf (Elt Ideal) ℓ) (c : Dev nD) (t : Fin cfg0.N)

/-- The word for 64. -/
theorem w64 : Ideal.ofBits .f32 0x42800000#32 = ((64 : ℝ) : EReal) := by
  simp [Ideal.ofBits, Ideal.ieee, -EReal.coe_mul]
  norm_num

/-- The word for a sixty-fourth. -/
theorem w64i : Ideal.ofBits .f32 0x3C800000#32 = ((1 / 64 : ℝ) : EReal) := by
  simp [Ideal.ofBits, Ideal.ieee, -EReal.coe_mul]
  norm_num

/-- A division by 64 is a product with a sixty-fourth. -/
theorem div64 (x : EReal) : Ideal.div x (Ideal.ofBits .f32 0x42800000#32) = x * Ideal.ofBits .f32 0x3C800000#32 := by
  rw [w64, w64i, FoxMath.div_eq (EReal.coe_pos.2 (by norm_num)), ← EReal.coe_inv]
  norm_num

/-- A sum of all columns with the ones of a head's columns is the sum of the head's columns. -/
theorem sum_head (f : Fin 256 → EReal) (q : Fin 256) :
    ∑ k : Fin 256, f k * (if k.val / 64 = q.val / 64 then (1 : EReal) else 0) = ∑ k : Fin 64, f ⟨q.val / 64 * 64 + k.val, by omega⟩ := by
  have hq := q.isLt
  rw [Finset.sum_congr rfl (g := fun k => if k.val / 64 = q.val / 64 then f k else 0) (fun k _ => by split <;> simp), ← Finset.sum_filter]
  refine Finset.sum_nbij' (fun k => ⟨k.val % 64, by omega⟩) (fun k => ⟨q.val / 64 * 64 + k.val, by omega⟩) ?_ ?_ ?_ ?_ ?_
  · intro k _; exact Finset.mem_univ _
  · intro k _
    refine Finset.mem_filter.2 ⟨Finset.mem_univ _, ?_⟩
    show (q.val / 64 * 64 + k.val) / 64 = q.val / 64
    omega
  · intro k hk
    have h := (Finset.mem_filter.1 hk).2
    refine Fin.ext ?_
    show q.val / 64 * 64 + k.val % 64 = k.val
    omega
  · intro k _
    refine Fin.ext ?_
    show (q.val / 64 * 64 + k.val) % 64 = k.val
    omega
  · intro k hk
    have h := (Finset.mem_filter.1 hk).2
    refine congrArg f (Fin.ext ?_)
    show k.val = q.val / 64 * 64 + k.val % 64
    omega

/-- The reference's normalized rows of the kernel's arguments. -/
def KH : FVec Ideal Reference3Ideal.S8x8192x1024 .f32 := InProjRef.rH (aX m c) (aG m c)

/-- The reference's projection of the kernel's arguments. -/
def KP : FVec Ideal Reference3Ideal.S8x8192x3332 .f32 := InProjRef.rP (KH m c) (aW m c)

/-- A point's normalized rows are the reference's. -/
theorem h_pt (p : Fin 512) (q : Fin 1024) : hS m c t (ix2 p q) = KH m c (ix3 (bOf t) (tOf t p) q) := by
  unfold hS KH
  rw [pay4_apply, InProjRef.rH_apply]
  simp only [blk0, blk1]

/-- A point's query columns are the reference's. -/
theorem zq_pt (p : Fin 512) (q : Fin 256) : zS m c t (ix2 p ⟨q.val, by omega⟩) = KP m c (ix3 (bOf t) (tOf t p) ⟨q.val, by omega⟩) := by
  unfold zS KP
  rw [pay5_apply, InProjRef.rP_apply]
  exact Finset.sum_congr rfl fun k _ => congrArg₂ (· * ·) (h_pt m c t p k) (blk2q m c t k q)

/-- A point's key columns are the reference's. -/
theorem zk_pt (p : Fin 512) (q : Fin 256) : zS m c t (ix2 p ⟨256 + q.val, by omega⟩) = KP m c (ix3 (bOf t) (tOf t p) ⟨256 + q.val, by omega⟩) := by
  unfold zS KP
  rw [pay5_apply, InProjRef.rP_apply]
  exact Finset.sum_congr rfl fun k _ => congrArg₂ (· * ·) (h_pt m c t p k) (blk2k m c t k q)

/-- The sum of squares at a query column is that of the column's head. -/
theorem sq_pt (p : Fin 512) (q : Fin 256) : ssS m c t (ix2 p ⟨q.val, by omega⟩)
    = ∑ k : Fin 64, KP m c (ix3 (bOf t) (tOf t p) ⟨q.val / 64 * 64 + k.val, by omega⟩) * KP m c (ix3 (bOf t) (tOf t p) ⟨q.val / 64 * 64 + k.val, by omega⟩) := by
  unfold ssS
  rw [pay6_apply0]
  refine Eq.trans (Finset.sum_congr rfl fun k _ => congrArg₂ (· * ·) (congrArg₂ (· * ·) (zq_pt m c t p k) (zq_pt m c t p k)) (blk7 m c t k q)) ?_
  exact sum_head (fun k => KP m c (ix3 (bOf t) (tOf t p) ⟨k.val, by omega⟩) * KP m c (ix3 (bOf t) (tOf t p) ⟨k.val, by omega⟩)) q

/-- The sum of squares at a key column is that of the column's head. -/
theorem sk_pt (p : Fin 512) (q : Fin 256) : ssS m c t (ix2 p ⟨256 + q.val, by omega⟩)
    = ∑ k : Fin 64, KP m c (ix3 (bOf t) (tOf t p) ⟨256 + (q.val / 64 * 64 + k.val), by omega⟩) * KP m c (ix3 (bOf t) (tOf t p) ⟨256 + (q.val / 64 * 64 + k.val), by omega⟩) := by
  unfold ssS
  rw [pay6_apply1]
  refine Eq.trans (Finset.sum_congr rfl fun k _ => congrArg₂ (· * ·) (congrArg₂ (· * ·) (zk_pt m c t p k) (zk_pt m c t p k)) (blk7 m c t k q)) ?_
  exact sum_head (fun k => KP m c (ix3 (bOf t) (tOf t p) ⟨256 + k.val, by omega⟩) * KP m c (ix3 (bOf t) (tOf t p) ⟨256 + k.val, by omega⟩)) q

/-- A row of the array the rows of the points make up. -/
theorem row_b (r : Fin 65536) (h : r.val / 512 < cfg0.N) : bOf (⟨r.val / 512, h⟩ : Fin cfg0.N) = ⟨r.val / 8192, by omega⟩ :=
  Fin.ext (by show r.val / 512 / 16 = r.val / 8192; omega)

theorem row_t (r : Fin 65536) (h : r.val / 512 < cfg0.N) : tOf (⟨r.val / 512, h⟩ : Fin cfg0.N) ⟨r.val % 512, by omega⟩ = ⟨r.val % 8192, by omega⟩ :=
  Fin.ext (by show 512 * (r.val / 512 % 16) + r.val % 512 = r.val % 8192; omega)

theorem row_lt (r : Fin 65536) : r.val / 512 < cfg0.N := by
  have hN : cfg0.N = 128 := N_0
  have := r.isLt
  omega

/-- The queries a point leaves are the reference's rows. -/
theorem q_pt (r : Fin 65536) (q : Fin 256) : (outsAt0 m c (r.val / 512) (row_lt r)).1 (ix2 ⟨r.val % 512, by omega⟩ q) = InProjRef.rQ (KP m c) (aQ m c) (ix2 r q) := by
  refine (congrFun (qa_at m c ⟨r.val / 512, row_lt r⟩) _).trans ?_
  rw [pay8_apply, InProjRef.rQ_apply, div64, zq_pt, sq_pt, blk3q, row_b, row_t, mul_assoc (_ * _) (aQ m c _)]
  rfl

/-- The keys a point leaves are the reference's rows. -/
theorem k_pt (r : Fin 65536) (q : Fin 256) : (outsAt0 m c (r.val / 512) (row_lt r)).2.1 (ix2 ⟨r.val % 512, by omega⟩ q) = InProjRef.rK (KP m c) (aK m c) (ix2 r q) := by
  refine (congrFun (ka_at m c ⟨r.val / 512, row_lt r⟩) _).trans ?_
  rw [pay9_apply, InProjRef.rK_apply, div64, zk_pt, sk_pt, blk3k, row_b, row_t]
  rfl

/-- The recurrent heads' columns a point leaves are the reference's rows. -/
theorem c_pt (r : Fin 65536) (q : Fin 1920) : (outsAt0 m c (r.val / 512) (row_lt r)).2.2.2.2.2.2.1 (ix2 ⟨r.val % 512, by omega⟩ q) = InProjRef.rC (KP m c) (ix2 r q) := by
  refine (congrFun (pc_at m c ⟨r.val / 512, row_lt r⟩) _).trans ?_
  rw [pay41_apply, InProjRef.rC_apply]
  have e : ∀ k, hS m c ⟨r.val / 512, row_lt r⟩ (ix2 ⟨r.val % 512, by omega⟩ k) = KH m c (ix3 ⟨r.val / 8192, by omega⟩ ⟨r.val % 8192, by omega⟩ k) := fun k => by
    rw [h_pt, row_b, row_t]
  simp only [e, blk6]
  unfold KP
  by_cases h1 : q.val < 1600
  · simp only [h1, dif_pos, InProjRef.rP_apply]
  · by_cases h2 : 1664 ≤ q.val ∧ q.val < 1728
    · simp only [dif_neg h1, dif_pos h2, InProjRef.rP_apply]
    · by_cases h3 : 1792 ≤ q.val
      · simp only [dif_neg h1, dif_neg h2, dif_pos h3, InProjRef.rP_apply]
      · simp only [dif_neg h1, dif_neg h2, dif_neg h3, mul_zero, Finset.sum_const_zero]

/-- A point's values of the banded heads are the reference's. -/
theorem va_pt (p : Fin 256) (q : Fin 512) : vtS m c t (ix2 ⟨p.val, by omega⟩ q) = KP m c (ix3 (bOf t) (tOf t q) ⟨512 + p.val, by omega⟩) := by
  unfold vtS KP
  rw [pay10_apply, InProjRef.rP_apply]
  exact Finset.sum_congr rfl fun k _ => (congrArg₂ (fun x y : EReal => x * y) (blk4a m c t p k) (h_pt m c t q k)).trans (show (_ : EReal) * (_ : EReal) = _ from mul_comm _ _)

/-- A point's values of the full heads are the reference's. -/
theorem vb_pt (p : Fin 256) (q : Fin 512) : vtS m c t (ix2 ⟨256 + p.val, by omega⟩ q) = KP m c (ix3 (bOf t) (tOf t q) ⟨1280 + p.val, by omega⟩) := by
  unfold vtS KP
  rw [pay10_apply, InProjRef.rP_apply]
  exact Finset.sum_congr rfl fun k _ => (congrArg₂ (fun x y : EReal => x * y) (blk4b m c t p k) (h_pt m c t q k)).trans (show (_ : EReal) * (_ : EReal) = _ from mul_comm _ _)

/-- The tiles of the banded heads' values a point leaves are the reference's. -/
theorem tileA_pt (b : Fin 8) (a : Fin 4) (j : Fin 32) (r : Fin 80) (s : Fin 256) (n : ℕ) (h : n < cfg0.N) (hn : n = 16 * b.val + j.val / 2) :
    (outsAt0 m c n h).2.2.1 (ix5 0 a ⟨j.val % 2, by omega⟩ r s) = InProjRef.rVa (KP m c) (ix5 b a j r s) := by
  refine (congrFun (vat_at m c ⟨n, h⟩) _).trans ?_
  rw [vatL_apply, InProjRef.rVa_apply]
  unfold tileA
  by_cases hr : r.val < 64
  · rw [dif_pos hr, dif_pos hr]
    refine (va_pt m c ⟨n, h⟩ ⟨64 * a.val + r.val, by omega⟩ _).trans ?_
    refine congrArg (KP m c) ?_
    congr 1
    · exact Fin.ext (by show n / 16 = b.val; omega)
    · exact Fin.ext (by show 512 * (n % 16) + (256 * (j.val % 2) + s.val) = j.val * 256 + s.val; omega)
    · exact Fin.ext (by show 512 + (64 * a.val + r.val) = 512 + (a.val * 64 + r.val); omega)
  · rw [dif_neg hr, dif_neg hr]

/-- The tiles of the full heads' values a point leaves are the reference's. -/
theorem tileB_pt (b : Fin 8) (a : Fin 4) (j : Fin 16) (r : Fin 80) (s : Fin 512) (n : ℕ) (h : n < cfg0.N) (hn : n = 16 * b.val + j.val) :
    (outsAt0 m c n h).2.2.2.2.2.1 (ix5 0 a 0 r s) = InProjRef.rVb (KP m c) (ix5 b a j r s) := by
  refine (congrFun (vbt_at m c ⟨n, h⟩) _).trans ?_
  rw [vbtL_apply, InProjRef.rVb_apply]
  unfold tileB
  by_cases hr : r.val < 64
  · rw [dif_pos hr, dif_pos hr]
    refine Eq.trans (congrArg (fun x => vtS m c ⟨n, h⟩ (ix2 x s)) (Fin.ext (show 256 + 64 * a.val + r.val = 256 + (64 * a.val + r.val) by omega))) ((vb_pt m c ⟨n, h⟩ ⟨64 * a.val + r.val, by omega⟩ _).trans ?_)
    refine congrArg (KP m c) ?_
    congr 1
    · exact Fin.ext (by show n / 16 = b.val; omega)
    · exact Fin.ext (by show 512 * (n % 16) + s.val = j.val * 512 + s.val; omega)
    · exact Fin.ext (by show 1280 + (64 * a.val + r.val) = 1280 + (a.val * 64 + r.val); omega)
  · rw [dif_neg hr, dif_neg hr]

/-- The queries that the kernel's run leaves are the reference's. -/
theorem final_q : (G9 m c : FVec Ideal S65536x256 .bf16) = InProjRef.rQ (KP m c) (aQ m c) := by
  funext i
  idx_vars i
  have hr := i0.isLt
  have hq := i1.isLt
  have e : pt9Of (ix2 i0 i1) = i0.val / 512 := by
    show 1 * (i0.val / 512 - 0) + 1 * (i1.val / 256 - 0) = i0.val / 512
    omega
  have hl : loc9Of (ix2 i0 i1) = ix2 ⟨i0.val % 512, by omega⟩ i1 := by
    funext a
    apply Fin.ext
    match a with
    | ⟨0, _⟩ => rfl
    | ⟨1, _⟩ => exact Nat.mod_eq_of_lt hq
  have key : ∀ (n : ℕ) (h : n < cfg0.N), n = i0.val / 512 → (outsAt0 m c n h).1 (loc9Of (ix2 i0 i1)) = InProjRef.rQ (KP m c) (aQ m c) (ix2 i0 i1) := by
    rintro n h rfl
    rw [hl]
    exact q_pt m c i0 i1
  unfold G9
  rw [dif_pos (by rw [e]; exact row_lt i0), ← outsAt0_sweep m c _ (by rw [e]; exact row_lt i0)]
  exact key _ _ e

/-- The keys that the kernel's run leaves are the reference's. -/
theorem final_k : (G10 m c : FVec Ideal S65536x256 .bf16) = InProjRef.rK (KP m c) (aK m c) := by
  funext i
  idx_vars i
  have hr := i0.isLt
  have hq := i1.isLt
  have e : pt10Of (ix2 i0 i1) = i0.val / 512 := by
    show 1 * (i0.val / 512 - 0) + 1 * (i1.val / 256 - 0) = i0.val / 512
    omega
  have hl : loc10Of (ix2 i0 i1) = ix2 ⟨i0.val % 512, by omega⟩ i1 := by
    funext a
    apply Fin.ext
    match a with
    | ⟨0, _⟩ => rfl
    | ⟨1, _⟩ => exact Nat.mod_eq_of_lt hq
  have key : ∀ (n : ℕ) (h : n < cfg0.N), n = i0.val / 512 → (outsAt0 m c n h).2.1 (loc10Of (ix2 i0 i1)) = InProjRef.rK (KP m c) (aK m c) (ix2 i0 i1) := by
    rintro n h rfl
    rw [hl]
    exact k_pt m c i0 i1
  unfold G10
  rw [dif_pos (by rw [e]; exact row_lt i0), ← outsAt0_sweep m c _ (by rw [e]; exact row_lt i0)]
  exact key _ _ e

/-- The recurrent heads' columns that the kernel's run leaves are the reference's. -/
theorem final_c : (G15 m c : FVec Ideal S65536x1920 .f32) = InProjRef.rC (KP m c) := by
  funext i
  idx_vars i
  have hr := i0.isLt
  have hq := i1.isLt
  have e : pt15Of (ix2 i0 i1) = i0.val / 512 := by
    show 1 * (i0.val / 512 - 0) + 1 * (i1.val / 1920 - 0) = i0.val / 512
    omega
  have hl : loc15Of (ix2 i0 i1) = ix2 ⟨i0.val % 512, by omega⟩ i1 := by
    funext a
    apply Fin.ext
    match a with
    | ⟨0, _⟩ => rfl
    | ⟨1, _⟩ => exact Nat.mod_eq_of_lt hq
  have key : ∀ (n : ℕ) (h : n < cfg0.N), n = i0.val / 512 → (outsAt0 m c n h).2.2.2.2.2.2.1 (loc15Of (ix2 i0 i1)) = InProjRef.rC (KP m c) (ix2 i0 i1) := by
    rintro n h rfl
    rw [hl]
    exact c_pt m c i0 i1
  unfold G15
  rw [dif_pos (by rw [e]; exact row_lt i0), ← outsAt0_sweep m c _ (by rw [e]; exact row_lt i0)]
  exact key _ _ e

/-- The banded heads' values that the kernel's run leaves are the reference's. -/
theorem final_va : (G11 m c : FVec Ideal S8x4x32x80x256 .bf16) = InProjRef.rVa (KP m c) := by
  funext i
  idx_vars i
  have h0 := i0.isLt
  have h1 := i1.isLt
  have h2 := i2.isLt
  have h3 := i3.isLt
  have h4 := i4.isLt
  have hN : cfg0.N = 128 := N_0
  have e : pt11Of (ix5 i0 i1 i2 i3 i4) = 16 * i0.val + i2.val / 2 := by
    show 16 * (i0.val / 1 - 0) + 16 * (i1.val / 4 - 0) + 1 * (i2.val / 2 - 0) + 1 * (i3.val / 80 - 0) + 1 * (i4.val / 256 - 0) = 16 * i0.val + i2.val / 2
    omega
  have hl : loc11Of (ix5 i0 i1 i2 i3 i4) = ix5 0 i1 ⟨i2.val % 2, by omega⟩ i3 i4 := by
    funext a
    apply Fin.ext
    match a with
    | ⟨0, _⟩ => exact Nat.mod_one _
    | ⟨1, _⟩ => exact Nat.mod_eq_of_lt h1
    | ⟨2, _⟩ => exact rfl
    | ⟨3, _⟩ => exact Nat.mod_eq_of_lt h3
    | ⟨4, _⟩ => exact Nat.mod_eq_of_lt h4
  have key : ∀ (n : ℕ) (h : n < cfg0.N), n = 16 * i0.val + i2.val / 2 → (outsAt0 m c n h).2.2.1 (loc11Of (ix5 i0 i1 i2 i3 i4)) = InProjRef.rVa (KP m c) (ix5 i0 i1 i2 i3 i4) := by
    intro n h hn
    rw [hl]
    exact tileA_pt m c i0 i1 i2 i3 i4 n h hn
  unfold G11
  rw [dif_pos (by rw [e]; omega), ← outsAt0_sweep m c _ (by rw [e]; omega)]
  exact key _ _ e

/-- The full heads' values that the kernel's run leaves are the reference's. -/
theorem final_vb : (G14 m c : FVec Ideal S8x4x16x80x512 .bf16) = InProjRef.rVb (KP m c) := by
  funext i
  idx_vars i
  have h0 := i0.isLt
  have h1 := i1.isLt
  have h2 := i2.isLt
  have h3 := i3.isLt
  have h4 := i4.isLt
  have hN : cfg0.N = 128 := N_0
  have e : pt14Of (ix5 i0 i1 i2 i3 i4) = 16 * i0.val + i2.val := by
    show 16 * (i0.val / 1 - 0) + 16 * (i1.val / 4 - 0) + 1 * (i2.val / 1 - 0) + 1 * (i3.val / 80 - 0) + 1 * (i4.val / 512 - 0) = 16 * i0.val + i2.val
    omega
  have hl : loc14Of (ix5 i0 i1 i2 i3 i4) = ix5 0 i1 0 i3 i4 := by
    funext a
    apply Fin.ext
    match a with
    | ⟨0, _⟩ => exact Nat.mod_one _
    | ⟨1, _⟩ => exact Nat.mod_eq_of_lt h1
    | ⟨2, _⟩ => exact Nat.mod_one _
    | ⟨3, _⟩ => exact Nat.mod_eq_of_lt h3
    | ⟨4, _⟩ => exact Nat.mod_eq_of_lt h4
  have key : ∀ (n : ℕ) (h : n < cfg0.N), n = 16 * i0.val + i2.val → (outsAt0 m c n h).2.2.2.2.2.1 (loc14Of (ix5 i0 i1 i2 i3 i4)) = InProjRef.rVb (KP m c) (ix5 i0 i1 i2 i3 i4) := by
    intro n h hn
    rw [hl]
    exact tileB_pt m c i0 i1 i2 i3 i4 n h hn
  unfold G14
  rw [dif_pos (by rw [e]; omega), ← outsAt0_sweep m c _ (by rw [e]; omega)]
  exact key _ _ e

/-- The kernel's results equal the reference's, over the extended reals, on every memory. -/
theorem algebraic : Cert.algebraic_Kernel3Ideal_Reference3Ideal := by
  intro m g m' g' hpre hargs
  refine ⟨fun c => G9 m c, fun c => G10 m c, fun c => G11 m c, fun c => G14 m c, fun c => G15 m c, ?_, ?_⟩
  · refine (θ_run defs _ _).mono (fun r h c => ?_) (run m g)
    obtain ⟨r0, r1, r2, r3, r4, r5, r6, hrest⟩ := h c
    exact ⟨r0, r1, r2, r5, r6, hrest⟩
  · refine (θ_run Reference3Ideal.defs _ _).mono (fun r h c => ?_) (InProjRef.run_stages m' g')
    obtain ⟨⟨r0, r1, r2, r3, r4⟩, hrest⟩ := h c
    obtain ⟨h0, h1, h2, h3, h4, -⟩ := hargs c
    have eP : InProjRef.projOf m' c = KP m c := by
      unfold InProjRef.projOf KP KH
      rw [h0, h1, h2]
    rw [eP] at r0 r1 r2 r3 r4
    rw [h3] at r0
    rw [h4] at r1
    exact ⟨r0.trans (final_q m c).symm, r1.trans (final_k m c).symm, r2.trans (final_va m c).symm, r3.trans (final_vb m c).symm, r4.trans (final_c m c).symm, hrest⟩

end Cert.Proof.InProj

end
-- ==== Proof.lean ====
/- The proof of the certificate's claim: the frames of the kernels' modules, the references' frames off their runs, the
   mask's named constant, and the equality of each kernel's results with its reference's over the extended reals
   (Proof/FoxFinal.lean for the forgetting attention, Proof/OutFfnFinal.lean for the output and feed-forward call,
   Proof/InProjFinal.lean for the input projection). -/
module

public import proofs.«01_k».proof.Defs
public import proofs.«01_k».proof.Proof.FoxBitsFrame
public import proofs.«01_k».proof.Proof.FoxFinal
public import proofs.«01_k».proof.Proof.Gen.Kernel2
public import proofs.«01_k».proof.Proof.Gen.Kernel2.Frame
public import proofs.«01_k».proof.Proof.OutFfnFinal
public import proofs.«01_k».proof.Proof.Gen.Kernel3
public import proofs.«01_k».proof.Proof.Gen.Kernel3.Frame
public import proofs.«01_k».proof.Proof.InProjFinal
public import proofs.«01_k».proof.Proof.Gen.Reference3Ideal.Run
public import Idealize.ShloMosaic.Lib.Quiescent

@[expose] public section

noncomputable section

namespace Cert.Proof

open Idealize.ShloMosaic Idealize.SL Idealize.SL.Sem

/-- The reference of the forgetting attention runs, leaves its arguments and has no counter to leave. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference of the output and feed-forward call runs, leaves its arguments and has no counter to leave. -/
theorem frame_r2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The reference of the input projection runs, leaves its arguments and has no counter to leave. -/
theorem frame_r3 : Cert.quiescent_Reference3Ideal := fun m g _ =>
  (θ_run Cert.Reference3Ideal.defs _ _).mono (fun r h => ⟨fun c => (h c).2.2.2.2.2, sem_eq_zero_of_no_sems (by decide) r.2⟩)
    (Cert.Reference3Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_and_ones_row.Gen.facts,
  fun m g _ => Kernel.frame m g, fun m g _ => KernelIdeal.frame m g, fun m g _ => KernelIdeal.frame m g,
  frame_r, fun m g _ => frame_r m g trivial,
  fun m g _ => Cert.Kernel2.Gen.frame m g, fun m g _ => Cert.Kernel2Ideal.Gen.frame m g, frame_r2,
  fun m g _ => Cert.Kernel3.Gen.frame m g, fun m g _ => Cert.Kernel3Ideal.Gen.frame m g, frame_r3,
  IdealRules.named_const.statement Cert.KernelIdeal.κ "mask" .f32 0xF149F2CA#32 ⊥ rfl, KernelIdeal.algebraic, trivial, OutFfn.algebraic,
  trivial, InProj.algebraic⟩

end Cert.Proof

end
